-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Pv (m : (ℓ : Loc Cert.Pv.nD Cert.Pv.τ Cert.Pv.sig) → Buf (Elt Bits) ℓ) : Prop :=
  True

def Pre_PvIdeal (m : (ℓ : Loc Cert.PvIdeal.nD Cert.PvIdeal.τ Cert.PvIdeal.sig) → Buf (Elt Ideal) ℓ) : Prop :=
  True

def Pre_PvRefIdeal (m : (ℓ : Loc Cert.PvRefIdeal.nD Cert.PvRefIdeal.τ Cert.PvRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Pv [hPv : Cert.Pv.Facts] : Prop :=
  ∀ (m : (ℓ : Loc Cert.Pv.nD Cert.Pv.τ Cert.Pv.sig) → Buf (Elt Bits) ℓ) (g : Dev Cert.Pv.nD → PrngReg), Pre_Pv m →
    θ_run (Cert.Pv.defs (F := Bits)) (onTc (τ := Cert.Pv.τ) (Cert.Pv.main (F := Bits))) ⟨m, fun _ => 0, g⟩ (fun r => (∀ c : Dev Cert.Pv.nD,
      r.2.mem ((c.tc : Thread Cert.Pv.nD Cert.Pv.τ).loc Cert.Pv.main_arg0) = m ((c.tc : Thread Cert.Pv.nD Cert.Pv.τ).loc Cert.Pv.main_arg0)
      ∧ r.2.mem ((c.tc : Thread Cert.Pv.nD Cert.Pv.τ).loc Cert.Pv.main_arg1) = m ((c.tc : Thread Cert.Pv.nD Cert.Pv.τ).loc Cert.Pv.main_arg1))
      ∧ r.2.sem = fun _ => 0)

def quiescent_PvIdeal [hPvIdeal : Cert.PvIdeal.Facts] : Prop :=
  ∀ (m : (ℓ : Loc Cert.PvIdeal.nD Cert.PvIdeal.τ Cert.PvIdeal.sig) → Buf (Elt Ideal) ℓ) (g : Dev Cert.PvIdeal.nD → PrngReg), Pre_PvIdeal m →
    θ_run (Cert.PvIdeal.defs (F := Ideal)) (onTc (τ := Cert.PvIdeal.τ) (Cert.PvIdeal.main (F := Ideal))) ⟨m, fun _ => 0, g⟩ (fun r => (∀ c : Dev Cert.PvIdeal.nD,
      r.2.mem ((c.tc : Thread Cert.PvIdeal.nD Cert.PvIdeal.τ).loc Cert.PvIdeal.main_arg0) = m ((c.tc : Thread Cert.PvIdeal.nD Cert.PvIdeal.τ).loc Cert.PvIdeal.main_arg0)
      ∧ r.2.mem ((c.tc : Thread Cert.PvIdeal.nD Cert.PvIdeal.τ).loc Cert.PvIdeal.main_arg1) = m ((c.tc : Thread Cert.PvIdeal.nD Cert.PvIdeal.τ).loc Cert.PvIdeal.main_arg1))
      ∧ r.2.sem = fun _ => 0)

def quiescent_PvRefIdeal [hPvRefIdeal : Cert.PvRefIdeal.Facts] : Prop :=
  ∀ (m : (ℓ : Loc Cert.PvRefIdeal.nD Cert.PvRefIdeal.τ Cert.PvRefIdeal.sig) → Buf (Elt Ideal) ℓ) (g : Dev Cert.PvRefIdeal.nD → PrngReg), Pre_PvRefIdeal m →
    θ_run (Cert.PvRefIdeal.defs (F := Ideal)) (onTc (τ := Cert.PvRefIdeal.τ) (Cert.PvRefIdeal.main (F := Ideal))) ⟨m, fun _ => 0, g⟩ (fun r => (∀ c : Dev Cert.PvRefIdeal.nD,
      r.2.mem ((c.tc : Thread Cert.PvRefIdeal.nD Cert.PvRefIdeal.τ).loc Cert.PvRefIdeal.main_arg0) = m ((c.tc : Thread Cert.PvRefIdeal.nD Cert.PvRefIdeal.τ).loc Cert.PvRefIdeal.main_arg0)
      ∧ r.2.mem ((c.tc : Thread Cert.PvRefIdeal.nD Cert.PvRefIdeal.τ).loc Cert.PvRefIdeal.main_arg1) = m ((c.tc : Thread Cert.PvRefIdeal.nD Cert.PvRefIdeal.τ).loc Cert.PvRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Pv_PvIdeal : Prop :=
  True

def algebraic_PvIdeal_PvRefIdeal [hPvIdeal : Cert.PvIdeal.Facts] [hPvRefIdeal : Cert.PvRefIdeal.Facts] : Prop :=
  ∀ (m : (ℓ : Loc Cert.PvIdeal.nD Cert.PvIdeal.τ Cert.PvIdeal.sig) → Buf (Elt Ideal) ℓ) (g : Dev Cert.PvIdeal.nD → PrngReg)
    (m' : (ℓ : Loc Cert.PvRefIdeal.nD Cert.PvRefIdeal.τ Cert.PvRefIdeal.sig) → Buf (Elt Ideal) ℓ) (g' : Dev Cert.PvRefIdeal.nD → PrngReg), Pre_PvIdeal m →
    (∀ c : Dev Cert.PvIdeal.nD,
      m' ((c.tc : Thread Cert.PvRefIdeal.nD Cert.PvRefIdeal.τ).loc Cert.PvRefIdeal.main_arg0) = m ((c.tc : Thread Cert.PvIdeal.nD Cert.PvIdeal.τ).loc Cert.PvIdeal.main_arg0)
      ∧ m' ((c.tc : Thread Cert.PvRefIdeal.nD Cert.PvRefIdeal.τ).loc Cert.PvRefIdeal.main_arg1) = m ((c.tc : Thread Cert.PvIdeal.nD Cert.PvIdeal.τ).loc Cert.PvIdeal.main_arg1)) →
    ∃ (v0 : (c : Dev Cert.PvIdeal.nD) → Buf (Elt Ideal) ((c.tc : Thread Cert.PvIdeal.nD Cert.PvIdeal.τ).loc Cert.PvIdeal.main_v17)),
      θ_run (Cert.PvIdeal.defs (F := Ideal)) (onTc (τ := Cert.PvIdeal.τ) (Cert.PvIdeal.main (F := Ideal))) ⟨m, fun _ => 0, g⟩ (fun r => ∀ c : Dev Cert.PvIdeal.nD,
          r.2.mem ((c.tc : Thread Cert.PvIdeal.nD Cert.PvIdeal.τ).loc Cert.PvIdeal.main_v17) = v0 c
          ∧ r.2.mem ((c.tc : Thread Cert.PvIdeal.nD Cert.PvIdeal.τ).loc Cert.PvIdeal.main_arg0) = m ((c.tc : Thread Cert.PvIdeal.nD Cert.PvIdeal.τ).loc Cert.PvIdeal.main_arg0)
          ∧ r.2.mem ((c.tc : Thread Cert.PvIdeal.nD Cert.PvIdeal.τ).loc Cert.PvIdeal.main_arg1) = m ((c.tc : Thread Cert.PvIdeal.nD Cert.PvIdeal.τ).loc Cert.PvIdeal.main_arg1))
      ∧ θ_run (Cert.PvRefIdeal.defs (F := Ideal)) (onTc (τ := Cert.PvRefIdeal.τ) (Cert.PvRefIdeal.main (F := Ideal))) ⟨m', fun _ => 0, g'⟩ (fun r => ∀ c : Dev Cert.PvRefIdeal.nD,
          r.2.mem ((c.tc : Thread Cert.PvRefIdeal.nD Cert.PvRefIdeal.τ).loc Cert.PvRefIdeal.main_v15) = v0 c
          ∧ r.2.mem ((c.tc : Thread Cert.PvRefIdeal.nD Cert.PvRefIdeal.τ).loc Cert.PvRefIdeal.main_arg0) = m' ((c.tc : Thread Cert.PvRefIdeal.nD Cert.PvRefIdeal.τ).loc Cert.PvRefIdeal.main_arg0)
          ∧ r.2.mem ((c.tc : Thread Cert.PvRefIdeal.nD Cert.PvRefIdeal.τ).loc Cert.PvRefIdeal.main_arg1) = m' ((c.tc : Thread Cert.PvRefIdeal.nD Cert.PvRefIdeal.τ).loc Cert.PvRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v8) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v7)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v32) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v21) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)) →
    ∃ (v0 : (c : Dev Cert.QkIdeal.nD) → Buf (Elt Ideal) ((c.tc : Thread Cert.QkIdeal.nD Cert.QkIdeal.τ).loc Cert.QkIdeal.main_v44)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v44) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v93) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)) →
    ∃ (v0 : (c : Dev Cert.CtxIdeal.nD) → Buf (Elt Ideal) ((c.tc : Thread Cert.CtxIdeal.nD Cert.CtxIdeal.τ).loc Cert.CtxIdeal.main_v4)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v4) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v6) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1))

def Claim : Prop :=
  ∃ (hKernel : Cert.Kernel.Facts) (hKernelIdeal : Cert.KernelIdeal.Facts) (hReferenceIdeal : Cert.ReferenceIdeal.Facts) (hPv : Cert.Pv.Facts) (hPvIdeal : Cert.PvIdeal.Facts) (hPvRefIdeal : Cert.PvRefIdeal.Facts) (hGates : Cert.Gates.Facts) (hGatesIdeal : Cert.GatesIdeal.Facts) (hGatesRefIdeal : Cert.GatesRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hMod : Cert.Mod.Facts) (hModIdeal : Cert.ModIdeal.Facts) (hModRefIdeal : Cert.ModRefIdeal.Facts) (hQk : Cert.Qk.Facts) (hQkIdeal : Cert.QkIdeal.Facts) (hQkRefIdeal : Cert.QkRefIdeal.Facts) (hCtx : Cert.Ctx.Facts) (hCtxIdeal : Cert.CtxIdeal.Facts) (hCtxRefIdeal : Cert.CtxRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Pv (hPv := hPv)
    ∧ quiescent_PvIdeal (hPvIdeal := hPvIdeal)
    ∧ quiescent_PvRefIdeal (hPvRefIdeal := hPvRefIdeal)
    ∧ quiescent_Gates (hGates := hGates)
    ∧ quiescent_GatesIdeal (hGatesIdeal := hGatesIdeal)
    ∧ quiescent_GatesRefIdeal (hGatesRefIdeal := hGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_Mod (hMod := hMod)
    ∧ quiescent_ModIdeal (hModIdeal := hModIdeal)
    ∧ quiescent_ModRefIdeal (hModRefIdeal := hModRefIdeal)
    ∧ quiescent_Qk (hQk := hQk)
    ∧ quiescent_QkIdeal (hQkIdeal := hQkIdeal)
    ∧ quiescent_QkRefIdeal (hQkRefIdeal := hQkRefIdeal)
    ∧ quiescent_Ctx (hCtx := hCtx)
    ∧ quiescent_CtxIdeal (hCtxIdeal := hCtxIdeal)
    ∧ quiescent_CtxRefIdeal (hCtxRefIdeal := hCtxRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Pv_PvIdeal
    ∧ algebraic_PvIdeal_PvRefIdeal (hPvIdeal := hPvIdeal) (hPvRefIdeal := hPvRefIdeal)
    ∧ preserves_Gates_GatesIdeal
    ∧ algebraic_GatesIdeal_GatesRefIdeal (hGatesIdeal := hGatesIdeal) (hGatesRefIdeal := hGatesRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_Mod_ModIdeal
    ∧ algebraic_ModIdeal_ModRefIdeal (hModIdeal := hModIdeal) (hModRefIdeal := hModRefIdeal)
    ∧ preserves_Qk_QkIdeal
    ∧ algebraic_QkIdeal_QkRefIdeal (hQkIdeal := hQkIdeal) (hQkRefIdeal := hQkRefIdeal)
    ∧ preserves_Ctx_CtxIdeal
    ∧ algebraic_CtxIdeal_CtxRefIdeal (hCtxIdeal := hCtxIdeal) (hCtxRefIdeal := hCtxRefIdeal)
-- ==== Pre_finite_scores.lean ====
abbrev S4x4096x16x128 : Shape := ⟨4, ![4, 4096, 16, 128]⟩
abbrev S4x4096x4x128 : Shape := ⟨4, ![4, 4096, 4, 128]⟩
abbrev S4x4096x6656 : Shape := ⟨3, ![4, 4096, 6656]⟩
abbrev S4x256x4x128 : Shape := ⟨4, ![4, 256, 4, 128]⟩
abbrev S4x256x4608 : Shape := ⟨3, ![4, 256, 4608]⟩
abbrev S1x4096x22016 : Shape := ⟨3, ![1, 4096, 22016]⟩
abbrev S1x11008x4096 : Shape := ⟨3, ![1, 11008, 4096]⟩
abbrev S_ : Shape := ⟨0, ![]⟩

class Facts : Prop where
  bcast_S_S4x4096x16x128 : S_.BroadcastsInDim S4x4096x16x128 (![] : Fin 0 → Fin S4x4096x16x128.rank)
  reducesTo_S4x4096x16x128_S_d0_1_2_3 : S4x4096x16x128.ReducesTo [0, 1, 2, 3] S_
  h_S_ : 0 < S_.numel
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S4x256x4x128 : S_.BroadcastsInDim S4x256x4x128 (![] : Fin 0 → Fin S4x256x4x128.rank)
  reducesTo_S4x256x4x128_S_d0_1_2_3 : S4x256x4x128.ReducesTo [0, 1, 2, 3] S_

variable [Facts]

def fn {F : FTy → Type} [FloatOps F] (main_arg0 : FVec F S4x4096x16x128 .f32) (main_arg1 : FVec F S4x4096x4x128 .f32) (main_arg2 : FVec F S4x4096x6656 .f32) (main_arg3 : FVec F S4x256x4x128 .f32) (main_arg4 : FVec F S4x256x4608 .f32) (main_arg5 : FVec F S1x4096x22016 .f32) (main_arg6 : FVec F S1x11008x4096 .f32) : IVec S_ 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_c : IVec S_ 1 := constantI S_ 1 1#1
  let main_v3 : IVec S_ 1 := (fun x v => Host.reduce IntOp.andi x v reducesTo_S4x4096x16x128_S_d0_1_2_3 h_S_) main_v2 main_c
  let main_v4 : FVec F S4x4096x4x128 .f32 := Host.absf main_arg1
  let main_cst_0 : FVec F S_ .f32 := constant S_ .f32 0x7F800000#32
  let main_v5 : FVec F S4x4096x4x128 .f32 := broadcastInDim S4x4096x4x128 ![] bcast_S_S4x4096x4x128 main_cst_0
  let main_v6 : IVec S4x4096x4x128 1 := cmpf .olt main_v4 main_v5
  let main_c_1 : IVec S_ 1 := constantI S_ 1 1#1
  let main_v7 : IVec S_ 1 := (fun x v => Host.reduce IntOp.andi x v reducesTo_S4x4096x4x128_S_d0_1_2_3 h_S_) main_v6 main_c_1
  let main_v8 : IVec S_ 1 := andi main_v3 main_v7
  let main_v9 : FVec F S4x256x4x128 .f32 := Host.absf main_arg3
  let main_cst_2 : FVec F S_ .f32 := constant S_ .f32 0x7F800000#32
  let main_v10 : FVec F S4x256x4x128 .f32 := broadcastInDim S4x256x4x128 ![] bcast_S_S4x256x4x128 main_cst_2
  let main_v11 : IVec S4x256x4x128 1 := cmpf .olt main_v9 main_v10
  let main_c_3 : IVec S_ 1 := constantI S_ 1 1#1
  let main_v12 : IVec S_ 1 := (fun x v => Host.reduce IntOp.andi x v reducesTo_S4x256x4x128_S_d0_1_2_3 h_S_) main_v11 main_c_3
  let main_v13 : IVec S_ 1 := andi main_v8 main_v12
  main_v13
-- ==== Kernel.lean ====
abbrev S4x4096x16x128 : Shape := ⟨4, ![4, 4096, 16, 128]⟩
abbrev S4x4096x4x128 : Shape := ⟨4, ![4, 4096, 4, 128]⟩
abbrev S4x4096x6656 : Shape := ⟨3, ![4, 4096, 6656]⟩
abbrev S4x256x4x128 : Shape := ⟨4, ![4, 256, 4, 128]⟩
abbrev S4x256x4608 : Shape := ⟨3, ![4, 256, 4608]⟩
abbrev S1x4096x22016 : Shape := ⟨3, ![1, 4096, 22016]⟩
abbrev S1x11008x4096 : Shape := ⟨3, ![1, 11008, 4096]⟩
abbrev S_ : Shape := ⟨0, ![]⟩
abbrev S16384x2048 : Shape := ⟨2, ![16384, 2048]⟩
abbrev S16384x512 : Shape := ⟨2, ![16384, 512]⟩
abbrev S16384x2560 : Shape := ⟨2, ![16384, 2560]⟩
abbrev S16384x6656 : Shape := ⟨2, ![16384, 6656]⟩
abbrev S1024x512 : Shape := ⟨2, ![1024, 512]⟩
abbrev S1024x4608 : Shape := ⟨2, ![1024, 4608]⟩
abbrev S4096x22016 : Shape := ⟨2, ![4096, 22016]⟩
abbrev S11008x4096 : Shape := ⟨2, ![11008, 4096]⟩
abbrev S512x512 : Shape := ⟨2, ![512, 512]⟩
abbrev S4096x128 : Shape := ⟨2, ![4096, 128]⟩
abbrev S256x128 : Shape := ⟨2, ![256, 128]⟩
abbrev S32x22016 : Shape := ⟨2, ![32, 22016]⟩
abbrev S128x4096 : Shape := ⟨2, ![128, 4096]⟩
abbrev S2x256x4352 : Shape := ⟨3, ![2, 256, 4352]⟩
abbrev S256x256 : Shape := ⟨2, ![256, 256]⟩
abbrev S1x256x256 : Shape := ⟨3, ![1, 256, 256]⟩
abbrev S256x4096 : Shape := ⟨2, ![256, 4096]⟩
abbrev S1x256x4096 : Shape := ⟨3, ![1, 256, 4096]⟩
abbrev S1x256x4352 : Shape := ⟨3, ![1, 256, 4352]⟩
abbrev S256x4352 : Shape := ⟨2, ![256, 4352]⟩
abbrev S256 : Shape := ⟨1, ![256]⟩
abbrev S256x1 : Shape := ⟨2, ![256, 1]⟩

abbrev nBuf : Space → Nat
  | .hbm => 31
  | .vmem => 22
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x4x128, .f32⟩
  | .hbm, ⟨2, _⟩ => ⟨S4x4096x6656, .f32⟩
  | .hbm, ⟨3, _⟩ => ⟨S4x256x4x128, .f32⟩
  | .hbm, ⟨4, _⟩ => ⟨S4x256x4608, .f32⟩
  | .hbm, ⟨5, _⟩ => ⟨S1x4096x22016, .f32⟩
  | .hbm, ⟨6, _⟩ => ⟨S1x11008x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x4096x16x128, .f32⟩
  | .hbm, ⟨15, _⟩ => ⟨S4x4096x16x128, .f32⟩
  | .hbm, ⟨16, _⟩ => ⟨S16384x2048, .f32⟩
  | .hbm, ⟨17, _⟩ => ⟨S16384x512, .f32⟩
  | .hbm, ⟨18, _⟩ => ⟨S16384x2560, .f32⟩
  | .hbm, ⟨19, _⟩ => ⟨S16384x2560, .bf16⟩
  | .hbm, ⟨20, _⟩ => ⟨S16384x6656, .f32⟩
  | .hbm, ⟨21, _⟩ => ⟨S16384x6656, .bf16⟩
  | .hbm, ⟨22, _⟩ => ⟨S1024x512, .f32⟩
  | .hbm, ⟨23, _⟩ => ⟨S1024x512, .bf16⟩
  | .hbm, ⟨24, _⟩ => ⟨S1024x4608, .f32⟩
  | .hbm, ⟨25, _⟩ => ⟨S1024x4608, .bf16⟩
  | .hbm, ⟨26, _⟩ => ⟨S4096x22016, .f32⟩
  | .hbm, ⟨27, _⟩ => ⟨S11008x4096, .f32⟩
  | .hbm, ⟨28, _⟩ => ⟨S16384x2048, .bf16⟩
  | .hbm, ⟨29, _⟩ => ⟨S4096x22016, .bf16⟩
  | .hbm, ⟨30, _⟩ => ⟨S11008x4096, .bf16⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S32x22016, .f32⟩
  | .local _ .vmem, ⟨11, _⟩ => ⟨S32x22016, .f32⟩
  | .local _ .vmem, ⟨12, _⟩ => ⟨S128x4096, .f32⟩
  | .local _ .vmem, ⟨13, _⟩ => ⟨S128x4096, .f32⟩
  | .local _ .vmem, ⟨14, _⟩ => ⟨S512x512, .bf16⟩
  | .local _ .vmem, ⟨15, _⟩ => ⟨S512x512, .bf16⟩
  | .local _ .vmem, ⟨16, _⟩ => ⟨S32x22016, .bf16⟩
  | .local _ .vmem, ⟨17, _⟩ => ⟨S32x22016, .bf16⟩
  | .local _ .vmem, ⟨18, _⟩ => ⟨S128x4096, .bf16⟩
  | .local _ .vmem, ⟨19, _⟩ => ⟨S128x4096, .bf16⟩
  | .local _ .vmem, ⟨20, _⟩ => ⟨S2x256x4352, .f32⟩
  | .local _ .vmem, ⟨21, _⟩ => ⟨S2x256x4352, .bf16⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c85_i32 : BitVec 32 := 85#32
  let v4 : BitVec 32 := Scalar.minsi v3 c85_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c85_i32 : BitVec 32 := 85#32
  let v4 : BitVec 32 := Scalar.minsi v3 c85_i32
  let c0_i32 : BitVec 32 := 0#32
  let c0_i32_0 : BitVec 32 := 0#32
  ![v4.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S32x22016 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S32x22016 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x4096x16x128 : Shape := ⟨4, ![4, 4096, 16, 128]⟩
abbrev S4x4096x4x128 : Shape := ⟨4, ![4, 4096, 4, 128]⟩
abbrev S4x4096x6656 : Shape := ⟨3, ![4, 4096, 6656]⟩
abbrev S4x256x4x128 : Shape := ⟨4, ![4, 256, 4, 128]⟩
abbrev S4x256x4608 : Shape := ⟨3, ![4, 256, 4608]⟩
abbrev S1x4096x22016 : Shape := ⟨3, ![1, 4096, 22016]⟩
abbrev S1x11008x4096 : Shape := ⟨3, ![1, 11008, 4096]⟩
abbrev S4x4096x512 : Shape := ⟨3, ![4, 4096, 512]⟩
abbrev S4x256x512 : Shape := ⟨3, ![4, 256, 512]⟩
abbrev S4x4352x4x128 : Shape := ⟨4, ![4, 4352, 4, 128]⟩
abbrev S4x4096x4x4x128 : Shape := ⟨5, ![4, 4096, 4, 4, 128]⟩
abbrev S4x4x4352x4096x4 : Shape := ⟨5, ![4, 4, 4352, 4096, 4]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩
abbrev S16384x2048 : Shape := ⟨2, ![16384, 2048]⟩
abbrev S4096x22016 : Shape := ⟨2, ![4096, 22016]⟩
abbrev S11008x4096 : Shape := ⟨2, ![11008, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x4x128, .f32⟩
  | .hbm, ⟨2, _⟩ => ⟨S4x4096x6656, .f32⟩
  | .hbm, ⟨3, _⟩ => ⟨S4x256x4x128, .f32⟩
  | .hbm, ⟨4, _⟩ => ⟨S4x256x4608, .f32⟩
  | .hbm, ⟨5, _⟩ => ⟨S1x4096x22016, .f32⟩
  | .hbm, ⟨6, _⟩ => ⟨S1x11008x4096, .f32⟩
  | .hbm, ⟨7, _⟩ => ⟨S4x4096x512, .f32⟩
  | .hbm, ⟨8, _⟩ => ⟨S4x4096x4x128, .f32⟩
  | .hbm, ⟨9, _⟩ => ⟨S4x256x512, .f32⟩
  | .hbm, ⟨10, _⟩ => ⟨S4x256x4x128, .f32⟩
  | .hbm, ⟨11, _⟩ => ⟨S4x4352x4x128, .f32⟩
  | .hbm, ⟨12, _⟩ => ⟨S4x4352x4x128, .f32⟩
  | .hbm, ⟨13, _⟩ => ⟨S4x4096x4x4x128, .f32⟩
  | .hbm, ⟨14, _⟩ => ⟨S4x4x4352x4096x4, .f32⟩
  | .hbm, ⟨15, _⟩ => ⟨S4x4x4x4096x4352, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x4x4x4096x4352, .f32⟩
  | .hbm, ⟨21, _⟩ => ⟨S4x4x4x4096x4352, .f32⟩
  | .hbm, ⟨22, _⟩ => ⟨S_, .f32⟩
  | .hbm, ⟨23, _⟩ => ⟨S4x4x4x4096, .f32⟩
  | .hbm, ⟨24, _⟩ => ⟨S_, .f32⟩
  | .hbm, ⟨25, _⟩ => ⟨S4x4x4x4096, .f32⟩
  | .hbm, ⟨26, _⟩ => ⟨S4x4x4x4096, .f32⟩
  | .hbm, ⟨27, _⟩ => ⟨S4x4x4x4096x1, .f32⟩
  | .hbm, ⟨28, _⟩ => ⟨S4x4x4x4096x4352, .f32⟩
  | .hbm, ⟨29, _⟩ => ⟨S4x4x4x4096x4352, .f32⟩
  | .hbm, ⟨30, _⟩ => ⟨S4x4x4x4096x4352, .f32⟩
  | .hbm, ⟨31, _⟩ => ⟨S_, .f32⟩
  | .hbm, ⟨32, _⟩ => ⟨S4x4x4x4096, .f32⟩
  | .hbm, ⟨33, _⟩ => ⟨S4x4x4x4096x1, .f32⟩
  | .hbm, ⟨34, _⟩ => ⟨S4x4x4x4096x4352, .f32⟩
  | .hbm, ⟨35, _⟩ => ⟨S4x4x4x4096x4352, .f32⟩
  | .hbm, ⟨36, _⟩ => ⟨S4x4x128x4x4096, .f32⟩
  | .hbm, ⟨37, _⟩ => ⟨S4x4096x4x4x128, .f32⟩
  | .hbm, ⟨38, _⟩ => ⟨S16384x2048, .f32⟩
  | .hbm, ⟨39, _⟩ => ⟨S16384x2048, .bf16⟩
  | .hbm, ⟨40, _⟩ => ⟨S4096x22016, .f32⟩
  | .hbm, ⟨41, _⟩ => ⟨S4096x22016, .bf16⟩
  | .hbm, ⟨42, _⟩ => ⟨S11008x4096, .f32⟩
  | .hbm, ⟨43, _⟩ => ⟨S11008x4096, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Pv.lean ====
abbrev S4x4096x4096 : Shape := ⟨3, ![4, 4096, 4096]⟩
abbrev S1x4096x17408 : Shape := ⟨3, ![1, 4096, 17408]⟩
abbrev S13 : Shape := ⟨1, ![13]⟩
abbrev S_ : Shape := ⟨0, ![]⟩
abbrev S13x1x1 : Shape := ⟨3, ![13, 1, 1]⟩
abbrev S13x1x128 : Shape := ⟨3, ![13, 1, 128]⟩
abbrev S16384x4096 : Shape := ⟨2, ![16384, 4096]⟩
abbrev S4096x17408 : Shape := ⟨2, ![4096, 17408]⟩
abbrev S16384x6656 : Shape := ⟨2, ![16384, 6656]⟩
abbrev S2048x4096 : Shape := ⟨2, ![2048, 4096]⟩
abbrev S4096x512 : Shape := ⟨2, ![4096, 512]⟩
abbrev S1x1x128 : Shape := ⟨3, ![1, 1, 128]⟩
abbrev S2048x512 : Shape := ⟨2, ![2048, 512]⟩
abbrev S1x128 : Shape := ⟨2, ![1, 128]⟩
abbrev S512x4096 : Shape := ⟨2, ![512, 4096]⟩
abbrev S512x512 : Shape := ⟨2, ![512, 512]⟩
abbrev S1x1 : Shape := ⟨2, ![1, 1]⟩

abbrev nBuf : Space → Nat
  | .hbm => 28
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S1x4096x17408, .f32⟩
  | .hbm, ⟨2, _⟩ => ⟨S13, .i32⟩
  | .hbm, ⟨3, _⟩ => ⟨S_, .i32⟩
  | .hbm, ⟨4, _⟩ => ⟨S13, .i32⟩
  | .hbm, ⟨5, _⟩ => ⟨S13, .i1⟩
  | .hbm, ⟨6, _⟩ => ⟨S_, .i32⟩
  | .hbm, ⟨7, _⟩ => ⟨S13, .i32⟩
  | .hbm, ⟨8, _⟩ => ⟨S13, .i1⟩
  | .hbm, ⟨9, _⟩ => ⟨S13, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S13, .f32⟩
  | .hbm, ⟨19, _⟩ => ⟨S13, .f32⟩
  | .hbm, ⟨20, _⟩ => ⟨S13, .f32⟩
  | .hbm, ⟨21, _⟩ => ⟨S13x1x1, .f32⟩
  | .hbm, ⟨22, _⟩ => ⟨S13x1x128, .f32⟩
  | .hbm, ⟨23, _⟩ => ⟨S16384x4096, .f32⟩
  | .hbm, ⟨24, _⟩ => ⟨S16384x4096, .bf16⟩
  | .hbm, ⟨25, _⟩ => ⟨S4096x17408, .f32⟩
  | .hbm, ⟨26, _⟩ => ⟨S4096x17408, .bf16⟩
  | .hbm, ⟨27, _⟩ => ⟨S16384x6656, .bf16⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1x128, .f32⟩
  | .local _ .vmem, ⟨5, _⟩ => ⟨S1x1x128, .f32⟩
  | .local _ .vmem, ⟨6, _⟩ => ⟨S2048x512, .bf16⟩
  | .local _ .vmem, ⟨7, _⟩ => ⟨S2048x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c5_i32 : BitVec 32 := 5#32
  let v1 : BitVec 32 := Scalar.addi c5_i32 v0
  let c0_i32_0 : BitVec 32 := 0#32
  let c0_i32_1 : BitVec 32 := 0#32
  ![c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PvRefIdeal.lean ====
abbrev S4x4096x4096 : Shape := ⟨3, ![4, 4096, 4096]⟩
abbrev S1x4096x17408 : Shape := ⟨3, ![1, 4096, 17408]⟩
abbrev S4096x17408 : Shape := ⟨2, ![4096, 17408]⟩
abbrev S4x4096x17408 : Shape := ⟨3, ![4, 4096, 17408]⟩
abbrev S4x4096x6656 : Shape := ⟨3, ![4, 4096, 6656]⟩
abbrev S4x4096x512 : Shape := ⟨3, ![4, 4096, 512]⟩
abbrev S4x4096x2048 : Shape := ⟨3, ![4, 4096, 2048]⟩
abbrev S_ : Shape := ⟨0, ![]⟩
abbrev S16384x6656 : Shape := ⟨2, ![16384, 6656]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x17408, .f32⟩
  | .hbm, ⟨2, _⟩ => ⟨S4096x17408, .f32⟩
  | .hbm, ⟨3, _⟩ => ⟨S4x4096x17408, .f32⟩
  | .hbm, ⟨4, _⟩ => ⟨S4x4096x6656, .f32⟩
  | .hbm, ⟨5, _⟩ => ⟨S4x4096x512, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S4x4096x6656, .f32⟩
  | .hbm, ⟨19, _⟩ => ⟨S16384x6656, .f32⟩
  | .hbm, ⟨20, _⟩ => ⟨S16384x6656, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Gates.lean ====
abbrev S4x4096x4096 : Shape := ⟨3, ![4, 4096, 4096]⟩
abbrev S1x4096x17408 : Shape := ⟨3, ![1, 4096, 17408]⟩
abbrev S16384x4096 : Shape := ⟨2, ![16384, 4096]⟩
abbrev S4096x17408 : Shape := ⟨2, ![4096, 17408]⟩
abbrev S16384x8192 : Shape := ⟨2, ![16384, 8192]⟩
abbrev S2048x4096 : Shape := ⟨2, ![2048, 4096]⟩
abbrev S4096x512 : Shape := ⟨2, ![4096, 512]⟩
abbrev S2048x512 : Shape := ⟨2, ![2048, 512]⟩
abbrev S512x4096 : Shape := ⟨2, ![512, 4096]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S1x4096x17408, .f32⟩
  | .hbm, ⟨2, _⟩ => ⟨S16384x4096, .f32⟩
  | .hbm, ⟨3, _⟩ => ⟨S16384x4096, .bf16⟩
  | .hbm, ⟨4, _⟩ => ⟨S4096x17408, .f32⟩
  | .hbm, ⟨5, _⟩ => ⟨S4096x17408, .bf16⟩
  | .hbm, ⟨6, _⟩ => ⟨S16384x8192, .bf16⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S2048x512, .bf16⟩
  | .local _ .vmem, ⟨5, _⟩ => ⟨S2048x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c18_i32 : BitVec 32 := 18#32
  let v1 : BitVec 32 := Scalar.addi c18_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S4x4096x4096 : Shape := ⟨3, ![4, 4096, 4096]⟩
abbrev S1x4096x17408 : Shape := ⟨3, ![1, 4096, 17408]⟩
abbrev S4096x17408 : Shape := ⟨2, ![4096, 17408]⟩
abbrev S4x4096x17408 : Shape := ⟨3, ![4, 4096, 17408]⟩
abbrev S4x4096x8192 : Shape := ⟨3, ![4, 4096, 8192]⟩
abbrev S_ : Shape := ⟨0, ![]⟩
abbrev S16384x8192 : Shape := ⟨2, ![16384, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x17408, .f32⟩
  | .hbm, ⟨2, _⟩ => ⟨S4096x17408, .f32⟩
  | .hbm, ⟨3, _⟩ => ⟨S4x4096x17408, .f32⟩
  | .hbm, ⟨4, _⟩ => ⟨S4x4096x8192, .f32⟩
  | .hbm, ⟨5, _⟩ => ⟨S4x4096x8192, .f32⟩
  | .hbm, ⟨6, _⟩ => ⟨S4x4096x8192, .f32⟩
  | .hbm, ⟨7, _⟩ => ⟨S_, .f32⟩
  | .hbm, ⟨8, _⟩ => ⟨S4x4096x8192, .f32⟩
  | .hbm, ⟨9, _⟩ => ⟨S4x4096x8192, .f32⟩
  | .hbm, ⟨10, _⟩ => ⟨S_, .f32⟩
  | .hbm, ⟨11, _⟩ => ⟨S4x4096x8192, .f32⟩
  | .hbm, ⟨12, _⟩ => ⟨S4x4096x8192, .f32⟩
  | .hbm, ⟨13, _⟩ => ⟨S16384x8192, .f32⟩
  | .hbm, ⟨14, _⟩ => ⟨S16384x8192, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Merge.lean ====
abbrev S4x4096x2048 : Shape := ⟨3, ![4, 4096, 2048]⟩
abbrev S4x4096x4096 : Shape := ⟨3, ![4, 4096, 4096]⟩
abbrev S1x2048x4096 : Shape := ⟨3, ![1, 2048, 4096]⟩
abbrev S4x4096x8192 : Shape := ⟨3, ![4, 4096, 8192]⟩
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x4096, .f32⟩
  | .hbm, ⟨3, _⟩ => ⟨S4x4096x4096, .f32⟩
  | .hbm, ⟨4, _⟩ => ⟨S1x2048x4096, .f32⟩
  | .hbm, ⟨5, _⟩ => ⟨S1x2048x4096, .f32⟩
  | .hbm, ⟨6, _⟩ => ⟨S4x4096x8192, .f32⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S2048x4096, .f32⟩
  | .hbm, ⟨12, _⟩ => ⟨S2048x4096, .bf16⟩
  | .hbm, ⟨13, _⟩ => ⟨S2048x4096, .f32⟩
  | .hbm, ⟨14, _⟩ => ⟨S2048x4096, .bf16⟩
  | .hbm, ⟨15, _⟩ => ⟨S16384x8192, .f32⟩
  | .hbm, ⟨16, _⟩ => ⟨S16384x8192, .bf16⟩
  | .hbm, ⟨17, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S4x4096x2048 : Shape := ⟨3, ![4, 4096, 2048]⟩
abbrev S4x4096x4096 : Shape := ⟨3, ![4, 4096, 4096]⟩
abbrev S1x2048x4096 : Shape := ⟨3, ![1, 2048, 4096]⟩
abbrev S2048x4096 : Shape := ⟨2, ![2048, 4096]⟩
abbrev S16384x4096 : Shape := ⟨2, ![16384, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x4096, .f32⟩
  | .hbm, ⟨3, _⟩ => ⟨S4x4096x4096, .f32⟩
  | .hbm, ⟨4, _⟩ => ⟨S1x2048x4096, .f32⟩
  | .hbm, ⟨5, _⟩ => ⟨S1x2048x4096, .f32⟩
  | .hbm, ⟨6, _⟩ => ⟨S2048x4096, .f32⟩
  | .hbm, ⟨7, _⟩ => ⟨S4x4096x4096, .f32⟩
  | .hbm, ⟨8, _⟩ => ⟨S4x4096x4096, .f32⟩
  | .hbm, ⟨9, _⟩ => ⟨S2048x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S16384x4096, .f32⟩
  | .hbm, ⟨14, _⟩ => ⟨S16384x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Out.lean ====
abbrev S4x4096x4096 : Shape := ⟨3, ![4, 4096, 4096]⟩
abbrev S1x4096x4096 : Shape := ⟨3, ![1, 4096, 4096]⟩
abbrev S4x1x4096 : Shape := ⟨3, ![4, 1, 4096]⟩
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x4096, .f32⟩
  | .hbm, ⟨3, _⟩ => ⟨S4x1x4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S4096x4096, .bf16⟩
  | .hbm, ⟨8, _⟩ => ⟨S16384x4096, .f32⟩
  | .hbm, ⟨9, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S4x4096x4096 : Shape := ⟨3, ![4, 4096, 4096]⟩
abbrev S1x4096x4096 : Shape := ⟨3, ![1, 4096, 4096]⟩
abbrev S4x1x4096 : Shape := ⟨3, ![4, 1, 4096]⟩
abbrev S4096x4096 : Shape := ⟨2, ![4096, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x4096, .f32⟩
  | .hbm, ⟨3, _⟩ => ⟨S4x1x4096, .f32⟩
  | .hbm, ⟨4, _⟩ => ⟨S4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Up.lean ====
abbrev S4x4096x4096 : Shape := ⟨3, ![4, 4096, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S16384x11008 : Shape := ⟨2, ![16384, 11008]⟩
abbrev S4096x4096 : Shape := ⟨2, ![4096, 4096]⟩
abbrev S4096x256 : Shape := ⟨2, ![4096, 256]⟩
abbrev S3x256 : Shape := ⟨2, ![3, 256]⟩
abbrev S1x256 : Shape := ⟨2, ![1, 256]⟩
abbrev S512x4096 : Shape := ⟨2, ![512, 4096]⟩
abbrev S512x256 : Shape := ⟨2, ![512, 256]⟩
abbrev S64x8x256 : Shape := ⟨3, ![64, 8, 256]⟩
abbrev S1x8x256 : Shape := ⟨3, ![1, 8, 256]⟩
abbrev S63x8x256 : Shape := ⟨3, ![63, 8, 256]⟩
abbrev S1x1x256 : Shape := ⟨3, ![1, 1, 256]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x4096, .f32⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S16384x4096, .f32⟩
  | .hbm, ⟨5, _⟩ => ⟨S16384x4096, .bf16⟩
  | .hbm, ⟨6, _⟩ => ⟨S4096x22016, .f32⟩
  | .hbm, ⟨7, _⟩ => ⟨S4096x22016, .bf16⟩
  | .hbm, ⟨8, _⟩ => ⟨S3x22016, .f32⟩
  | .hbm, ⟨9, _⟩ => ⟨S22016, .f32⟩
  | .hbm, ⟨10, _⟩ => ⟨S1x22016, .f32⟩
  | .hbm, ⟨11, _⟩ => ⟨S16384x11008, .bf16⟩
  | .local _ .vmem, ⟨0, _⟩ => ⟨S4096x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S4096x256, .bf16⟩
  | .local _ .vmem, ⟨14, _⟩ => ⟨S4096x256, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S4x4096x4096 : Shape := ⟨3, ![4, 4096, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S4096x22016 : Shape := ⟨2, ![4096, 22016]⟩
abbrev S4x4096x22016 : Shape := ⟨3, ![4, 4096, 22016]⟩
abbrev S_ : Shape := ⟨0, ![]⟩
abbrev S4x4098x22016 : Shape := ⟨3, ![4, 4098, 22016]⟩
abbrev S1x1x22016 : Shape := ⟨3, ![1, 1, 22016]⟩
abbrev S22016 : Shape := ⟨1, ![22016]⟩
abbrev S4x4096x11008 : Shape := ⟨3, ![4, 4096, 11008]⟩
abbrev S16384x11008 : Shape := ⟨2, ![16384, 11008]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S4096x22016, .f32⟩
  | .hbm, ⟨5, _⟩ => ⟨S4x4096x22016, .f32⟩
  | .hbm, ⟨6, _⟩ => ⟨S_, .i32⟩
  | .hbm, ⟨7, _⟩ => ⟨S_, .f32⟩
  | .hbm, ⟨8, _⟩ => ⟨S4x4098x22016, .f32⟩
  | .hbm, ⟨9, _⟩ => ⟨S4x4096x22016, .f32⟩
  | .hbm, ⟨10, _⟩ => ⟨S1x1x22016, .f32⟩
  | .hbm, ⟨11, _⟩ => ⟨S22016, .f32⟩
  | .hbm, ⟨12, _⟩ => ⟨S1x1x22016, .f32⟩
  | .hbm, ⟨13, _⟩ => ⟨S4x4096x22016, .f32⟩
  | .hbm, ⟨14, _⟩ => ⟨S4x4096x22016, .f32⟩
  | .hbm, ⟨15, _⟩ => ⟨S4x4096x22016, .f32⟩
  | .hbm, ⟨16, _⟩ => ⟨S1x1x22016, .f32⟩
  | .hbm, ⟨17, _⟩ => ⟨S22016, .f32⟩
  | .hbm, ⟨18, _⟩ => ⟨S1x1x22016, .f32⟩
  | .hbm, ⟨19, _⟩ => ⟨S4x4096x22016, .f32⟩
  | .hbm, ⟨20, _⟩ => ⟨S4x4096x22016, .f32⟩
  | .hbm, ⟨21, _⟩ => ⟨S4x4096x22016, .f32⟩
  | .hbm, ⟨22, _⟩ => ⟨S4x4096x22016, .f32⟩
  | .hbm, ⟨23, _⟩ => ⟨S1x1x22016, .f32⟩
  | .hbm, ⟨24, _⟩ => ⟨S22016, .f32⟩
  | .hbm, ⟨25, _⟩ => ⟨S1x1x22016, .f32⟩
  | .hbm, ⟨26, _⟩ => ⟨S4x4096x22016, .f32⟩
  | .hbm, ⟨27, _⟩ => ⟨S4x4096x22016, .f32⟩
  | .hbm, ⟨28, _⟩ => ⟨S4x4096x22016, .f32⟩
  | .hbm, ⟨29, _⟩ => ⟨S22016, .f32⟩
  | .hbm, ⟨30, _⟩ => ⟨S1x1x22016, .f32⟩
  | .hbm, ⟨31, _⟩ => ⟨S4x4096x22016, .f32⟩
  | .hbm, ⟨32, _⟩ => ⟨S4x4096x22016, .f32⟩
  | .hbm, ⟨33, _⟩ => ⟨S4x4096x11008, .f32⟩
  | .hbm, ⟨34, _⟩ => ⟨S4x4096x11008, .f32⟩
  | .hbm, ⟨35, _⟩ => ⟨S4x4096x11008, .f32⟩
  | .hbm, ⟨36, _⟩ => ⟨S4x4096x11008, .f32⟩
  | .hbm, ⟨37, _⟩ => ⟨S_, .f32⟩
  | .hbm, ⟨38, _⟩ => ⟨S4x4096x11008, .f32⟩
  | .hbm, ⟨39, _⟩ => ⟨S4x4096x11008, .f32⟩
  | .hbm, ⟨40, _⟩ => ⟨S_, .f32⟩
  | .hbm, ⟨41, _⟩ => ⟨S4x4096x11008, .f32⟩
  | .hbm, ⟨42, _⟩ => ⟨S4x4096x11008, .f32⟩
  | .hbm, ⟨43, _⟩ => ⟨S4x4096x11008, .f32⟩
  | .hbm, ⟨44, _⟩ => ⟨S4x4096x11008, .f32⟩
  | .hbm, ⟨45, _⟩ => ⟨S16384x11008, .f32⟩
  | .hbm, ⟨46, _⟩ => ⟨S16384x11008, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Down.lean ====
abbrev S4x4096x11008 : Shape := ⟨3, ![4, 4096, 11008]⟩
abbrev S1x11008x4096 : Shape := ⟨3, ![1, 11008, 4096]⟩
abbrev S4x4096x4096 : Shape := ⟨3, ![4, 4096, 4096]⟩
abbrev S4x1x4096 : Shape := ⟨3, ![4, 1, 4096]⟩
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x11008, .f32⟩
  | .hbm, ⟨1, _⟩ => ⟨S1x11008x4096, .f32⟩
  | .hbm, ⟨2, _⟩ => ⟨S4x4096x4096, .f32⟩
  | .hbm, ⟨3, _⟩ => ⟨S4x1x4096, .f32⟩
  | .hbm, ⟨4, _⟩ => ⟨S16384x11008, .f32⟩
  | .hbm, ⟨5, _⟩ => ⟨S16384x11008, .bf16⟩
  | .hbm, ⟨6, _⟩ => ⟨S11008x4096, .f32⟩
  | .hbm, ⟨7, _⟩ => ⟨S11008x4096, .bf16⟩
  | .hbm, ⟨8, _⟩ => ⟨S16384x4096, .f32⟩
  | .hbm, ⟨9, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S4x4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S4x4096x11008 : Shape := ⟨3, ![4, 4096, 11008]⟩
abbrev S1x11008x4096 : Shape := ⟨3, ![1, 11008, 4096]⟩
abbrev S4x4096x4096 : Shape := ⟨3, ![4, 4096, 4096]⟩
abbrev S4x1x4096 : Shape := ⟨3, ![4, 1, 4096]⟩
abbrev S11008x4096 : Shape := ⟨2, ![11008, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x11008, .f32⟩
  | .hbm, ⟨1, _⟩ => ⟨S1x11008x4096, .f32⟩
  | .hbm, ⟨2, _⟩ => ⟨S4x4096x4096, .f32⟩
  | .hbm, ⟨3, _⟩ => ⟨S4x1x4096, .f32⟩
  | .hbm, ⟨4, _⟩ => ⟨S11008x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S16384x4096, .f32⟩
  | _, _ => ⟨S4x4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Norm.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mod.lean ====
abbrev S4x4096x4096 : Shape := ⟨3, ![4, 4096, 4096]⟩
abbrev S1x4096 : Shape := ⟨2, ![1, 4096]⟩
abbrev S4x1x4096 : Shape := ⟨3, ![4, 1, 4096]⟩
abbrev S16384x4096 : Shape := ⟨2, ![16384, 4096]⟩
abbrev S4096 : Shape := ⟨1, ![4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4x1x4096, .f32⟩
  | .hbm, ⟨3, _⟩ => ⟨S4x1x4096, .f32⟩
  | .hbm, ⟨4, _⟩ => ⟨S16384x4096, .f32⟩
  | .hbm, ⟨5, _⟩ => ⟨S4096, .f32⟩
  | .hbm, ⟨6, _⟩ => ⟨S1x4096, .f32⟩
  | .hbm, ⟨7, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModRefIdeal.lean ====
abbrev S4x4096x4096 : Shape := ⟨3, ![4, 4096, 4096]⟩
abbrev S1x4096 : Shape := ⟨2, ![1, 4096]⟩
abbrev S4x1x4096 : Shape := ⟨3, ![4, 1, 4096]⟩
abbrev S_ : Shape := ⟨0, ![]⟩
abbrev S4x4096 : Shape := ⟨2, ![4, 4096]⟩
abbrev S4x4096x1 : Shape := ⟨3, ![4, 4096, 1]⟩
abbrev S4096 : Shape := ⟨1, ![4096]⟩
abbrev S1x1x4096 : Shape := ⟨3, ![1, 1, 4096]⟩
abbrev S16384x4096 : Shape := ⟨2, ![16384, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x1x4096, .f32⟩
  | .hbm, ⟨23, _⟩ => ⟨S4x1x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S16384x4096, .f32⟩
  | .hbm, ⟨29, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Qk.lean ====
abbrev S4x4096x4096 : Shape := ⟨3, ![4, 4096, 4096]⟩
abbrev S1x4096x17408 : Shape := ⟨3, ![1, 4096, 17408]⟩
abbrev S1x128 : Shape := ⟨2, ![1, 128]⟩
abbrev S_ : Shape := ⟨0, ![]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S128 : Shape := ⟨1, ![128]⟩
abbrev S4x1x128 : Shape := ⟨3, ![4, 1, 128]⟩
abbrev S1x1x128 : Shape := ⟨3, ![1, 1, 128]⟩
abbrev S16384x4096 : Shape := ⟨2, ![16384, 4096]⟩
abbrev S4096x17408 : Shape := ⟨2, ![4096, 17408]⟩
abbrev S5x1x128 : Shape := ⟨3, ![5, 1, 128]⟩
abbrev S16384x2560 : Shape := ⟨2, ![16384, 2560]⟩
abbrev S2048x4096 : Shape := ⟨2, ![2048, 4096]⟩
abbrev S4096x512 : Shape := ⟨2, ![4096, 512]⟩
abbrev S2048x128 : Shape := ⟨2, ![2048, 128]⟩
abbrev S2048x512 : Shape := ⟨2, ![2048, 512]⟩
abbrev S512x128 : Shape := ⟨2, ![512, 128]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩

abbrev nBuf : Space → Nat
  | .hbm => 92
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S1x4096x17408, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096, .f32⟩
  | .hbm, ⟨39, _⟩ => ⟨S4096x1, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S_, .i1⟩
  | .hbm, ⟨60, _⟩ => ⟨S4096, .i1⟩
  | .hbm, ⟨61, _⟩ => ⟨S4096, .i1⟩
  | .hbm, ⟨62, _⟩ => ⟨S4096, .i1⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096, .f32⟩
  | .hbm, ⟨67, _⟩ => ⟨S4096x1, .f32⟩
  | .hbm, ⟨68, _⟩ => ⟨S1x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x128, .f32⟩
  | .hbm, ⟨77, _⟩ => ⟨S4096x32, .f32⟩
  | .hbm, ⟨78, _⟩ => ⟨S4096x32, .f32⟩
  | .hbm, ⟨79, _⟩ => ⟨S4096x128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S4x1x128, .f32⟩
  | .hbm, ⟨84, _⟩ => ⟨S128, .f32⟩
  | .hbm, ⟨85, _⟩ => ⟨S1x1x128, .f32⟩
  | .hbm, ⟨86, _⟩ => ⟨S16384x4096, .f32⟩
  | .hbm, ⟨87, _⟩ => ⟨S16384x4096, .bf16⟩
  | .hbm, ⟨88, _⟩ => ⟨S4096x17408, .f32⟩
  | .hbm, ⟨89, _⟩ => ⟨S4096x17408, .bf16⟩
  | .hbm, ⟨90, _⟩ => ⟨S5x1x128, .f32⟩
  | .hbm, ⟨91, _⟩ => ⟨S16384x2560, .bf16⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1x128, .f32⟩
  | .local _ .vmem, ⟨5, _⟩ => ⟨S1x1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x512, .bf16⟩
  | .local _ .vmem, ⟨11, _⟩ => ⟨S2048x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.addi c0_i32_0 v0
  let c0_i32_1 : BitVec 32 := 0#32
  let c0_i32_2 : BitVec 32 := 0#32
  ![c0_i32_1.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkRefIdeal.lean ====
abbrev S4x4096x4096 : Shape := ⟨3, ![4, 4096, 4096]⟩
abbrev S1x4096x17408 : Shape := ⟨3, ![1, 4096, 17408]⟩
abbrev S1x128 : Shape := ⟨2, ![1, 128]⟩
abbrev S4096x17408 : Shape := ⟨2, ![4096, 17408]⟩
abbrev S4x4096x17408 : Shape := ⟨3, ![4, 4096, 17408]⟩
abbrev S4x4096x2560 : Shape := ⟨3, ![4, 4096, 2560]⟩
abbrev S4x4096x20x128 : Shape := ⟨4, ![4, 4096, 20, 128]⟩
abbrev S_ : Shape := ⟨0, ![]⟩
abbrev S4x4096x20 : Shape := ⟨3, ![4, 4096, 20]⟩
abbrev S4x4096x20x1 : Shape := ⟨4, ![4, 4096, 20, 1]⟩
abbrev S4x4096x16x128 : Shape := ⟨4, ![4, 4096, 16, 128]⟩
abbrev S128 : Shape := ⟨1, ![128]⟩
abbrev S1x1x1x128 : Shape := ⟨4, ![1, 1, 1, 128]⟩
abbrev S4x4096x4x128 : Shape := ⟨4, ![4, 4096, 4, 128]⟩
abbrev S4096 : Shape := ⟨1, ![4096]⟩
abbrev S32 : Shape := ⟨1, ![32]⟩
abbrev S4x4096x20x64 : Shape := ⟨4, ![4, 4096, 20, 64]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x20x32 : Shape := ⟨4, ![4, 4096, 20, 32]⟩
abbrev S16384x2560 : Shape := ⟨2, ![16384, 2560]⟩

abbrev nBuf : Space → Nat
  | .hbm => 144
  | .vmem => 0
  | .smem => 0
  | _ => 0

abbrev hbmTy0_0 (i : Nat) : BufTy := match i % 128 with
  | 0 => ⟨S4x4096x4096, .f32⟩
  | 1 => ⟨S1x4096x17408, .f32⟩
  | 2 => ⟨S1x128, .f32⟩
  | 3 => ⟨S1x128, .f32⟩
  | 4 => ⟨S4096x17408, .f32⟩
  | 5 => ⟨S4x4096x17408, .f32⟩
  | 6 => ⟨S4x4096x2560, .f32⟩
  | 7 => ⟨S4x4096x20x128, .f32⟩
  | 8 => ⟨S4x4096x20x128, .f32⟩
  | 9 => ⟨S_, .f32⟩
  | 10 => ⟨S4x4096x20, .f32⟩
  | 11 => ⟨S4x4096x20x1, .f32⟩
  | 12 => ⟨S_, .f32⟩
  | 13 => ⟨S4x4096x20x1, .f32⟩
  | 14 => ⟨S4x4096x20x1, .f32⟩
  | 15 => ⟨S_, .f32⟩
  | 16 => ⟨S4x4096x20x1, .f32⟩
  | 17 => ⟨S4x4096x20x1, .f32⟩
  | 18 => ⟨S4x4096x20x1, .f32⟩
  | 19 => ⟨S4x4096x20x128, .f32⟩
  | 20 => ⟨S4x4096x20x128, .f32⟩
  | 21 => ⟨S4x4096x16x128, .f32⟩
  | 22 => ⟨S128, .f32⟩
  | 23 => ⟨S1x1x1x128, .f32⟩
  | 24 => ⟨S4x4096x16x128, .f32⟩
  | 25 => ⟨S4x4096x16x128, .f32⟩
  | 26 => ⟨S4x4096x4x128, .f32⟩
  | 27 => ⟨S128, .f32⟩
  | 28 => ⟨S1x1x1x128, .f32⟩
  | 29 => ⟨S4x4096x4x128, .f32⟩
  | 30 => ⟨S4x4096x4x128, .f32⟩
  | 31 => ⟨S4x4096x20x128, .f32⟩
  | 32 => ⟨S4096, .i32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S4x4096x20x64, .f32⟩
  | 42 => ⟨S_, .i32⟩
  | 43 => ⟨S_, .i32⟩
  | 44 => ⟨S4096, .i32⟩
  | 45 => ⟨S4096, .i32⟩
  | 46 => ⟨S4096, .i32⟩
  | 47 => ⟨S_, .i32⟩
  | 48 => ⟨S4096, .i32⟩
  | 49 => ⟨S4096, .i1⟩
  | 50 => ⟨S4096, .i32⟩
  | 51 => ⟨S4096, .i32⟩
  | 52 => ⟨S_, .i32⟩
  | 53 => ⟨S4096, .i32⟩
  | 54 => ⟨S4096, .i1⟩
  | 55 => ⟨S4096, .i1⟩
  | 56 => ⟨S_, .i32⟩
  | 57 => ⟨S4096, .i32⟩
  | 58 => ⟨S4096, .i32⟩
  | 59 => ⟨S4096, .i32⟩
  | 60 => ⟨S4096, .f32⟩
  | 61 => ⟨S4096x1, .f32⟩
  | 62 => ⟨S1x32, .f32⟩
  | 63 => ⟨S4096x32, .f32⟩
  | 64 => ⟨S4096x32, .f32⟩
  | 65 => ⟨S4096x32, .f32⟩
  | 66 => ⟨S4096x32, .f32⟩
  | 67 => ⟨S1x4096x1x32, .f32⟩
  | 68 => ⟨S4096x32, .f32⟩
  | 69 => ⟨S1x4096x1x32, .f32⟩
  | 70 => ⟨S4x4096x20x32, .f32⟩
  | 71 => ⟨S4x4096x20x32, .f32⟩
  | 72 => ⟨S4x4096x20x32, .f32⟩
  | 73 => ⟨S4x4096x20x32, .f32⟩
  | 74 => ⟨S4x4096x20x32, .f32⟩
  | 75 => ⟨S4x4096x20x32, .f32⟩
  | 76 => ⟨S4x4096x20x32, .f32⟩
  | 77 => ⟨S4x4096x20x32, .f32⟩
  | 78 => ⟨S4x4096x20x32, .f32⟩
  | 79 => ⟨S4x4096x20x32, .f32⟩
  | 80 => ⟨S4x4096x20x32, .f32⟩
  | 81 => ⟨S4x4096x20x32, .f32⟩
  | 82 => ⟨S4x4096x20x64, .f32⟩
  | 83 => ⟨S4x4096x20x64, .f32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S4096, .i32⟩
  | 91 => ⟨S4096, .i32⟩
  | 92 => ⟨S_, .i32⟩
  | 93 => ⟨S4096, .i32⟩
  | 94 => ⟨S4096, .i1⟩
  | 95 => ⟨S_, .i32⟩
  | 96 => ⟨S4096, .i32⟩
  | 97 => ⟨S4096, .i1⟩
  | 98 => ⟨S_, .i32⟩
  | 99 => ⟨S_, .i1⟩
  | 100 => ⟨S4096, .i1⟩
  | 101 => ⟨S4096, .i1⟩
  | 102 => ⟨S4096, .i1⟩
  | 103 => ⟨S4096, .i32⟩
  | 104 => ⟨S4096, .i32⟩
  | 105 => ⟨S4096, .i32⟩
  | 106 => ⟨S4096, .f32⟩
  | 107 => ⟨S4096x1, .f32⟩
  | 108 => ⟨S1x32, .f32⟩
  | 109 => ⟨S4096x32, .f32⟩
  | 110 => ⟨S4096x32, .f32⟩
  | 111 => ⟨S4096x32, .f32⟩
  | 112 => ⟨S4096x32, .f32⟩
  | 113 => ⟨S1x4096x1x32, .f32⟩
  | 114 => ⟨S4096x32, .f32⟩
  | 115 => ⟨S1x4096x1x32, .f32⟩
  | 116 => ⟨S4x4096x20x32, .f32⟩
  | 117 => ⟨S4x4096x20x32, .f32⟩
  | 118 => ⟨S4x4096x20x32, .f32⟩
  | 119 => ⟨S4x4096x20x32, .f32⟩
  | 120 => ⟨S4x4096x20x32, .f32⟩
  | 121 => ⟨S4x4096x20x32, .f32⟩
  | 122 => ⟨S4x4096x20x32, .f32⟩
  | 123 => ⟨S4x4096x20x32, .f32⟩
  | 124 => ⟨S4x4096x20x32, .f32⟩
  | 125 => ⟨S4x4096x20x32, .f32⟩
  | 126 => ⟨S4x4096x20x32, .f32⟩
  | 127 => ⟨S4x4096x20x32, .f32⟩
  | _ => ⟨S4x4096x4096, .f32⟩

abbrev hbmTy0_1 (i : Nat) : BufTy := match i % 128 with
  | 0 => ⟨S4x4096x20x64, .f32⟩
  | 1 => ⟨S4x4096x20x128, .f32⟩
  | 2 => ⟨S4x4096x16x128, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S4x4096x16x128, .f32⟩
  | 11 => ⟨S4x4096x16x128, .f32⟩
  | 12 => ⟨S4x4096x4x128, .f32⟩
  | 13 => ⟨S4x4096x20x128, .f32⟩
  | 14 => ⟨S16384x2560, .f32⟩
  | 15 => ⟨S16384x2560, .bf16⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_4 : Ref sig .tc := ⟨.hbm, 84, rfl⟩
abbrev main_call1_v0 : Ref sig .tc := ⟨.hbm, 85, rfl⟩
abbrev main_call1_c : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_c_1 : Ref sig .tc := ⟨.hbm, 92, rfl⟩
abbrev main_call1_v5 : Ref sig .tc := ⟨.hbm, 93, rfl⟩
abbrev main_call1_v6 : Ref sig .tc := ⟨.hbm, 94, rfl⟩
abbrev main_call1_c_2 : Ref sig .tc := ⟨.hbm, 95, rfl⟩
abbrev main_call1_v7 : Ref sig .tc := ⟨.hbm, 96, rfl⟩
abbrev main_call1_v8 : Ref sig .tc := ⟨.hbm, 97, rfl⟩
abbrev main_call1_c_3 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_v12 : Ref sig .tc := ⟨.hbm, 102, rfl⟩
abbrev main_call1_v13 : Ref sig .tc := ⟨.hbm, 103, rfl⟩
abbrev main_call1_v14 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_5 : Ref sig .tc := ⟨.hbm, 131, rfl⟩
abbrev main_v84 : Ref sig .tc := ⟨.hbm, 132, rfl⟩
abbrev main_cst_6 : Ref sig .tc := ⟨.hbm, 133, rfl⟩
abbrev main_v85 : Ref sig .tc := ⟨.hbm, 134, rfl⟩
abbrev main_v86 : Ref sig .tc := ⟨.hbm, 135, rfl⟩
abbrev main_cst_7 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩

abbrev nD : Nat := 1
abbrev τ : Topo := Topo.v7x

variable {F : FTy → Type} [FloatOps F]
-- ==== Ctx.lean ====
abbrev S4x256x4096 : Shape := ⟨3, ![4, 256, 4096]⟩
abbrev S1x4096x17408 : Shape := ⟨3, ![1, 4096, 17408]⟩
abbrev S1024x4096 : Shape := ⟨2, ![1024, 4096]⟩
abbrev S4096x17408 : Shape := ⟨2, ![4096, 17408]⟩
abbrev S1024x4608 : Shape := ⟨2, ![1024, 4608]⟩
abbrev S4096x512 : Shape := ⟨2, ![4096, 512]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S1x4096x17408, .f32⟩
  | .hbm, ⟨2, _⟩ => ⟨S1024x4096, .f32⟩
  | .hbm, ⟨3, _⟩ => ⟨S1024x4096, .bf16⟩
  | .hbm, ⟨4, _⟩ => ⟨S4096x17408, .f32⟩
  | .hbm, ⟨5, _⟩ => ⟨S4096x17408, .bf16⟩
  | .hbm, ⟨6, _⟩ => ⟨S1024x4608, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c5_i32 : BitVec 32 := 5#32
  let v1 : BitVec 32 := Scalar.addi c5_i32 v0
  let c1_i32 : BitVec 32 := 1#32
  let v2 : BitVec 32 := Scalar.subi arg1 c1_i32
  let c10_i32 : BitVec 32 := 10#32
  let v3 : BitVec 32 := Scalar.addi c10_i32 v2
  let c1_i32_0 : BitVec 32 := 1#32
  let v4 : BitVec 1 := Scalar.cmpi .sge arg1 c1_i32_0
  let v5 : BitVec 32 := Scalar.select v4 v3 v1
  let c0_i32_1 : BitVec 32 := 0#32
  let c0_i32_2 : BitVec 32 := 0#32
  ![c0_i32_1.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxRefIdeal.lean ====
abbrev S4x256x4096 : Shape := ⟨3, ![4, 256, 4096]⟩
abbrev S1x4096x17408 : Shape := ⟨3, ![1, 4096, 17408]⟩
abbrev S4096x17408 : Shape := ⟨2, ![4096, 17408]⟩
abbrev S4x256x17408 : Shape := ⟨3, ![4, 256, 17408]⟩
abbrev S4x256x512 : Shape := ⟨3, ![4, 256, 512]⟩
abbrev S4x256x4608 : Shape := ⟨3, ![4, 256, 4608]⟩
abbrev S1024x4608 : Shape := ⟨2, ![1024, 4608]⟩

abbrev nBuf : Space → Nat
  | .hbm => 9
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096x17408, .f32⟩
  | .hbm, ⟨2, _⟩ => ⟨S4096x17408, .f32⟩
  | .hbm, ⟨3, _⟩ => ⟨S4x256x17408, .f32⟩
  | .hbm, ⟨4, _⟩ => ⟨S4x256x512, .f32⟩
  | .hbm, ⟨5, _⟩ => ⟨S4x256x4096, .f32⟩
  | .hbm, ⟨6, _⟩ => ⟨S4x256x4608, .f32⟩
  | .hbm, ⟨7, _⟩ => ⟨S1024x4608, .f32⟩
  | .hbm, ⟨8, _⟩ => ⟨S1024x4608, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Stage.lean ====
module

public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F]

/-- One plane of scores: the context keys' 256 columns, then the latent keys' 4096. -/
def plane (B : Vec F S1x256x256 .f32) (A : Vec F S1x256x4096 .f32) : Vec F S1x256x4352 .f32 := fun j =>
  if h : (j 2).val < 256 then B (ix3 0 (j 1) ⟨(j 2).val, h⟩)
  else A (ix3 0 (j 1) ⟨(j 2).val - 256, by have h3 : (j 2).val < 4352 := (j 2).isLt; omega⟩)

section Canon
variable {sig : RefSig} {κ : Kind} {sp : Space}

/-- A read of plane `p` of the scores right after its two stores gives the two payloads side by side. -/
theorem score_hit (v : View sig κ sp S2x256x4352 .f32) (p : Nat)
    (iA : ∀ a, (![p, 0, 256] : Fin 3 → Nat) a + S1x256x4096.size a ≤ S2x256x4352.size a)
    (iB : ∀ a, (![p, 0, 0] : Fin 3 → Nat) a + S1x256x256.size a ≤ S2x256x4352.size a)
    (iC : ∀ a, (![p, 0, 0] : Fin 3 → Nat) a + S1x256x4352.size a ≤ S2x256x4352.size a)
    (A : Vec F S1x256x4096 .f32) (B : Vec F S1x256x256 .f32) (L : List (View.Piece (Elt F) S2x256x4352 .f32)) :
    v.readCov (⟨Rect.unit (s := S2x256x4352) ![p, 0, 256] ![1, 256, 4096] iA, A⟩ :: ⟨Rect.unit (s := S2x256x4352) ![p, 0, 0] ![1, 256, 256] iB, B⟩ :: L)
      (Rect.unit (s := S2x256x4352) ![p, 0, 0] ![1, 256, 4352] iC).toLoadRect = plane B A := by
  rw [View.readCov_eq_canon']
  funext j
  have h0 : (j 0).val < 1 := (j 0).isLt
  have h1 : (j 1).val < 256 := (j 1).isLt
  have h2 : (j 2).val < 4352 := (j 2).isLt
  unfold plane
  split
  · rename_i h
    rw [View.canon_cons_of_not_mem]
    · have : (Rect.unit (s := S2x256x4352) ![p, 0, 0] ![1, 256, 4352] iC).toLoadRect.idx j
          = (Rect.unit (s := S2x256x4352) ![p, 0, 0] ![1, 256, 256] iB).emb (ix3 0 (j 1) ⟨(j 2).val, h⟩) := by
        funext a; apply Fin.ext
        simp only [LoadRect.idx_apply, Rect.emb_apply]
        fin_cases a
        · show p + 1 * (j 0).val = p + 1 * 0; omega
        · rfl
        · rfl
      rw [this, View.canon_cons_emb]
    · rw [Rect.mem_set_unit]
      intro hm
      have := (hm 2).1
      change 256 ≤ 0 + 1 * (j 2).val at this
      omega
  · rename_i h
    have : (Rect.unit (s := S2x256x4352) ![p, 0, 0] ![1, 256, 4352] iC).toLoadRect.idx j
        = (Rect.unit (s := S2x256x4352) ![p, 0, 256] ![1, 256, 4096] iA).emb (ix3 0 (j 1) ⟨(j 2).val - 256, by omega⟩) := by
      funext a; apply Fin.ext
      simp only [LoadRect.idx_apply, Rect.emb_apply]
      fin_cases a
      · show p + 1 * (j 0).val = p + 1 * 0; omega
      · rfl
      · show 0 + 1 * (j 2).val = 256 + 1 * ((j 2).val - 256); omega
    rw [this, View.canon_cons_emb]

/-- Stores to the other plane don't touch plane `p`. -/
theorem score_skip (v : View sig κ sp S2x256x4352 .f32) (p q : Nat) (hpq : p ≠ q)
    (iA : ∀ a, (![q, 0, 256] : Fin 3 → Nat) a + S1x256x4096.size a ≤ S2x256x4352.size a)
    (iB : ∀ a, (![q, 0, 0] : Fin 3 → Nat) a + S1x256x256.size a ≤ S2x256x4352.size a)
    (iC : ∀ a, (![p, 0, 0] : Fin 3 → Nat) a + S1x256x4352.size a ≤ S2x256x4352.size a)
    (A : Vec F S1x256x4096 .f32) (B : Vec F S1x256x256 .f32) (L : List (View.Piece (Elt F) S2x256x4352 .f32)) :
    v.readCov (⟨Rect.unit (s := S2x256x4352) ![q, 0, 256] ![1, 256, 4096] iA, A⟩ :: ⟨Rect.unit (s := S2x256x4352) ![q, 0, 0] ![1, 256, 256] iB, B⟩ :: L)
      (Rect.unit (s := S2x256x4352) ![p, 0, 0] ![1, 256, 4352] iC).toLoadRect
      = v.readCov L (Rect.unit (s := S2x256x4352) ![p, 0, 0] ![1, 256, 4352] iC).toLoadRect := by
  rw [View.readCov_eq_canon', View.readCov_eq_canon']
  funext j
  have h0 : (j 0).val < 1 := (j 0).isLt
  rw [View.canon_cons_of_not_mem, View.canon_cons_of_not_mem]
  all_goals
    rw [Rect.mem_set_unit]
    intro hm
    have h := hm 0
    change q ≤ p + 1 * (j 0).val ∧ p + 1 * (j 0).val < q + 1 at h
    omega

/-- Stores to plane 1 don't touch plane 0. -/
theorem score_skip01 (v : View sig κ sp S2x256x4352 .f32) (iA) (iB) (iC)
    (A : Vec F S1x256x4096 .f32) (B : Vec F S1x256x256 .f32) (L : List (View.Piece (Elt F) S2x256x4352 .f32)) :
    v.readCov (⟨Rect.unit (s := S2x256x4352) ![1, 0, 256] ![1, 256, 4096] iA, A⟩ :: ⟨Rect.unit (s := S2x256x4352) ![1, 0, 0] ![1, 256, 256] iB, B⟩ :: L)
      (Rect.unit (s := S2x256x4352) ![0, 0, 0] ![1, 256, 4352] iC).toLoadRect
      = v.readCov L (Rect.unit (s := S2x256x4352) ![0, 0, 0] ![1, 256, 4352] iC).toLoadRect := score_skip v 0 1 (by decide) iA iB iC A B L

/-- Stores to plane 0 don't touch plane 1. -/
theorem score_skip10 (v : View sig κ sp S2x256x4352 .f32) (iA) (iB) (iC)
    (A : Vec F S1x256x4096 .f32) (B : Vec F S1x256x256 .f32) (L : List (View.Piece (Elt F) S2x256x4352 .f32)) :
    v.readCov (⟨Rect.unit (s := S2x256x4352) ![0, 0, 256] ![1, 256, 4096] iA, A⟩ :: ⟨Rect.unit (s := S2x256x4352) ![0, 0, 0] ![1, 256, 256] iB, B⟩ :: L)
      (Rect.unit (s := S2x256x4352) ![1, 0, 0] ![1, 256, 4352] iC).toLoadRect
      = v.readCov L (Rect.unit (s := S2x256x4352) ![1, 0, 0] ![1, 256, 4352] iC).toLoadRect := score_skip v 1 0 (by decide) iA iB iC A B L

/-- The context keys' part of a plane of probabilities. -/
def probCtx (P : Vec F S1x256x4352 .bf16) : Vec F S256x256 .bf16 := fun j =>
  P (ix3 0 (j 0) ⟨(j 1).val, by have h3 : (j 1).val < 256 := (j 1).isLt; omega⟩)

/-- The latent keys' part of a plane of probabilities. -/
def probLat (P : Vec F S1x256x4352 .bf16) : Vec F S256x4096 .bf16 := fun j =>
  P (ix3 0 (j 0) ⟨256 + (j 1).val, by have h3 : (j 1).val < 4096 := (j 1).isLt; omega⟩)

/-- A read of the context keys' columns right after a plane of probabilities is stored gives that part of the plane. -/
theorem prob_ctx (v : View sig κ sp S2x256x4352 .bf16) (p : Nat)
    (iC : ∀ a, (![p, 0, 0] : Fin 3 → Nat) a + S1x256x4352.size a ≤ S2x256x4352.size a)
    (iD : ∀ a, (![0, 0] : Fin 2 → Nat) a + S256x256.size a ≤ S256x4352.size a) (h0) (hs) (h1)
    (hv : S256x256.numel = (((Rect.unit (s := S256x4352) ![0, 0] ![256, 256] iD).toLoadRect).consLift ![1, 256, 4352] h0 hs).shape.numel)
    (P : Vec F S1x256x4352 .bf16) (L : List (View.Piece (Elt F) S2x256x4352 .bf16)) :
    LoadRect.valAlong (lr := (Rect.unit (s := S256x4352) ![0, 0] ![256, 256] iD).toLoadRect) hv (v.readCov (⟨Rect.unit (s := S2x256x4352) ![p, 0, 0] ![1, 256, 4352] iC, P⟩ :: L)
      ((Rect.unit (s := S2x256x4352) ![p, 0, 0] ![1, 256, 4352] iC).withinL
        (((Rect.unit (s := S256x4352) ![0, 0] ![256, 256] iD).toLoadRect).consLift ![1, 256, 4352] h0 hs) h1)) = probCtx P := by
  rw [View.readCov_eq_canon']
  funext j
  show View.canon _ (((Rect.unit (s := S2x256x4352) ![p, 0, 0] ![1, 256, 4352] iC).withinL
        (((Rect.unit (s := S256x4352) ![0, 0] ![256, 256] iD).toLoadRect).consLift ![1, 256, 4352] h0 hs) h1).idx (Shape.reshapeEquiv hv j)) = _
  rw [show Shape.reshapeEquiv hv j = Fin.cons ⟨0, Nat.one_pos⟩ j from Shape.reshapeEquiv_cons_one (d := ![256, 256]) _ _,
    Rect.idx_withinL, View.canon_cons_emb]
  unfold probCtx
  congr 1
  funext a; apply Fin.ext
  have e1 := Nat.one_mul (j 0).val
  have e2 := Nat.one_mul (j 1).val
  fin_cases a
  · rfl
  · show 0 + 1 * (j 0).val = (j 0).val; omega
  · show 0 + 1 * (j 1).val = (j 1).val; omega

/-- A read of the latent keys' columns right after a plane of probabilities is stored gives that part of the plane. -/
theorem prob_lat (v : View sig κ sp S2x256x4352 .bf16) (p : Nat)
    (iC : ∀ a, (![p, 0, 0] : Fin 3 → Nat) a + S1x256x4352.size a ≤ S2x256x4352.size a)
    (iD : ∀ a, (![0, 256] : Fin 2 → Nat) a + S256x4096.size a ≤ S256x4352.size a) (h0) (hs) (h1)
    (hv : S256x4096.numel = (((Rect.unit (s := S256x4352) ![0, 256] ![256, 4096] iD).toLoadRect).consLift ![1, 256, 4352] h0 hs).shape.numel)
    (P : Vec F S1x256x4352 .bf16) (L : List (View.Piece (Elt F) S2x256x4352 .bf16)) :
    LoadRect.valAlong (lr := (Rect.unit (s := S256x4352) ![0, 256] ![256, 4096] iD).toLoadRect) hv (v.readCov (⟨Rect.unit (s := S2x256x4352) ![p, 0, 0] ![1, 256, 4352] iC, P⟩ :: L)
      ((Rect.unit (s := S2x256x4352) ![p, 0, 0] ![1, 256, 4352] iC).withinL
        (((Rect.unit (s := S256x4352) ![0, 256] ![256, 4096] iD).toLoadRect).consLift ![1, 256, 4352] h0 hs) h1)) = probLat P := by
  rw [View.readCov_eq_canon']
  funext j
  show View.canon _ (((Rect.unit (s := S2x256x4352) ![p, 0, 0] ![1, 256, 4352] iC).withinL
        (((Rect.unit (s := S256x4352) ![0, 256] ![256, 4096] iD).toLoadRect).consLift ![1, 256, 4352] h0 hs) h1).idx (Shape.reshapeEquiv hv j)) = _
  rw [show Shape.reshapeEquiv hv j = Fin.cons ⟨0, Nat.one_pos⟩ j from Shape.reshapeEquiv_cons_one (d := ![256, 4096]) _ _,
    Rect.idx_withinL, View.canon_cons_emb]
  unfold probLat
  congr 1
  funext a; apply Fin.ext
  fin_cases a
  · rfl
  · show 0 + 1 * (j 0).val = (j 0).val; omega
  · show 256 + 1 * (j 1).val = 256 + (j 1).val; omega
end Canon

/-- What one stage stores: softmax of a 256-row block of queries `q` against the keys, on the values. -/
def stage (q : Vec F S256x128 .bf16) (k v : Vec F S4096x128 .bf16) (kc vc : Vec F S256x128 .bf16) : FVec F S256x128 .bf16 :=
  k0_pay18 (k0_pay5 v) (k0_pay15 (plane (k0_pay9 kc q) (k0_pay10 k q)))
    (k0_pay17 (k0_pay7 vc) (probCtx (k0_pay16 (plane (k0_pay9 kc q) (k0_pay10 k q)))))
    (probLat (k0_pay16 (plane (k0_pay9 kc q) (k0_pay10 k q))))

/-- What a stage computes from the two parts of its probabilities is `stage`. -/
theorem stage_of {q : Vec F S256x128 .bf16} {k v : Vec F S4096x128 .bf16} {kc vc : Vec F S256x128 .bf16}
    {P1 : Vec F S256x256 .bf16} {P2 : Vec F S256x4096 .bf16}
    (h1 : P1 = probCtx (k0_pay16 (plane (k0_pay9 kc q) (k0_pay10 k q))))
    (h2 : P2 = probLat (k0_pay16 (plane (k0_pay9 kc q) (k0_pay10 k q)))) :
    k0_pay18 (k0_pay5 v) (k0_pay15 (plane (k0_pay9 kc q) (k0_pay10 k q))) (k0_pay17 (k0_pay7 vc) P1) P2 = stage q k v kc vc := by
  rw [h1, h2]; rfl

omit [FloatOps F] in
/-- Lists of stores are equal when their first payloads and their rests are. -/
theorem piece_cons {s : Shape} {e : EltTy} {r : Rect s} {w w' : r.shape.Idx → Elt F e} {L L' : List (View.Piece (Elt F) s e)}
    (hw : w = w') (hL : L = L') : (⟨r, w⟩ : View.Piece (Elt F) s e) :: L = ⟨r, w'⟩ :: L' := by rw [hw, hL]

/-- The offset of two zeros is zero on every axis. -/
theorem z2a {n m : Nat} : (![0, 0] : Fin (⟨2, ![n, m]⟩ : Shape).rank → Nat) = fun _ => 0 := funext fun a => by fin_cases a <;> rfl

/-- A load of a whole array is the array. -/
theorem ld_whole {n m : Nat} {e : EltTy} (x : Vec F ⟨2, ![n, m]⟩ e) (inb : ∀ a, (![0, 0] : Fin 2 → Nat) a + (![n, m] : Fin 2 → Nat) a ≤ (⟨2, ![n, m]⟩ : Shape).size a) :
    View.ld x (Rect.unit (s := ⟨2, ![n, m]⟩) ![0, 0] ![n, m] inb) = x :=
  View.ld_unit_zero (S := ⟨2, ![n, m]⟩) (z2a (n := n) (m := m)) inb x

set_option maxHeartbeats 4000000 in
/-- What a point stores of the attention: eight stages, one for each half of the rows and each head. -/
theorem out7 (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S32x22016 .f32) (harg8 : arg8.IsWhole) (arg9 : Memref sig .tc .vmem S128x4096 .f32) (harg9 : arg9.IsWhole) (arg10 : Memref sig .tc .vmem S512x512 .bf16) (harg10 : arg10.IsWhole) (arg11 : Memref sig .tc .vmem S32x22016 .bf16) (harg11 : arg11.IsWhole) (arg12 : Memref sig .tc .vmem S128x4096 .bf16) (harg12 : arg12.IsWhole) (arg13 : Memref sig .tc .vmem S2x256x4352 .f32) (harg13 : arg13.IsWhole) (arg14 : Memref sig .tc .vmem S2x256x4352 .bf16) (harg14 : arg14.IsWhole)
    (x0 : Vec F S512x512 .bf16) (x1 : Vec F S4096x128 .bf16) (x2 : Vec F S4096x128 .bf16) (x3 : Vec F S256x128 .bf16) (x4 : Vec F S256x128 .bf16) (x5 : Vec F S32x22016 .f32) (x6 : Vec F S128x4096 .f32) :
    out0_A_7 c i arg3 harg3 arg4 harg4 arg5 harg5 arg6 harg6 arg7 harg7 arg8 harg8 arg9 harg9 arg10 harg10 arg11 harg11 arg12 harg12 arg13 harg13 arg14 harg14 x0 x1 x2 x3 x4 x5 x6 =
    View.canon
      [⟨Rect.unit (s := S512x512) ![256, 384] S256x128.size inb_S512x512_S256x128_256_384,
          stage (View.ld x0 (Rect.unit ![256, 384] S256x128.size inb_S512x512_S256x128_256_384)) x1 x2 x3 x4⟩,
        ⟨Rect.unit (s := S512x512) ![256, 256] S256x128.size inb_S512x512_S256x128_256_256,
          stage (View.ld x0 (Rect.unit ![256, 256] S256x128.size inb_S512x512_S256x128_256_256)) x1 x2 x3 x4⟩,
        ⟨Rect.unit (s := S512x512) ![256, 128] S256x128.size inb_S512x512_S256x128_256_128,
          stage (View.ld x0 (Rect.unit ![256, 128] S256x128.size inb_S512x512_S256x128_256_128)) x1 x2 x3 x4⟩,
        ⟨Rect.unit (s := S512x512) ![256, 0] S256x128.size inb_S512x512_S256x128_256_0,
          stage (View.ld x0 (Rect.unit ![256, 0] S256x128.size inb_S512x512_S256x128_256_0)) x1 x2 x3 x4⟩,
        ⟨Rect.unit (s := S512x512) ![0, 384] S256x128.size inb_S512x512_S256x128_0_384,
          stage (View.ld x0 (Rect.unit ![0, 384] S256x128.size inb_S512x512_S256x128_0_384)) x1 x2 x3 x4⟩,
        ⟨Rect.unit (s := S512x512) ![0, 256] S256x128.size inb_S512x512_S256x128_0_256,
          stage (View.ld x0 (Rect.unit ![0, 256] S256x128.size inb_S512x512_S256x128_0_256)) x1 x2 x3 x4⟩,
        ⟨Rect.unit (s := S512x512) ![0, 128] S256x128.size inb_S512x512_S256x128_0_128,
          stage (View.ld x0 (Rect.unit ![0, 128] S256x128.size inb_S512x512_S256x128_0_128)) x1 x2 x3 x4⟩,
        ⟨Rect.unit (s := S512x512) ![0, 0] S256x128.size inb_S512x512_S256x128_0_0,
          stage (View.ld x0 (Rect.unit ![0, 0] S256x128.size inb_S512x512_S256x128_0_0)) x1 x2 x3 x4⟩] := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  sl_unfold_words
  simp only [View.readAt_eq_ld, harg3.read_unread, harg4.read_unread, harg5.read_unread, harg6.read_unread, harg7.read_unread,
    ld_whole, score_skip01, score_skip10, score_hit]
  refine congrArg View.canon ?_
  refine piece_cons (F := F) (s := S512x512) (e := .bf16) ?_ (piece_cons (F := F) (s := S512x512) (e := .bf16) ?_ (piece_cons (F := F) (s := S512x512) (e := .bf16) ?_ (piece_cons (F := F) (s := S512x512) (e := .bf16) ?_ (piece_cons (F := F) (s := S512x512) (e := .bf16) ?_ (piece_cons (F := F) (s := S512x512) (e := .bf16) ?_ (piece_cons (F := F) (s := S512x512) (e := .bf16) ?_ (piece_cons (F := F) (s := S512x512) (e := .bf16) ?_ rfl)))))))
  all_goals
    refine stage_of ?_ ?_
    · exact prob_ctx ..
    · exact prob_lat ..

end Cert.KernelIdeal.Attn
end
-- ==== Proof.Softmax.lean ====
module

public import Idealize.ShloMosaic.Lib.Pointwise
public import Mathlib.Analysis.SpecialFunctions.Pow.Real

@[expose] public section

noncomputable section

namespace Cert.Softmax

open Idealize.ShloMosaic

/-- The maximum of finitely many extended reals, from −∞. -/
def top {ι : Type} [Fintype ι] (s : ι → EReal) : EReal := Finset.univ.fold max ⊥ s

/-- Softmax in base two, unnormalised weights first and one division at the end. -/
def base2 {ι : Type} [Fintype ι] (t w : ι → EReal) : EReal :=
  Ideal.div (∑ κ, Ideal.exp2 (t κ - top t) * w κ) (∑ κ, Ideal.exp2 (t κ - top t))

/-- The textbook softmax of the scores `s` on the values `w`: every weight is divided by the sum. -/
def weighted {ι : Type} [Fintype ι] (s w : ι → EReal) : EReal :=
  ∑ κ, w κ * Ideal.div (Ideal.exp (s κ - top s)) (∑ κ', Ideal.exp (s κ' - top s))

/-- The maximum is one of the numbers and bounds all of them. -/
theorem top_spec {ι : Type} [Fintype ι] [Nonempty ι] (s : ι → EReal) : ∃ κ₀, top s = s κ₀ ∧ ∀ κ, s κ ≤ s κ₀ := by
  obtain ⟨κ₀, -, h⟩ := Finset.exists_max_image Finset.univ s ⟨Classical.arbitrary ι, Finset.mem_univ _⟩
  refine ⟨κ₀, le_antisymm ?_ ?_, fun κ => h κ (Finset.mem_univ _)⟩
  · exact Finset.fold_max_le _ |>.mpr ⟨bot_le, fun κ _ => h κ (Finset.mem_univ _)⟩
  · exact Finset.le_fold_max _ |>.mpr (.inr ⟨κ₀, Finset.mem_univ _, le_rfl⟩)

/-- A nonnegative real factor distributes over a finite sum of extended reals. -/
theorem sum_mul_coe {ι : Type} [Fintype ι] (f : ι → EReal) {r : ℝ} (hr : 0 ≤ r) :
    (∑ κ, f κ) * (r : EReal) = ∑ κ, f κ * (r : EReal) := by
  classical
  induction (Finset.univ : Finset ι) using Finset.induction_on with
  | empty => simp
  | insert a s ha ih =>
    rw [Finset.sum_insert ha, Finset.sum_insert ha, ← ih,
      EReal.right_distrib_of_nonneg_of_ne_top (by exact_mod_cast hr) (EReal.coe_ne_top r)]

/-- A finite sum of real numbers is the same among the extended reals. -/
theorem coe_sum {ι : Type} [Fintype ι] (f : ι → ℝ) : ((∑ κ, f κ : ℝ) : EReal) = ∑ κ, (f κ : EReal) := by
  classical
  induction (Finset.univ : Finset ι) using Finset.induction_on with
  | empty => simp
  | insert a s ha ih => rw [Finset.sum_insert ha, Finset.sum_insert ha, EReal.coe_add, ih]

/-- Two to the power `x / log 2` is the exponential of `x`. -/
theorem exp2_div_log (x : ℝ) : Real.rpow 2 (x * (Real.log 2)⁻¹) = Real.exp x := by
  show (2 : ℝ) ^ (x * (Real.log 2)⁻¹) = _
  rw [Real.rpow_def_of_pos (by norm_num), mul_comm x, ← mul_assoc, mul_inv_cancel₀ (Real.log_pos (by norm_num)).ne', one_mul]

/-- Softmax in base two of scores divided by `log 2` is the softmax of the scores, when these are real numbers. -/
theorem base2_eq {ι : Type} [Fintype ι] [Nonempty ι] (s : ι → ℝ) (t w : ι → EReal)
    (ht : ∀ κ, t κ = ((s κ * (Real.log 2)⁻¹ : ℝ) : EReal)) : base2 t w = weighted (fun κ => (s κ : EReal)) w := by
  have hl : 0 < (Real.log 2)⁻¹ := inv_pos.mpr (Real.log_pos (by norm_num))
  obtain ⟨a, ha, hb⟩ := top_spec t
  obtain ⟨b, hb1, hb2⟩ := top_spec (fun κ => (s κ : EReal))
  have hab : s a = s b := by
    refine le_antisymm (EReal.coe_le_coe_iff.mp (hb2 a)) ?_
    have := hb b
    rw [ht, ht, EReal.coe_le_coe_iff] at this
    exact le_of_mul_le_mul_right this hl
  have e1 : ∀ κ, Ideal.exp2 (t κ - top t) = ((Real.exp (s κ - s b) : ℝ) : EReal) := fun κ => by
    rw [ha, ht, ht, ← EReal.coe_sub, Ideal.exp2_coe, ← sub_mul, exp2_div_log, hab]
  have e2 : ∀ κ, Ideal.exp ((s κ : EReal) - top (fun κ => (s κ : EReal))) = ((Real.exp (s κ - s b) : ℝ) : EReal) := fun κ => by
    rw [hb1, ← EReal.coe_sub, Ideal.exp_coe]
  have hD : 0 < ∑ κ, Real.exp (s κ - s b) := Finset.sum_pos (fun _ _ => Real.exp_pos _) ⟨b, Finset.mem_univ _⟩
  unfold base2 weighted
  simp only [e1, e2, ← coe_sum]
  rw [Ideal.div_coe hD.ne', sum_mul_coe _ (by positivity)]
  refine Finset.sum_congr rfl fun κ _ => ?_
  rw [Ideal.div_coe hD.ne', mul_comm (w κ), mul_assoc, mul_comm (w κ), ← mul_assoc]

end Cert.Softmax
end
-- ==== Proof.StageValue.lean ====
module

public import proofs.«01_k».proof.Proof.Stage
public import proofs.«01_k».proof.Proof.Softmax

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Softmax

/-- A score against a context key is the product of the query and the key. -/
theorem pay9_apply (q kc : Vec Ideal S256x128 .bf16) (i : Fin 256) (κ : Fin 256) :
    k0_pay9 (F := Ideal) kc q (ix3 0 i κ) = ∑ e : Fin 128, q (ix2 i e) * kc (ix2 κ e) := by
  unfold k0_pay9 k0_pay8 k0_pay6
  pointwise

/-- A score against a latent key is the product of the query and the key. -/
theorem pay10_apply (q : Vec Ideal S256x128 .bf16) (k : Vec Ideal S4096x128 .bf16) (i : Fin 256) (κ : Fin 4096) :
    k0_pay10 (F := Ideal) k q (ix3 0 i κ) = ∑ e : Fin 128, q (ix2 i e) * k (ix2 κ e) := by
  unfold k0_pay10 k0_pay8 k0_pay4
  pointwise

/-- The word which the maxima start from is minus infinity. -/
theorem negInf : Ideal.ofBits FTy.f32 0xFF800000#32 = ⊥ := by simp [Ideal.ofBits, Ideal.ieee]

/-- Two to the power of a score less the row's greatest. -/
theorem pay14_apply (S : Vec Ideal S1x256x4352 .f32) (i : Fin 256) (κ : Fin 4352) :
    k0_pay14 (F := Ideal) S (ix2 i κ) = Ideal.exp2 (S (ix3 0 i κ) - top fun κ' => S (ix3 0 i κ')) := by
  unfold k0_pay14
  pointwise
  rw [show Ideal.ofBits FTy.f32 4286578688#32 = ⊥ from negInf]
  rfl

/-- The row's sum of powers. -/
theorem pay15_apply (S : Vec Ideal S1x256x4352 .f32) (i : Fin 256) :
    k0_pay15 (F := Ideal) S (ix2 i 0) = ∑ κ, k0_pay14 (F := Ideal) S (ix2 i κ)  := by
  unfold k0_pay15
  pointwise

/-- The stored probabilities are the powers. -/
theorem pay16_apply (S : Vec Ideal S1x256x4352 .f32) (i : Fin 256) (κ : Fin 4352) :
    k0_pay16 (F := Ideal) S (ix3 0 i κ) = k0_pay14 (F := Ideal) S (ix2 i κ) := by
  unfold k0_pay16
  pointwise

/-- The powers against the context values. -/
theorem pay17_apply (vc : FVec Ideal S256x128 .bf16) (p : Vec Ideal S256x256 .bf16) (i : Fin 256) (d : Fin 128) :
    k0_pay17 (k0_pay7 vc) p (ix2 i d) = ∑ κ : Fin 256, p (ix2 i κ) * vc (ix2 κ d) := by
  unfold k0_pay17 k0_pay7
  pointwise

/-- The powers against the latent values, added to the context's part, over the row's sum. -/
theorem pay18_apply (v11 : FVec Ideal S4096x128 .bf16) (v44 : FVec Ideal S256x1 .f32) (v52 : FVec Ideal S256x128 .f32) (v55 : Vec Ideal S256x4096 .bf16) (i : Fin 256) (d : Fin 128) :
    k0_pay18 (k0_pay5 v11) v44 v52 v55 (ix2 i d)
      = Ideal.div (v52 (ix2 i d) + ∑ κ : Fin 4096, v55 (ix2 i κ) * v11 (ix2 κ d)) (v44 (ix2 i 0)) := by
  unfold k0_pay18 k0_pay5
  pointwise

/-- Two lists of keys (or values) side by side, the context's first. -/
def joined {α : Type} (a : Fin 256 → α) (b : Fin 4096 → α) (κ : Fin 4352) : α :=
  if h : κ.val < 256 then a ⟨κ.val, h⟩ else b ⟨κ.val - 256, by have := κ.isLt; omega⟩

/-- A sum over all keys is the context's part plus the latent part. -/
theorem sum_joined (f : Fin 4352 → EReal) :
    ∑ κ, f κ = (∑ κ : Fin 256, f ⟨κ.val, by have := κ.isLt; omega⟩) + ∑ κ : Fin 4096, f ⟨256 + κ.val, by have := κ.isLt; omega⟩ :=
  Fin.sum_univ_add (a := 256) (b := 4096) f

/-- Side by side, an index below 256 reads the first list. -/
theorem joined_ctx {α : Type} (a : Fin 256 → α) (b : Fin 4096 → α) (κ : Fin 256) (h) : joined a b ⟨κ.val, h⟩ = a κ := by
  unfold joined; rw [dif_pos κ.isLt]

/-- Side by side, an index from 256 on reads the second list. -/
theorem joined_lat {α : Type} (a : Fin 256 → α) (b : Fin 4096 → α) (κ : Fin 4096) (h) : joined a b ⟨256 + κ.val, h⟩ = b κ := by
  unfold joined; rw [dif_neg (by simp)]; congr 1; apply Fin.ext; simp

/-- A stage at an entry: the base-two softmax of the row's scores on the column's values. -/
theorem stage_apply (q : Vec Ideal S256x128 .bf16) (k v : Vec Ideal S4096x128 .bf16) (kc vc : Vec Ideal S256x128 .bf16) (i : Fin 256) (d : Fin 128) :
    stage (F := Ideal) q k v kc vc (ix2 i d)
      = base2 (joined (fun κ => ∑ e : Fin 128, q (ix2 i e) * kc (ix2 κ e)) (fun κ => ∑ e : Fin 128, q (ix2 i e) * k (ix2 κ e)))
          (joined (fun κ => vc (ix2 κ d)) (fun κ => v (ix2 κ d))) := by
  have hS : ∀ κ : Fin 4352, plane (F := Ideal) (k0_pay9 kc q) (k0_pay10 k q) (ix3 0 i κ)
      = joined (fun κ => ∑ e : Fin 128, q (ix2 i e) * kc (ix2 κ e)) (fun κ => ∑ e : Fin 128, q (ix2 i e) * k (ix2 κ e)) κ := fun κ => by
    unfold plane joined
    show (if h : κ.val < 256 then k0_pay9 (F := Ideal) kc q (ix3 0 i ⟨κ.val, h⟩) else k0_pay10 (F := Ideal) k q (ix3 0 i ⟨κ.val - 256, _⟩)) = _
    simp only [pay9_apply, pay10_apply]
  unfold stage
  rw [pay18_apply, pay17_apply, pay15_apply]
  unfold base2
  rw [sum_joined (fun κ => Ideal.exp2 (_ - _) * _)]
  have hP : ∀ κ : Fin 4352, k0_pay14 (F := Ideal) (plane (k0_pay9 kc q) (k0_pay10 k q)) (ix2 i κ)
      = Ideal.exp2 (joined (fun κ => ∑ e : Fin 128, q (ix2 i e) * kc (ix2 κ e)) (fun κ => ∑ e : Fin 128, q (ix2 i e) * k (ix2 κ e)) κ
        - top (joined (fun κ => ∑ e : Fin 128, q (ix2 i e) * kc (ix2 κ e)) (fun κ => ∑ e : Fin 128, q (ix2 i e) * k (ix2 κ e)))) := fun κ => by
    rw [pay14_apply, hS]
    congr 2
    exact congrArg top (funext hS)
  have hc : ∀ κ : Fin 256, probCtx (F := Ideal) (k0_pay16 (plane (k0_pay9 kc q) (k0_pay10 k q))) (ix2 i κ)
      = k0_pay14 (F := Ideal) (plane (k0_pay9 kc q) (k0_pay10 k q)) (ix2 i ⟨κ.val, by have := κ.isLt; omega⟩) := fun κ => pay16_apply _ i _
  have hl : ∀ κ : Fin 4096, probLat (F := Ideal) (k0_pay16 (plane (k0_pay9 kc q) (k0_pay10 k q))) (ix2 i κ)
      = k0_pay14 (F := Ideal) (plane (k0_pay9 kc q) (k0_pay10 k q)) (ix2 i ⟨256 + κ.val, by have := κ.isLt; omega⟩) := fun κ => pay16_apply _ i _
  simp only [hc, hl, hP, joined_ctx, joined_lat]

end Cert.KernelIdeal.Attn
end
-- ==== Proof.Block.lean ====
module

public import proofs.«01_k».proof.Proof.StageValue
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Softmax

/-- Entry `j` of a point's block of the attention: row `j 0` of the queries under the head `j 1 / 128`, on lane `j 1 % 128` of the values. -/
def blockAt (x0 : Vec Ideal S512x512 .bf16) (x1 x2 : Vec Ideal S4096x128 .bf16) (x3 x4 : Vec Ideal S256x128 .bf16) (j : S512x512.Idx) : EReal :=
  base2 (joined (fun κ => ∑ e : Fin 128, x0 (ix2 (j 0) ⟨128 * ((j 1).val / 128) + e.val, by have h : (j 1).val < 512 := (j 1).isLt; have := e.isLt; omega⟩) * x3 (ix2 κ e))
      (fun κ => ∑ e : Fin 128, x0 (ix2 (j 0) ⟨128 * ((j 1).val / 128) + e.val, by have h : (j 1).val < 512 := (j 1).isLt; have := e.isLt; omega⟩) * x1 (ix2 κ e)))
    (joined (fun κ => x4 (ix2 κ ⟨(j 1).val % 128, Nat.mod_lt _ (by decide)⟩)) (fun κ => x2 (ix2 κ ⟨(j 1).val % 128, Nat.mod_lt _ (by decide)⟩)))

/-- A stage's store, read at an entry of the rectangle it goes to, is that entry of the block. -/
theorem piece_eq (x0 : Vec Ideal S512x512 .bf16) (x1 x2 : Vec Ideal S4096x128 .bf16) (x3 x4 : Vec Ideal S256x128 .bf16) (a h : Nat)
    (inb : ∀ i, (![a, 128 * h] : Fin 2 → Nat) i + S256x128.size i ≤ S512x512.size i) (x : (Rect.unit (s := S512x512) ![a, 128 * h] S256x128.size inb).shape.Idx) :
    stage (F := Ideal) (View.ld x0 (Rect.unit ![a, 128 * h] S256x128.size inb)) x1 x2 x3 x4 x
      = blockAt x0 x1 x2 x3 x4 ((Rect.unit (s := S512x512) ![a, 128 * h] S256x128.size inb).emb x) := by
  obtain ⟨i, d, rfl⟩ : ∃ (i : Fin 256) (d : Fin 128), x = ix2 i d := ⟨x 0, x 1, by funext a; fin_cases a <;> rfl⟩
  refine (stage_apply _ _ _ _ _ i d).trans ?_
  have hd := d.isLt
  have e1 : (((Rect.unit (s := S512x512) ![a, 128 * h] S256x128.size inb).emb (ix2 i d)) 1).val = 128 * h + d.val := by
    show 128 * h + 1 * d.val = _; omega
  have e0 : (((Rect.unit (s := S512x512) ![a, 128 * h] S256x128.size inb).emb (ix2 i d)) 0).val = a + i.val := by
    show a + 1 * i.val = _; omega
  have hq : ∀ e : Fin 128, View.ld x0 (Rect.unit ![a, 128 * h] S256x128.size inb) (ix2 i e)
      = x0 (ix2 (((Rect.unit (s := S512x512) ![a, 128 * h] S256x128.size inb).emb (ix2 i d)) 0)
          ⟨128 * ((((Rect.unit (s := S512x512) ![a, 128 * h] S256x128.size inb).emb (ix2 i d)) 1).val / 128) + e.val, by
            have h' : (((Rect.unit (s := S512x512) ![a, 128 * h] S256x128.size inb).emb (ix2 i d)) 1).val < 512 := (((Rect.unit (s := S512x512) ![a, 128 * h] S256x128.size inb).emb (ix2 i d)) 1).isLt
            have := e.isLt; omega⟩) := fun e => by
    refine congrArg x0 ?_
    funext k; apply Fin.ext
    fin_cases k
    · rfl
    · show 128 * h + 1 * e.val = 128 * ((((Rect.unit (s := S512x512) ![a, 128 * h] S256x128.size inb).emb (ix2 i d)) 1).val / 128) + e.val
      rw [e1]; omega
  have hdd : (⟨(((Rect.unit (s := S512x512) ![a, 128 * h] S256x128.size inb).emb (ix2 i d)) 1).val % 128, Nat.mod_lt _ (by decide)⟩ : Fin 128) = d := by
    apply Fin.ext; show (((Rect.unit (s := S512x512) ![a, 128 * h] S256x128.size inb).emb (ix2 i d)) 1).val % 128 = _
    rw [e1]; omega
  unfold blockAt
  simp only [hq, hdd]

/-- What a point leaves in the attention's staging buffer, entry by entry. -/
theorem out7_apply (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14)
    (x0 x1 x2 x3 x4 x5 x6) (j : S512x512.Idx) :
    out0_A_7 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 j
      = blockAt x0 x1 x2 x3 x4 j := by
  rw [out7]
  refine View.canon_apply_of_pieces (Val := Elt Ideal) (e := .bf16) (blockAt x0 x1 x2 x3 x4) _ ?_ j ?_
  · intro p hp
    simp only [List.mem_cons, List.not_mem_nil, or_false] at hp
    rcases hp with rfl | rfl | rfl | rfl | rfl | rfl | rfl | rfl
    · exact piece_eq x0 x1 x2 x3 x4 256 3 _
    · exact piece_eq x0 x1 x2 x3 x4 256 2 _
    · exact piece_eq x0 x1 x2 x3 x4 256 1 _
    · exact piece_eq x0 x1 x2 x3 x4 256 0 _
    · exact piece_eq x0 x1 x2 x3 x4 0 3 _
    · exact piece_eq x0 x1 x2 x3 x4 0 2 _
    · exact piece_eq x0 x1 x2 x3 x4 0 1 _
    · exact piece_eq x0 x1 x2 x3 x4 0 0 _
  · have h0 : (j 0).val < 512 := (j 0).isLt
    have h1 : (j 1).val < 512 := (j 1).isLt
    have key : ∀ a b : Nat, ∀ inb : (∀ i, (![a, b] : Fin 2 → Nat) i + S256x128.size i ≤ S512x512.size i), a ≤ (j 0).val → (j 0).val < a + 256 → b ≤ (j 1).val → (j 1).val < b + 128 →
        j ∈ (Rect.unit (s := S512x512) ![a, b] S256x128.size inb).set := fun a b inb k0 k1 k2 k3 => by
      rw [Rect.mem_set_unit]
      intro k
      fin_cases k
      · exact ⟨k0, k1⟩
      · exact ⟨k2, k3⟩
    rcases (show (j 0).val < 256 ∨ 256 ≤ (j 0).val by omega) with r | r <;>
      rcases (show (j 1).val < 128 ∨ (128 ≤ (j 1).val ∧ (j 1).val < 256) ∨ (256 ≤ (j 1).val ∧ (j 1).val < 384) ∨ 384 ≤ (j 1).val by omega) with k | k | k | k
    · exact ⟨_, List.Mem.tail _ (List.Mem.tail _ (List.Mem.tail _ (List.Mem.tail _ (List.Mem.tail _ (List.Mem.tail _ (List.Mem.tail _ (List.Mem.head _))))))), key 0 0 inb_S512x512_S256x128_0_0 (by omega) (by omega) (by omega) (by omega)⟩
    · exact ⟨_, List.Mem.tail _ (List.Mem.tail _ (List.Mem.tail _ (List.Mem.tail _ (List.Mem.tail _ (List.Mem.tail _ (List.Mem.head _)))))), key 0 128 inb_S512x512_S256x128_0_128 (by omega) (by omega) (by omega) (by omega)⟩
    · exact ⟨_, List.Mem.tail _ (List.Mem.tail _ (List.Mem.tail _ (List.Mem.tail _ (List.Mem.tail _ (List.Mem.head _))))), key 0 256 inb_S512x512_S256x128_0_256 (by omega) (by omega) (by omega) (by omega)⟩
    · exact ⟨_, List.Mem.tail _ (List.Mem.tail _ (List.Mem.tail _ (List.Mem.tail _ (List.Mem.head _)))), key 0 384 inb_S512x512_S256x128_0_384 (by omega) (by omega) (by omega) (by omega)⟩
    · exact ⟨_, List.Mem.tail _ (List.Mem.tail _ (List.Mem.tail _ (List.Mem.head _))), key 256 0 inb_S512x512_S256x128_256_0 (by omega) (by omega) (by omega) (by omega)⟩
    · exact ⟨_, List.Mem.tail _ (List.Mem.tail _ (List.Mem.head _)), key 256 128 inb_S512x512_S256x128_256_128 (by omega) (by omega) (by omega) (by omega)⟩
    · exact ⟨_, List.Mem.tail _ (List.Mem.head _), key 256 256 inb_S512x512_S256x128_256_256 (by omega) (by omega) (by omega) (by omega)⟩
    · exact ⟨_, List.Mem.head _, key 256 384 inb_S512x512_S256x128_256_384 (by omega) (by omega) (by omega) (by omega)⟩

end Cert.KernelIdeal.Attn
end
-- ==== Proof.Arrays.lean ====
module

public import proofs.«01_k».proof.Proof.Block

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Softmax

variable (m : (ℓ : Loc nD τ sig) → Buf (Elt Ideal) ℓ)

/-- Which blocks of the queries, keys, values, context keys, context values and result a grid point has: the point counts batch, key head and query block. -/
theorem idx (t : Fin cfg0.N) : win0_0.index t = ![8 * (t.val / 32) + t.val % 8, t.val / 8 % 4]
    ∧ win0_1.index t = ![t.val / 32, 16 + t.val / 8 % 4] ∧ win0_2.index t = ![t.val / 32, t.val / 8 % 4]
    ∧ win0_3.index t = ![t.val / 32, t.val / 8 % 4] ∧ win0_4.index t = ![t.val / 32, t.val / 8 % 4]
    ∧ win0_7.index t = ![8 * (t.val / 32) + t.val % 8, t.val / 8 % 4] :=
  (by decide +kernel : ∀ t : Fin grid0.N, win0_0.index t = ![8 * (t.val / 32) + t.val % 8, t.val / 8 % 4]
    ∧ win0_1.index t = ![t.val / 32, 16 + t.val / 8 % 4] ∧ win0_2.index t = ![t.val / 32, t.val / 8 % 4]
    ∧ win0_3.index t = ![t.val / 32, t.val / 8 % 4] ∧ win0_4.index t = ![t.val / 32, t.val / 8 % 4]
    ∧ win0_7.index t = ![8 * (t.val / 32) + t.val % 8, t.val / 8 % 4]) t

/-- Which rows of the two feed-forward weights, and of their copies, a grid point has: past the last block it keeps the last. -/
theorem idxW (t : Fin cfg0.N) : win0_5.index t = ![min t.val 127, 0] ∧ win0_6.index t = ![min t.val 85, 0]
    ∧ win0_8.index t = ![min t.val 127, 0] ∧ win0_9.index t = ![min t.val 85, 0] :=
  (by decide +kernel : ∀ t : Fin grid0.N, win0_5.index t = ![min t.val 127, 0] ∧ win0_6.index t = ![min t.val 85, 0]
    ∧ win0_8.index t = ![min t.val 127, 0] ∧ win0_9.index t = ![min t.val 85, 0]) t

/-- Entry `j` of the attention, from the four arrays the call reads: queries and keys side by side in `qk`. -/
def attnAt (qk : Vec Ideal S16384x2560 .bf16) (v : Vec Ideal S16384x6656 .bf16) (kc : Vec Ideal S1024x512 .bf16) (vc : Vec Ideal S1024x4608 .bf16)
    (r : Fin 16384) (col : Fin 2048) : EReal :=
  base2 (joined
      (fun κ => ∑ e : Fin 128, qk (ix2 r ⟨128 * (col.val / 128) + e.val, by have := col.isLt; have := e.isLt; omega⟩)
        * kc (ix2 ⟨256 * (r.val / 4096) + κ.val, by have := r.isLt; have := κ.isLt; omega⟩ ⟨128 * (col.val / 512) + e.val, by have := col.isLt; have := e.isLt; omega⟩))
      (fun κ => ∑ e : Fin 128, qk (ix2 r ⟨128 * (col.val / 128) + e.val, by have := col.isLt; have := e.isLt; omega⟩)
        * qk (ix2 ⟨4096 * (r.val / 4096) + κ.val, by have := r.isLt; have := κ.isLt; omega⟩ ⟨2048 + 128 * (col.val / 512) + e.val, by have := col.isLt; have := e.isLt; omega⟩)))
    (joined
      (fun κ => vc (ix2 ⟨256 * (r.val / 4096) + κ.val, by have := r.isLt; have := κ.isLt; omega⟩ ⟨128 * (col.val / 512) + col.val % 128, by have := col.isLt; omega⟩))
      (fun κ => v (ix2 ⟨4096 * (r.val / 4096) + κ.val, by have := r.isLt; have := κ.isLt; omega⟩ ⟨128 * (col.val / 512) + col.val % 128, by have := col.isLt; omega⟩)))

/-- The queries' block of a point, at an entry. -/
theorem iblk0_apply (c : Dev nD) (t : Fin cfg0.N) (a : Fin 512) (b : Fin 512) (r : Fin 16384) (k : Fin 2560)
    (hr : r.val = 512 * (8 * (t.val / 32) + t.val % 8) + a.val) (hk : k.val = 512 * (t.val / 8 % 4) + b.val) :
    iblk m c 0 t (ix2 a b) = V m c main_v9 (ix2 r k) := by
  have h := (idx t).1
  blk_ext [iblk, h]

/-- The latent keys' block of a point, at an entry. -/
theorem iblk1_apply (c : Dev nD) (t : Fin cfg0.N) (a : Fin 4096) (b : Fin 128) (r : Fin 16384) (k : Fin 2560)
    (hr : r.val = 4096 * (t.val / 32) + a.val) (hk : k.val = 128 * (16 + t.val / 8 % 4) + b.val) :
    iblk m c 1 t (ix2 a b) = V m c main_v9 (ix2 r k) := by
  have h := (idx t).2.1
  blk_ext [iblk, h]

/-- The latent values' block of a point, at an entry. -/
theorem iblk2_apply (c : Dev nD) (t : Fin cfg0.N) (a : Fin 4096) (b : Fin 128) (r : Fin 16384) (k : Fin 6656)
    (hr : r.val = 4096 * (t.val / 32) + a.val) (hk : k.val = 128 * (t.val / 8 % 4) + b.val) :
    iblk m c 2 t (ix2 a b) = V m c main_v11 (ix2 r k) := by
  have h := (idx t).2.2.1
  blk_ext [iblk, h]

/-- The context keys' block of a point, at an entry. -/
theorem iblk3_apply (c : Dev nD) (t : Fin cfg0.N) (a : Fin 256) (b : Fin 128) (r : Fin 1024) (k : Fin 512)
    (hr : r.val = 256 * (t.val / 32) + a.val) (hk : k.val = 128 * (t.val / 8 % 4) + b.val) :
    iblk m c 3 t (ix2 a b) = V m c main_v13 (ix2 r k) := by
  have h := (idx t).2.2.2.1
  blk_ext [iblk, h]

/-- The context values' block of a point, at an entry. -/
theorem iblk4_apply (c : Dev nD) (t : Fin cfg0.N) (a : Fin 256) (b : Fin 128) (r : Fin 1024) (k : Fin 4608)
    (hr : r.val = 256 * (t.val / 32) + a.val) (hk : k.val = 128 * (t.val / 8 % 4) + b.val) :
    iblk m c 4 t (ix2 a b) = V m c main_v15 (ix2 r k) := by
  have h := (idx t).2.2.2.2.1
  blk_ext [iblk, h]

/-- Lists whose parts agree are equal when put side by side. -/
theorem joined_congr {α : Type} {a a' : Fin 256 → α} {b b' : Fin 4096 → α} (h : ∀ κ, a κ = a' κ) (h' : ∀ κ, b κ = b' κ) : joined a b = joined a' b' := by
  rw [funext h, funext h']

/-- The attention's result array when the region ends, entry by entry. -/
theorem final7 (c : Dev nD) : (dats (F := Ideal) m 0 c).arrAt 7 cfg0.N
    = fun i : S16384x2048.Idx => attnAt (V m c main_v9) (V m c main_v11) (V m c main_v13) (V m c main_v15) (i 0) (i 1) := by
  refine (dats m 0 c).arrAt_eq_of_covers 7 _ (by decide +kernel) fun t hf y => ?_
  blk_simp
  rw [after0_7]
  obtain ⟨-, -, -, -, -, i7⟩ := idx t
  simp only [outsAt0]
  refine (out7_apply ..).trans ?_
  have ht : t.val < 128 := Nat.lt_of_lt_of_eq t.isLt N_0
  have y0 : (y 0).val < 512 := (y 0).isLt
  have y1 : (y 1).val < 512 := (y 1).isLt
  have hr : ((((View.whole main_v18_0).slice (win0_7.rect t)).emb y 0 : Fin 16384)).val = 512 * (8 * (t.val / 32) + t.val % 8) + (y 0).val := by
    blk_simp [i7]; omega
  have hc : ((((View.whole main_v18_0).slice (win0_7.rect t)).emb y 1 : Fin 2048)).val = 512 * (t.val / 8 % 4) + (y 1).val := by
    blk_simp [i7]; omega
  generalize (((View.whole main_v18_0).slice (win0_7.rect t)).emb y 0 : Fin 16384) = r at hr ⊢
  generalize (((View.whole main_v18_0).slice (win0_7.rect t)).emb y 1 : Fin 2048) = k at hc ⊢
  unfold blockAt attnAt
  refine congrArg₂ base2 (joined_congr (fun κ => Finset.sum_congr rfl fun e _ => congrArg₂ (· * ·) (iblk0_apply m c t _ _ _ _ ?_ ?_) (iblk3_apply m c t _ _ _ _ ?_ ?_))
    (fun κ => Finset.sum_congr rfl fun e _ => congrArg₂ (· * ·) (iblk0_apply m c t _ _ _ _ ?_ ?_) (iblk1_apply m c t _ _ _ _ ?_ ?_)))
    (joined_congr (fun κ => iblk4_apply m c t _ _ _ _ ?_ ?_) (fun κ => iblk2_apply m c t _ _ _ _ ?_ ?_)) <;> (try dsimp only) <;> omega

/-- What a point stores of the up-projection's weights is the cast of its block. -/
theorem out8_eq (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14)
    (x0 x1 x2 x3 x4 x5 x6) :
    out0_A_8 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6
      = k0_pay2 x5 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  rw [View.canon_unit_zero (S := S32x22016) (z2a (n := 32) (m := 22016))]
  simp only [View.readAt_eq_ld, harg8.read_unread]
  exact congrArg _ (ld_whole ..)

/-- What a point stores of the down-projection's weights is the cast of its block. -/
theorem out9_eq (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14)
    (x0 x1 x2 x3 x4 x5 x6) :
    out0_A_9 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6
      = k0_pay3 x6 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  rw [View.canon_unit_zero (S := S128x4096) (z2a (n := 128) (m := 4096))]
  simp only [View.readAt_eq_ld, harg9.read_unread]
  exact congrArg _ (ld_whole ..)

/-- The cast of the up-projection's weights, when the region ends, is the weights. -/
theorem final8 (c : Dev nD) : (dats (F := Ideal) m 0 c).arrAt 8 cfg0.N
    = fun i : S4096x22016.Idx => V m c main_v16 i := by
  refine (dats m 0 c).arrAt_eq_of_covers 8 _ (by decide +kernel) fun t hf y => ?_
  blk_simp
  rw [after0_8]
  obtain ⟨i5, i6, i8, i9⟩ := idxW t
  simp only [outsAt0]
  rw [out8_eq]
  unfold k0_pay2
  pointwise
  blk_ext [iblk, i5, i6, i8, i9]

/-- The cast of the down-projection's weights, when the region ends, is the weights. -/
theorem final9 (c : Dev nD) : (dats (F := Ideal) m 0 c).arrAt 9 cfg0.N
    = fun i : S11008x4096.Idx => V m c main_v17 i := by
  refine (dats m 0 c).arrAt_eq_of_covers 9 _ (by decide +kernel) fun t hf y => ?_
  blk_simp
  rw [after0_9]
  obtain ⟨i5, i6, i8, i9⟩ := idxW t
  simp only [outsAt0]
  rw [out9_eq]
  unfold k0_pay3
  pointwise
  blk_ext [iblk, i5, i6, i8, i9]

end Cert.KernelIdeal.Attn
end
-- ==== Proof.Prep.lean ====
module

public import proofs.«01_k».proof.Proof.Arrays

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The host's scale of the queries: one over `log 2 · √128`. -/
theorem scale_eq : Ideal.div 1 (Ideal.log (Ideal.ofBits FTy.f32 1073741824#32) * Ideal.sqrt (Ideal.ofBits FTy.f32 1124073472#32))
    = ((1 / (Real.log 2 * Real.sqrt 128) : ℝ) : EReal) := by
  have hl := Real.log_pos (show (1 : ℝ) < 2 by norm_num)
  rw [show Ideal.ofBits FTy.f32 1124073472#32 = ((128 : ℝ) : EReal) by simp [Ideal.ofBits, Ideal.ieee, -EReal.coe_mul]; norm_num,
    show Ideal.ofBits FTy.f32 1073741824#32 = ((2 : ℝ) : EReal) by simp [Ideal.ofBits, Ideal.ieee, -EReal.coe_mul]; norm_num,
    Ideal.sqrt_coe, if_neg (by norm_num), Ideal.log_coe, if_neg (by norm_num), ← EReal.coe_mul, Ideal.div_coe (by positivity), one_mul]

/-- The queries' columns of the first array: the query times the scale. -/
theorem prepQ (c : Dev nD) (r : Fin 16384) (h : Fin 16) (e : Fin 128) (k : Fin 2560) (hk : k.val = 128 * h.val + e.val) :
    V m c main_v9 (ix2 r k) = HMul.hMul (α := EReal) (m ((c : Thread nD τ).loc main_arg0) (ix4 ⟨r.val / 4096, by have := r.isLt; omega⟩ ⟨r.val % 4096, by omega⟩ h e)) ((1 / (Real.log 2 * Real.sqrt 128) : ℝ) : EReal) := by
  have := h.isLt; have := e.isLt
  entry_read
  pointwise
  rw [dif_pos (by omega : k.val < 2048)]
  refine congrArg₂ (fun x y : EReal => x * y) ?_ scale_eq
  blk_ext

/-- The keys' columns of the first array. -/
theorem prepK (c : Dev nD) (r : Fin 16384) (g : Fin 4) (e : Fin 128) (k : Fin 2560) (hk : k.val = 2048 + 128 * g.val + e.val) :
    V m c main_v9 (ix2 r k) = m ((c : Thread nD τ).loc main_arg1) (ix4 ⟨r.val / 4096, by have := r.isLt; omega⟩ ⟨r.val % 4096, by omega⟩ g e) := by
  have := g.isLt; have := e.isLt
  entry_read
  pointwise
  rw [dif_neg (by omega : ¬k.val < 2048)]
  blk_ext

/-- The latent values' array. -/
theorem prepV (c : Dev nD) (r : Fin 16384) (k : Fin 6656) :
    V m c main_v11 (ix2 r k) = m ((c : Thread nD τ).loc main_arg2) (ix3 ⟨r.val / 4096, by have := r.isLt; omega⟩ ⟨r.val % 4096, by omega⟩ k) := by
  entry_read
  pointwise

/-- The context keys' array. -/
theorem prepKc (c : Dev nD) (r : Fin 1024) (g : Fin 4) (e : Fin 128) (k : Fin 512) (hk : k.val = 128 * g.val + e.val) :
    V m c main_v13 (ix2 r k) = m ((c : Thread nD τ).loc main_arg3) (ix4 ⟨r.val / 256, by have := r.isLt; omega⟩ ⟨r.val % 256, by omega⟩ g e) := by
  have := g.isLt; have := e.isLt
  entry_read
  pointwise
  blk_ext

/-- The context values' array. -/
theorem prepVc (c : Dev nD) (r : Fin 1024) (k : Fin 4608) :
    V m c main_v15 (ix2 r k) = m ((c : Thread nD τ).loc main_arg4) (ix3 ⟨r.val / 256, by have := r.isLt; omega⟩ ⟨r.val % 256, by omega⟩ k) := by
  entry_read
  pointwise

/-- The up-projection's weights as the call reads them. -/
theorem prepUp (c : Dev nD) (r : Fin 4096) (k : Fin 22016) :
    V m c main_v16 (ix2 r k) = m ((c : Thread nD τ).loc main_arg5) (ix3 0 r k) := by
  entry_read
  pointwise

/-- The down-projection's weights as the call reads them. -/
theorem prepDown (c : Dev nD) (r : Fin 11008) (k : Fin 4096) :
    V m c main_v17 (ix2 r k) = m ((c : Thread nD τ).loc main_arg6) (ix3 0 r k) := by
  entry_read
  pointwise

end Cert.KernelIdeal.Attn
end
-- ==== Proof.Ref.lean ====
module

public import proofs.«01_k».proof.Proof.StageValue
public import proofs.«01_k».proof.Proof.Gen.ReferenceIdeal.Read

@[expose] public section

set_option maxRecDepth 16384

noncomputable section

namespace Cert.ReferenceIdeal.Attn

open Cert.ReferenceIdeal Cert.ReferenceIdeal.Read Idealize.ShloMosaic Idealize.ShloMosaic.TcCoe Idealize.SL.Sem
open Cert.Softmax Cert.KernelIdeal.Attn

/-- The contents of a float array of a shape, over the extended reals. -/
abbrev C (S : Shape) := (⟨S, .f32⟩ : BufTy).Contents (Elt Ideal)

variable (x0 : C S4x4096x16x128) (x1 : C S4x4096x4x128) (x2 : C S4x4096x6656) (x3 : C S4x256x4x128) (x4 : C S4x256x4608)

/-- The reference's keys: the context's, then the latent ones. -/
theorem v4_apply (b : Fin 4) (κ : Fin 4352) (g : Fin 4) (e : Fin 128) :
    val_main_v4 (F := Ideal) x1 x3 (ix4 b κ g e) = joined (fun κ => x3 (ix4 b κ g e)) (fun κ => x1 (ix4 b κ g e)) κ := by
  unfold val_main_v4
  pointwise
  rfl

/-- The reference's values: the context's, then the latent ones. -/
theorem v5_apply (b : Fin 4) (κ : Fin 4352) (g : Fin 4) (d : Fin 128) :
    val_main_v5 (F := Ideal) x2 x4 (ix4 b κ g d) = joined (fun κ => x4 (ix3 b κ ⟨128 * g.val + d.val, by have := g.isLt; have := d.isLt; omega⟩))
      (fun κ => x2 (ix3 b κ ⟨128 * g.val + d.val, by have := g.isLt; have := d.isLt; omega⟩)) κ := by
  unfold val_main_v5 val_main_v3 val_main_v1 val_main_v2 val_main_v0
  pointwise
  unfold joined
  simp only [Nat.mul_comm g.val 128]

/-- The reference's score of a query and a key: their product divided by `√128`. -/
def refScore (b g h : Fin 4) (q : Fin 4096) (κ : Fin 4352) : EReal :=
  (∑ e : Fin 128, joined (fun κ => x3 (ix4 b κ g e)) (fun κ => x1 (ix4 b κ g e)) κ * x0 (ix4 b q ⟨4 * g.val + h.val, by have := g.isLt; have := h.isLt; omega⟩ e)) * ((1 / Real.sqrt 128 : ℝ) : EReal)

/-- The reference's scale is `1 / √128` everywhere. -/
theorem v11_apply (i) : val_main_v11 (F := Ideal) i = ((1 / Real.sqrt 128 : ℝ) : EReal) := by
  idx_vars i
  unfold val_main_v11 val_main_v10 val_main_v9 val_main_cst val_main_cst_0
  pointwise
  rw [show Ideal.ofBits FTy.f32 1124073472#32 = ((128 : ℝ) : EReal) by simp [Ideal.ofBits, Ideal.ieee, -EReal.coe_mul]; norm_num,
    Ideal.sqrt_coe, if_neg (by norm_num), Ideal.div_coe (by positivity), one_mul]

/-- The reference's array of scores, at an entry. -/
theorem v12_apply (b g h : Fin 4) (q : Fin 4096) (κ : Fin 4352) :
    val_main_v12 (F := Ideal) x0 x1 x3 (ix5 b g h q κ) = refScore x0 x1 x3 b g h q κ := by
  unfold val_main_v12 val_main_v8 val_main_v7 val_main_v6
  pointwise
  unfold refScore
  simp only [v4_apply, v11_apply, Nat.mul_comm g.val 4]

/-- The greatest score of a query. -/
theorem v13_apply (b g h : Fin 4) (q : Fin 4096) :
    val_main_v13 (F := Ideal) x0 x1 x3 (ix4 b g h q) = top (refScore x0 x1 x3 b g h q) := by
  rw [show refScore x0 x1 x3 b g h q = fun κ => val_main_v12 (F := Ideal) x0 x1 x3 (ix5 b g h q κ) from funext fun κ => (v12_apply x0 x1 x3 b g h q κ).symm]
  unfold val_main_v13 val_main_cst_1
  generalize val_main_v12 (F := Ideal) x0 x1 x3 = y
  pointwise
  rw [show Ideal.ofBits FTy.f32 4286578688#32 = ⊥ from negInf]
  rfl

/-- The greatest score spread over the keys. -/
theorem v17_apply (b g h : Fin 4) (q : Fin 4096) (κ : Fin 4352) :
    val_main_v17 (F := Ideal) x0 x1 x3 (ix5 b g h q κ) = top (refScore x0 x1 x3 b g h q) := by
  rw [← v13_apply x0 x1 x3 b g h q]
  rw [Read.val_main_v17_apply, Read.val_main_v16_apply, Read.val_main_v15_apply, Read.val_main_v14_apply, Read.val_main_cst_2_apply]
  generalize val_main_v13 (F := Ideal) x0 x1 x3 = y
  have hi : idx_main_v16 (idx_main_v17 (ix5 b g h q κ)) = ix4 b g h q := by funext a; fin_cases a <;> rfl
  rw [hi]
  refine (congrArg (max · (y (ix4 b g h q))) negInf).trans ?_
  exact max_bot_left _

/-- The exponential of a score less the greatest. -/
theorem v19_apply (b g h : Fin 4) (q : Fin 4096) (κ : Fin 4352) :
    val_main_v19 (F := Ideal) x0 x1 x3 (ix5 b g h q κ) = Ideal.exp (refScore x0 x1 x3 b g h q κ - top (refScore x0 x1 x3 b g h q)) := by
  rw [← v17_apply x0 x1 x3 b g h q κ, ← v12_apply x0 x1 x3 b g h q κ]
  rfl

/-- The sum of a query's exponentials, spread over the keys. -/
theorem v22_apply (b g h : Fin 4) (q : Fin 4096) (κ : Fin 4352) :
    val_main_v22 (F := Ideal) x0 x1 x3 (ix5 b g h q κ) = ∑ κ, val_main_v19 (F := Ideal) x0 x1 x3 (ix5 b g h q κ) := by
  unfold val_main_v22 val_main_v21 val_main_v20 val_main_cst_3
  generalize val_main_v19 (F := Ideal) x0 x1 x3 = y
  pointwise

/-- The values weighted with the softmax, at an entry. -/
theorem v24_apply (b g h : Fin 4) (q : Fin 4096) (d : Fin 128) :
    val_main_v24 (F := Ideal) x0 x1 x2 x3 x4 (ix5 b g d h q) = weighted (refScore x0 x1 x3 b g h q)
      (joined (fun κ => x4 (ix3 b κ ⟨128 * g.val + d.val, by have := g.isLt; have := d.isLt; omega⟩))
      (fun κ => x2 (ix3 b κ ⟨128 * g.val + d.val, by have := g.isLt; have := d.isLt; omega⟩))) := by
  unfold weighted
  simp only [← v19_apply, ← v5_apply]
  have hz := v22_apply x0 x1 x3 b g h q
  have hw := v5_apply x2 x4 b
  unfold val_main_v24 val_main_v23
  generalize val_main_v19 (F := Ideal) x0 x1 x3 = y at hz ⊢
  generalize val_main_v22 (F := Ideal) x0 x1 x3 = z at hz ⊢
  generalize val_main_v5 (F := Ideal) x2 x4 = w at hw ⊢
  pointwise
  simp only [hz, hw]

/-- The reference's result with its heads side by side, at an entry. -/
theorem v27_apply (r : Fin 16384) (k : Fin 2048) :
    val_main_v27 (F := Ideal) x0 x1 x2 x3 x4 (ix2 r k) = val_main_v24 (F := Ideal) x0 x1 x2 x3 x4
      (ix5 ⟨r.val / 4096, by have := r.isLt; omega⟩ ⟨k.val / 512, by have := k.isLt; omega⟩ ⟨k.val % 128, by omega⟩ ⟨k.val / 128 % 4, by omega⟩ ⟨r.val % 4096, by omega⟩) := by
  unfold val_main_v27 val_main_v26 val_main_v25
  generalize val_main_v24 (F := Ideal) x0 x1 x2 x3 x4 = y
  pointwise

end Cert.ReferenceIdeal.Attn
end
-- ==== Proof.Tie.lean ====
module

public import proofs.«01_k».proof.Proof.Prep
public import proofs.«01_k».proof.Proof.Ref

@[expose] public section

set_option maxRecDepth 16384

noncomputable section

namespace Cert.KernelIdeal.Attn

open Cert.KernelIdeal Cert.KernelIdeal.Gen Idealize.ShloMosaic Idealize.ShloMosaic.TcCoe Idealize.SL.Sem
open Cert.Softmax Cert.ReferenceIdeal.Attn Cert.ReferenceIdeal.Read

variable (m : (ℓ : Loc nD τ sig) → Buf (Elt Ideal) ℓ)

/-- A coordinate of real rows side by side is the coercion of the coordinate. -/
theorem joined_coe (a : Fin 256 → ℝ) (b : Fin 4096 → ℝ) (κ : Fin 4352) :
    joined (fun κ => (a κ : EReal)) (fun κ => (b κ : EReal)) κ = ((joined a b κ : ℝ) : EReal) := by
  unfold joined; split <;> rfl

/-- The scaled score of a scaled query and a key is the reference's score divided by `log 2`. -/
theorem score_real (q f : Fin 128 → ℝ) : ∑ e : Fin 128, q e * (1 / (Real.log 2 * Real.sqrt 128)) * f e
    = (∑ e : Fin 128, f e * q e) * (1 / Real.sqrt 128) * (Real.log 2)⁻¹ := by
  rw [Finset.sum_mul, Finset.sum_mul]
  refine Finset.sum_congr rfl fun e _ => ?_
  rw [one_div, mul_inv, one_div]; ring

/-- The reference's scores are real numbers where queries and keys are. -/
theorem refScore_coe (x0 : C S4x4096x16x128) (x1 : C S4x4096x4x128) (x3 : C S4x256x4x128)
    (f0 : S4x4096x16x128.Idx → ℝ) (f1 : S4x4096x4x128.Idx → ℝ) (f3 : S4x256x4x128.Idx → ℝ)
    (h0 : ∀ i, x0 i = (f0 i : EReal)) (h1 : ∀ i, x1 i = (f1 i : EReal)) (h3 : ∀ i, x3 i = (f3 i : EReal)) (b g h : Fin 4) (q : Fin 4096) (κ : Fin 4352) :
    refScore x0 x1 x3 b g h q κ = (((∑ e : Fin 128, joined (fun κ => f3 (ix4 b κ g e)) (fun κ => f1 (ix4 b κ g e)) κ
      * f0 (ix4 b q ⟨4 * g.val + h.val, by have := g.isLt; have := h.isLt; omega⟩ e)) * (1 / Real.sqrt 128) : ℝ) : EReal) := by
  unfold refScore
  simp only [h0, h1, h3, joined_coe]
  rw [EReal.coe_mul, coe_sum]
  refine congrArg (· * _) (Finset.sum_congr rfl fun e _ => ?_)
  exact (EReal.coe_mul _ _).symm

variable (c : Dev nD) (x0 : C S4x4096x16x128) (x1 : C S4x4096x4x128) (x2 : C S4x4096x6656) (x3 : C S4x256x4x128) (x4 : C S4x256x4608)

/-- The kernel's scaled query row. -/
theorem rowQ (e0 : m ((c : Thread nD τ).loc main_arg0) = x0) (r : Fin 16384) (b g h : Fin 4) (q : Fin 4096) (n : Nat) (hn : n = 4 * g.val + h.val)
    (vb : b.val = r.val / 4096) (vq : q.val = r.val % 4096) (e : Fin 128) (k : Fin 2560) (hk : k.val = 128 * n + e.val) :
    V m c main_v9 (ix2 r k) = HMul.hMul (α := EReal) (x0 (ix4 b q ⟨4 * g.val + h.val, by have := g.isLt; have := h.isLt; omega⟩ e)) ((1 / (Real.log 2 * Real.sqrt 128) : ℝ) : EReal) := by
  have := g.isLt
  have := h.isLt
  subst e0
  refine (prepQ m c r ⟨4 * g.val + h.val, by omega⟩ e k (by show k.val = 128 * (4 * g.val + h.val) + e.val; omega)).trans ?_
  refine congrArg (fun x : EReal => x * ((1 / (Real.log 2 * Real.sqrt 128) : ℝ) : EReal)) ?_
  blk_ext

/-- The keys' columns of the first array, from the reference's argument. -/
theorem rowK (e1 : m ((c : Thread nD τ).loc main_arg1) = x1) (r : Fin 16384) (b g : Fin 4) (κ : Fin 4096) (vr : r.val = 4096 * b.val + κ.val)
    (e : Fin 128) (k : Fin 2560) (hk : k.val = 2048 + 128 * g.val + e.val) : V m c main_v9 (ix2 r k) = x1 (ix4 b κ g e) := by
  have := κ.isLt
  subst e1
  refine (prepK m c r g e k hk).trans ?_
  blk_ext

/-- The context keys' array, from the reference's argument. -/
theorem rowKc (e3 : m ((c : Thread nD τ).loc main_arg3) = x3) (r : Fin 1024) (b g : Fin 4) (κ : Fin 256) (vr : r.val = 256 * b.val + κ.val)
    (e : Fin 128) (k : Fin 512) (hk : k.val = 128 * g.val + e.val) : V m c main_v13 (ix2 r k) = x3 (ix4 b κ g e) := by
  have := κ.isLt
  subst e3
  refine (prepKc m c r g e k hk).trans ?_
  blk_ext

/-- The latent values' array, from the reference's argument. -/
theorem rowV (e2 : m ((c : Thread nD τ).loc main_arg2) = x2) (r : Fin 16384) (b : Fin 4) (κ : Fin 4096) (vr : r.val = 4096 * b.val + κ.val)
    (k k' : Fin 6656) (hk : k.val = k'.val) : V m c main_v11 (ix2 r k) = x2 (ix3 b κ k') := by
  have := κ.isLt
  subst e2
  refine (prepV m c r k).trans ?_
  blk_ext

/-- The context values' array, from the reference's argument. -/
theorem rowVc (e4 : m ((c : Thread nD τ).loc main_arg4) = x4) (r : Fin 1024) (b : Fin 4) (κ : Fin 256) (vr : r.val = 256 * b.val + κ.val)
    (k k' : Fin 4608) (hk : k.val = k'.val) : V m c main_v15 (ix2 r k) = x4 (ix3 b κ k') := by
  have := κ.isLt
  subst e4
  refine (prepVc m c r k).trans ?_
  blk_ext

/-- The kernel's entry from arrays whose entries are the reference's: the base-two softmax of the scores divided by `log 2`. -/
theorem attnAt_eq (qk : Vec Ideal S16384x2560 .bf16) (v : Vec Ideal S16384x6656 .bf16) (kc : Vec Ideal S1024x512 .bf16) (vc : Vec Ideal S1024x4608 .bf16)
    (r : Fin 16384) (k : Fin 2048) (q : Fin 128 → ℝ) (kr : Fin 4096 → Fin 128 → ℝ) (kcr : Fin 256 → Fin 128 → ℝ) (vr : Fin 4096 → EReal) (vcr : Fin 256 → EReal)
    (hq : ∀ e k', k'.val = 128 * (k.val / 128) + e.val → qk (ix2 r k') = ((q e * (1 / (Real.log 2 * Real.sqrt 128)) : ℝ) : EReal))
    (hk : ∀ κ e r' k', r'.val = 4096 * (r.val / 4096) + κ.val → k'.val = 2048 + 128 * (k.val / 512) + e.val → qk (ix2 r' k') = (kr κ e : EReal))
    (hkc : ∀ κ e r' k', r'.val = 256 * (r.val / 4096) + κ.val → k'.val = 128 * (k.val / 512) + e.val → kc (ix2 r' k') = (kcr κ e : EReal))
    (hv : ∀ κ r' k', r'.val = 4096 * (r.val / 4096) + κ.val → k'.val = 128 * (k.val / 512) + k.val % 128 → v (ix2 r' k') = vr κ)
    (hvc : ∀ κ r' k', r'.val = 256 * (r.val / 4096) + κ.val → k'.val = 128 * (k.val / 512) + k.val % 128 → vc (ix2 r' k') = vcr κ) :
    attnAt qk v kc vc r k = weighted (fun κ => (((∑ e : Fin 128, joined (fun κ => kcr κ e) (fun κ => kr κ e) κ * q e) * (1 / Real.sqrt 128) : ℝ) : EReal)) (joined vcr vr) := by
  refine Eq.trans ?_ (base2_eq _ _ _ fun _ => rfl)
  unfold attnAt
  refine congrArg₂ base2 ?_ (congrArg₂ joined (funext fun κ => hvc κ _ _ rfl rfl) (funext fun κ => hv κ _ _ rfl rfl))
  have h1 : ∀ f : Fin 128 → ℝ, ∑ e : Fin 128, ((q e * (1 / (Real.log 2 * Real.sqrt 128)) : ℝ) : EReal) * (f e : EReal)
      = (((∑ e : Fin 128, f e * q e) * (1 / Real.sqrt 128) * (Real.log 2)⁻¹ : ℝ) : EReal) := fun f => by
    rw [← score_real, coe_sum]
    exact Finset.sum_congr rfl fun e _ => (EReal.coe_mul _ _).symm
  funext κ
  refine (congrFun (joined_congr (fun κ => ?_) (fun κ => ?_)) κ).trans (joined_coe
    (fun κ => (∑ e : Fin 128, kcr κ e * q e) * (1 / Real.sqrt 128) * (Real.log 2)⁻¹) (fun κ => (∑ e : Fin 128, kr κ e * q e) * (1 / Real.sqrt 128) * (Real.log 2)⁻¹) κ |>.trans ?_)
  · exact (Finset.sum_congr rfl fun e _ => congrArg₂ (· * ·) (hq e _ rfl) (hkc κ e _ _ rfl rfl)).trans (h1 _)
  · exact (Finset.sum_congr rfl fun e _ => congrArg₂ (· * ·) (hq e _ rfl) (hk κ e _ _ rfl rfl)).trans (h1 _)
  · unfold joined; split <;> rfl

/-- The kernel's entry is the reference's, when queries and keys are real numbers. -/
theorem attn_eq
    (e0 : m ((c : Thread nD τ).loc main_arg0) = x0) (e1 : m ((c : Thread nD τ).loc main_arg1) = x1) (e2 : m ((c : Thread nD τ).loc main_arg2) = x2)
    (e3 : m ((c : Thread nD τ).loc main_arg3) = x3) (e4 : m ((c : Thread nD τ).loc main_arg4) = x4)
    (h0 : ∀ i, ∃ r : ℝ, x0 i = (r : EReal)) (h1 : ∀ i, ∃ r : ℝ, x1 i = (r : EReal)) (h3 : ∀ i, ∃ r : ℝ, x3 i = (r : EReal))
    (r : Fin 16384) (k : Fin 2048) :
    attnAt (V m c main_v9) (V m c main_v11) (V m c main_v13) (V m c main_v15) r k = val_main_v27 (F := Ideal) x0 x1 x2 x3 x4 (ix2 r k) := by
  have hr := r.isLt
  have hk := k.isLt
  choose f0 hf0 using h0
  choose f1 hf1 using h1
  choose f3 hf3 using h3
  refine Eq.trans ?_ (v27_apply x0 x1 x2 x3 x4 r k).symm
  obtain ⟨b, vb, hb⟩ : ∃ b : Fin 4, b.val = r.val / 4096 ∧ b = ⟨r.val / 4096, by omega⟩ := ⟨_, rfl, rfl⟩
  obtain ⟨g, vg, hg⟩ : ∃ g : Fin 4, g.val = k.val / 512 ∧ g = ⟨k.val / 512, by omega⟩ := ⟨_, rfl, rfl⟩
  obtain ⟨h, vh, hh⟩ : ∃ h : Fin 4, h.val = k.val / 128 % 4 ∧ h = ⟨k.val / 128 % 4, by omega⟩ := ⟨_, rfl, rfl⟩
  obtain ⟨q, vq, hq⟩ : ∃ q : Fin 4096, q.val = r.val % 4096 ∧ q = ⟨r.val % 4096, by omega⟩ := ⟨_, rfl, rfl⟩
  obtain ⟨d, vd, hd⟩ : ∃ d : Fin 128, d.val = k.val % 128 ∧ d = ⟨k.val % 128, by omega⟩ := ⟨_, rfl, rfl⟩
  rw [← hb, ← hg, ← hh, ← hq, ← hd]
  clear hb hg hh hq hd
  have hg := g.isLt
  have hh := h.isLt
  have hd := d.isLt
  refine Eq.trans ?_ (v24_apply x0 x1 x2 x3 x4 b g h q d).symm
  have hs := funext (refScore_coe x0 x1 x3 f0 f1 f3 hf0 hf1 hf3 b g h q)
  rw [hs]
  refine attnAt_eq _ _ _ _ r k (fun e => f0 (ix4 b q ⟨4 * g.val + h.val, by omega⟩ e)) (fun κ e => f1 (ix4 b κ g e)) (fun κ e => f3 (ix4 b κ g e)) _ _ ?_ ?_ ?_ ?_ ?_
  · intro e k' hk'
    rw [EReal.coe_mul, ← hf0]
    exact rowQ m c x0 e0 r b g h q _ (by omega) vb vq e k' hk'
  · intro κ e r' k' hr' hk'
    rw [← hf1]
    exact rowK m c x1 e1 r' b g κ (by omega) e k' (by omega)
  · intro κ e r' k' hr' hk'
    rw [← hf3]
    exact rowKc m c x3 e3 r' b g κ (by omega) e k' (by omega)
  · intro κ r' k' hr' hk'
    exact rowV m c x2 e2 r' b κ (by omega) k' _ (by dsimp only; omega)
  · intro κ r' k' hr' hk'
    exact rowVc m c x4 e4 r' b κ (by omega) k' _ (by dsimp only; omega)

end Cert.KernelIdeal.Attn
end
-- ==== Proof.Claims.lean ====
module

public import proofs.«01_k».proof.Defs
public import proofs.«01_k».proof.Proof.Tie
public import proofs.«01_k».proof.Proof.Gen.KernelIdeal.Value
public import proofs.«01_k».proof.Proof.Gen.Pre_finite_scores
public import proofs.«01_k».proof.Proof.Gen.ReferenceIdeal.Run
public import proofs.«01_k».proof.Proof.Gen.ReferenceIdeal.Read
public import Idealize.ShloMosaic.Lib.ReduceAll

@[expose] public section

set_option maxRecDepth 16384

noncomputable section

namespace Cert.Proof.Attn

open Idealize.ShloMosaic Idealize.ShloMosaic.TcCoe Idealize.SL.Sem Cert.KernelIdeal.Attn

/-- An extended real whose absolute value compares below `+∞` is a real number. -/
theorem real_of_lt (x : EReal) (h : FloatOps.cmpf (F := Ideal) .olt (FloatOps.hostAbsf (F := Ideal) (φ := FTy.f32) x) (FloatOps.ofBits (F := Ideal) .f32 0x7F800000#32) = 1#1) :
    ∃ r : ℝ, x = (r : EReal) := by
  have e : FloatOps.ofBits (F := Ideal) .f32 0x7F800000#32 = (⊤ : EReal) := by
    show Ideal.ofBits .f32 0x7F800000#32 = ⊤
    simp [Ideal.ofBits, Ideal.ieee]
  rw [e] at h
  have h' : max x (-x) < ⊤ := by
    by_contra hn
    refine absurd h ?_
    show BitVec.ofBool (decide (max x (-x) < (⊤ : EReal))) ≠ 1#1
    rw [decide_eq_false hn]; decide
  induction x using EReal.rec with
  | bot => simp at h'
  | top => simp at h'
  | coe r => exact ⟨r, rfl⟩

/-- The precondition makes every query and key a real number. -/
theorem finite (m) (h : Cert.Pre_KernelIdeal_finite_scores (hPre_finite_scores := Cert.Pre_finite_scores.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg3) i = (r : EReal)) := by
  have h1 := congrFun (h c) (fun a => a.elim0)
  unfold Cert.Pre_finite_scores.fn at h1
  obtain ⟨h1, h3⟩ := IntOp.andi_eq_one.1 h1
  obtain ⟨h0, h1⟩ := IntOp.andi_eq_one.1 h1
  haveI : Subsingleton Cert.Pre_finite_scores.S_.Idx := ⟨fun a b => funext fun i => i.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h3 i)⟩

/-- The reference runs, leaves its arguments and has no semaphore. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2.2.2, sem_eq_zero_of_no_sems (by decide) r.2⟩) (Cert.ReferenceIdeal.Value.run m g)

/-- The weight cast of the up-projection, kernel and reference. -/
theorem up_eq (m) (c : Dev Cert.KernelIdeal.nD) (x : FVec Ideal Cert.KernelIdeal.S1x4096x22016 .f32)
    (e : m ((c.tc : Thread Cert.KernelIdeal.nD Cert.KernelIdeal.τ).loc Cert.KernelIdeal.main_arg5) = x) (h h') :
    (fun i => Cert.KernelIdeal.Gen.V (F := Ideal) m c Cert.KernelIdeal.main_v16 i) = truncf .bf16 (shapeCast Cert.KernelIdeal.S4096x22016 x h) h' := by
  subst e
  funext i
  obtain ⟨r, k, rfl⟩ : ∃ (r : Fin _) (k : Fin _), i = ix2 r k := ⟨i 0, i 1, eq_ix2 i⟩
  refine (prepUp m c r k).trans ?_
  generalize m _ = x
  pointwise

/-- The weight cast of the down-projection, kernel and reference. -/
theorem down_eq (m) (c : Dev Cert.KernelIdeal.nD) (x : FVec Ideal Cert.KernelIdeal.S1x11008x4096 .f32)
    (e : m ((c.tc : Thread Cert.KernelIdeal.nD Cert.KernelIdeal.τ).loc Cert.KernelIdeal.main_arg6) = x) (h h') :
    (fun i => Cert.KernelIdeal.Gen.V (F := Ideal) m c Cert.KernelIdeal.main_v17 i) = truncf .bf16 (shapeCast Cert.KernelIdeal.S11008x4096 x h) h' := by
  subst e
  funext i
  obtain ⟨r, k, rfl⟩ : ∃ (r : Fin _) (k : Fin _), i = ix2 r k := ⟨i 0, i 1, eq_ix2 i⟩
  refine (prepDown m c r k).trans ?_
  generalize m _ = x
  pointwise

/-- The kernel and the reference end with equal results. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hp ha
  refine ⟨_, _, _, Cert.KernelIdeal.Value.run_blocks m g, (θ_run (Cert.ReferenceIdeal.defs (F := Ideal)) _ _).mono (fun r h c => ?_) (Cert.ReferenceIdeal.Value.run m' g')⟩
  obtain ⟨a0, a1, a2, a3, a4, a5, a6⟩ := ha c
  obtain ⟨p0, p1, p3⟩ := finite m hp c
  obtain ⟨r0, r1, r2, hargs⟩ := h c
  refine ⟨r0.trans ?_, r1.trans ?_, r2.trans ?_, hargs⟩
  · rw [Cert.ReferenceIdeal.Read.val_main_v27_eq, final7 m c]
    symm
    funext i
    obtain ⟨r, k, rfl⟩ : ∃ (r : Fin _) (k : Fin _), i = ix2 r k := ⟨i 0, i 1, eq_ix2 i⟩
    exact attn_eq m c _ _ _ _ _ a0.symm a1.symm a2.symm a3.symm a4.symm (a0 ▸ p0) (a1 ▸ p1) (a3 ▸ p3) r k
  · rw [final8 m c]
    exact (up_eq m c _ a5.symm _ _).symm
  · rw [final9 m c]
    exact (down_eq m c _ a6.symm _ _).symm

end Cert.Proof.Attn
end
-- ==== Proof.Sigmoid.lean ====
module

public import Idealize.ShloMosaic.Lib.Pointwise

@[expose] public section

noncomputable section

namespace Cert.Proof.Sigmoid

open Idealize.ShloMosaic

/-- The number whose bits are `0x3F800000` is one. -/
theorem one_bits : FloatOps.ofBits (F := Ideal) .f32 0x3F800000#32 = (1 : EReal) := by
  show Ideal.ofBits .f32 0x3F800000#32 = 1
  simp [Ideal.ofBits, Ideal.ieee, -EReal.coe_mul]
  norm_num

/-- One over one plus the exponential of `-x` is the logistic function of `x`, at the infinities too. -/
theorem div_logistic (x : EReal) : Ideal.div 1 (HAdd.hAdd (α := EReal) 1 (Ideal.exp (-x))) = Ideal.logistic x := by
  induction x with
  | bot =>
    rw [Ideal.logistic_bot, EReal.neg_bot, Ideal.exp_top, show (HAdd.hAdd (α := EReal) 1 ⊤) = ⊤ from EReal.add_top_of_ne_bot (by decide)]
    simp [Ideal.div]
  | top =>
    rw [Ideal.logistic_top, EReal.neg_top, Ideal.exp_bot]
    simp [Ideal.div]
  | coe r =>
    rw [Ideal.logistic_coe, ← EReal.coe_neg, Ideal.exp_coe]
    have h : (0 : ℝ) < 1 + Real.exp (-r) := by positivity
    rw [show (1 : EReal) = ((1 : ℝ) : EReal) from rfl, ← EReal.coe_add, Ideal.div_coe h.ne']
    simp

end Cert.Proof.Sigmoid
end
-- ==== Proof.PvTie.lean ====
module

public import proofs.«01_k».proof.Proof.Sigmoid
public import proofs.«01_k».proof.Proof.Gen.PvIdeal.Value
public import proofs.«01_k».proof.Proof.Gen.PvRefIdeal.Run
public import proofs.«01_k».proof.Proof.Gen.PvRefIdeal.Read
public import Idealize.ShloMosaic.Lib.Pipeline.ValueKit

@[expose] public section

set_option maxRecDepth 16384

noncomputable section

namespace Cert.PvIdeal.Tie

open Cert.PvIdeal Cert.PvIdeal.Gen Idealize.ShloMosaic Idealize.ShloMosaic.TcCoe Idealize.SL.Sem

variable (m : (ℓ : Loc nD τ sig) → Buf (Elt Ideal) ℓ)

/-- The queries' scale: one over the logarithm of two times the root of the width. -/
def scale : EReal := Cert.PvRefIdeal.Read.val_main_v10 (F := Ideal) ix0

/-- The scale of a tile of columns: the queries' tiles are 1 to 4. -/
def tileScale (j : ℕ) : EReal := if 1 ≤ j ∧ j < 5 then scale else 1

/-- A row times a column of the weight. -/
def prod (x0 : FVec Ideal S4x4096x4096 .f32) (x1 : FVec Ideal S1x4096x17408 .f32) (r : Fin 16384) (k : Fin 6656) : EReal :=
  ∑ e : Fin 4096, HMul.hMul (α := EReal) (x0 (ix3 ⟨r.val / 4096, by have := r.isLt; omega⟩ ⟨r.val % 4096, by omega⟩ e))
    (x1 (ix3 0 e ⟨2560 + k.val, by have := k.isLt; omega⟩))

/-- Entry `(r, k)` of the result, from the reference's arguments. -/
def entry (x0 : FVec Ideal S4x4096x4096 .f32) (x1 : FVec Ideal S1x4096x17408 .f32) (r : Fin 16384) (k : Fin 6656) : EReal :=
  prod x0 x1 r k * tileScale (k.val / 512)

/-- A chunk of the body's block at an entry. -/
theorem pay_apply (w : Vec Ideal S4096x512 .bf16) (p : Vec Ideal S1x1x128 .f32) (a : Vec Ideal S512x4096 .bf16) (i j : Fin 512) :
    k0_pay4 (F := Ideal) w p a (ix2 i j)
      = HMul.hMul (α := EReal) (∑ e : Fin 4096, HMul.hMul (α := EReal) (a (ix2 i e)) (w (ix2 e j))) (p (ix3 0 0 0)) := by
  unfold k0_pay4 k0_pay2 k0_pay3
  pointwise

/-- A row times a column, scaled, where the row is the chunk's. -/
theorem chunk_apply (x : Vec Ideal S2048x4096 .bf16) (w : Vec Ideal S4096x512 .bf16) (q : Vec Ideal S1x1x128 .f32) (v : Vec Ideal S512x4096 .bf16)
    (u : Vec Ideal S4096x512 .bf16) (p : Vec Ideal S1x1x128 .f32) (i j j' : Fin 512) (r : Fin 2048) (hj : j' = j) (hv : ∀ e : Fin 4096, v (ix2 i e) = x (ix2 r e))
    (hu : ∀ e : Fin 4096, u (ix2 e j) = w (ix2 e j)) (hp : p (ix3 0 0 0) = q (ix3 0 0 0)) :
    k0_pay4 (F := Ideal) u p v (ix2 i j')
      = HMul.hMul (α := EReal) (∑ e : Fin 4096, HMul.hMul (α := EReal) (x (ix2 r e)) (w (ix2 e j))) (q (ix3 0 0 0)) := by
  rw [hj]
  refine (pay_apply u p v i j).trans (congrArg₂ (fun x y : EReal => x * y) (Finset.sum_congr rfl fun e _ => ?_) hp)
  rw [hv, hu]

/-- The body's block at an entry. -/
theorem out_apply (x0 : Vec Ideal S2048x4096 .bf16) (x1 : Vec Ideal S4096x512 .bf16) (x2 : Vec Ideal S1x1x128 .f32) (r : Fin 2048) (j : Fin 512) :
    out0_3 (F := Ideal) x0 x1 x2 (ix2 r j)
      = HMul.hMul (α := EReal) (∑ e : Fin 4096, HMul.hMul (α := EReal) (x0 (ix2 r e)) (x1 (ix2 e j))) (x2 (ix3 0 0 0)) := by
  canon_tiles x h
  · have hr : r.val = 1536 + (x 0).val := h0
    have hj : x 1 = j := Fin.ext h1.symm
    rw [show x = ix2 (x 0) (x 1) from eq_ix2 x]
    refine chunk_apply x0 x1 x2 (View.ld x0 r0_8) (View.ld x1 r0_0) (View.ld x2 r0_1) (x 0) j (x 1) r hj (fun e => ?_) (fun e => ?_) ?_
    · pointwise
      blk_ext
    · pointwise
    · pointwise
  · have hr : r.val = 1024 + (x 0).val := h0
    have hj : x 1 = j := Fin.ext h1.symm
    rw [show x = ix2 (x 0) (x 1) from eq_ix2 x]
    refine chunk_apply x0 x1 x2 (View.ld x0 r0_6) (View.ld x1 r0_0) (View.ld x2 r0_1) (x 0) j (x 1) r hj (fun e => ?_) (fun e => ?_) ?_
    · pointwise
      blk_ext
    · pointwise
    · pointwise
  · have hr : r.val = 512 + (x 0).val := h0
    have hj : x 1 = j := Fin.ext h1.symm
    rw [show x = ix2 (x 0) (x 1) from eq_ix2 x]
    refine chunk_apply x0 x1 x2 (View.ld x0 r0_4) (View.ld x1 r0_0) (View.ld x2 r0_1) (x 0) j (x 1) r hj (fun e => ?_) (fun e => ?_) ?_
    · pointwise
      blk_ext
    · pointwise
    · pointwise
  · have hr : r.val = (x 0).val := h0
    have hj : x 1 = j := Fin.ext h1.symm
    rw [show x = ix2 (x 0) (x 1) from eq_ix2 x]
    refine chunk_apply x0 x1 x2 (View.ld x0 r0_2) (View.ld x1 r0_0) (View.ld x2 r0_1) (x 0) j (x 1) r hj (fun e => ?_) (fun e => ?_) ?_
    · pointwise
      blk_ext
    · pointwise
    · pointwise

/-- The block of each window at a grid point. -/
theorem idx (t : Fin cfg0.N) : win0_0.index t = ![t.val / 13, 0] ∧ win0_1.index t = ![0, 5 + t.val % 13] ∧ win0_2.index t = ![t.val % 13, 0, 0]
    ∧ win0_3.index t = ![t.val / 13, t.val % 13] :=
  (by decide +kernel : ∀ t : Fin grid0.N, win0_0.index t = ![t.val / 13, 0] ∧ win0_1.index t = ![0, 5 + t.val % 13] ∧ win0_2.index t = ![t.val % 13, 0, 0]
    ∧ win0_3.index t = ![t.val / 13, t.val % 13]) t

/-- A row of the left operand's block. -/
theorem iblk0_apply (c : Dev nD) (t : Fin cfg0.N) (i : Fin 2048) (e : Fin 4096) (b : Fin 4) (s : Fin 4096) (h : 4096 * b.val + s.val = 2048 * (t.val / 13) + i.val) :
    iblk m c 0 t (ix2 i e) = m ((c : Thread nD τ).loc main_arg0) (ix3 b s e) := by
  have := s.isLt
  have h' := (idx t).1
  have hx : iblk m c 0 t (ix2 i e) = V m c main_v14 (ix2 ⟨4096 * b.val + s.val, by have := b.isLt; omega⟩ e) := by
    blk_ext [iblk, h']
  refine hx.trans ?_
  simp only [V, List.flatten_cons, List.flatten_nil, List.append_nil, List.cons_append, List.nil_append, hostOps0, hostOps0_1, hostOps0_2]
  entry_read
  pointwise
  blk_ext

/-- A column of the weight's block. -/
theorem iblk1_apply (c : Dev nD) (t : Fin cfg0.N) (e : Fin 4096) (j : Fin 512) (k : Fin 17408) (h : k.val = 512 * (5 + t.val % 13) + j.val) :
    iblk m c 1 t (ix2 e j) = m ((c : Thread nD τ).loc main_arg1) (ix3 0 e k) := by
  have h' := (idx t).2.1
  have hx : iblk m c 1 t (ix2 e j) = V m c main_v16 (ix2 e k) := by
    blk_ext [iblk, h']
  refine hx.trans ?_
  simp only [V, List.flatten_cons, List.flatten_nil, List.append_nil, List.cons_append, List.nil_append, hostOps0, hostOps0_1, hostOps0_2]
  entry_read
  pointwise

/-- The choice between the scale and one, by the tile's number. -/
theorem table_eq (j : Fin 13) :
    select (andi (cmpi .sge (iotaInDim S13 32 0) (broadcastInDim S13 ![] bcast_S_S13 (constantI S_ 32 1#32)))
        (cmpi .slt (iotaInDim S13 32 0) (broadcastInDim S13 ![] bcast_S_S13 (constantI S_ 32 5#32))))
      (broadcastInDim S13 ![] bcast_S_S13 (Host.divf (constant (F := Ideal) S_ .f32 0x3F800000#32)
        (mulf (Host.log (constant (F := Ideal) S_ .f32 0x40000000#32)) (Host.sqrt (constant (F := Ideal) S_ .f32 0x43000000#32)))))
      (broadcastInDim S13 ![] bcast_S_S13 (constant (F := Ideal) S_ .f32 0x3F800000#32)) (ix1 j) = tileScale j.val := by
  have hs : scale = FloatOps.hostDivf (F := Ideal) (φ := .f32) (FloatOps.ofBits .f32 0x3F800000#32) (FloatOps.mulf (FloatOps.hostUnary .log (FloatOps.ofBits .f32 0x40000000#32))
      (FloatOps.hostUnary .sqrt (FloatOps.ofBits .f32 0x43000000#32))) := rfl
  unfold tileScale
  rw [hs, ← Cert.Proof.Sigmoid.one_bits]
  fin_cases j <;> rfl

/-- The scale's table at a tile. -/
theorem table_apply (c : Dev nD) (j : Fin 13) : V m c main_v12 (ix3 j 0 0) = tileScale j.val := by
  simp only [V, List.flatten_cons, List.flatten_nil, List.append_nil, List.cons_append, List.nil_append, hostOps0, hostOps0_1, hostOps0_2]
  entry_read
  pointwise
  exact table_eq j

/-- The scale's block. -/
theorem iblk2_apply (c : Dev nD) (t : Fin cfg0.N) (n : ℕ) (h : n = t.val % 13) : iblk m c 2 t (ix3 0 0 0) = tileScale n := by
  have h' := (idx t).2.2.1
  have hx : iblk m c 2 t (ix3 0 0 0) = V m c main_v12 (ix3 ⟨t.val % 13, by omega⟩ 0 0) := by
    blk_ext [iblk, h']
  rw [h]
  exact hx.trans (table_apply m c _)

/-- The call's result, entry by entry. -/
theorem final (c : Dev nD) : (dats (F := Ideal) m 0 c).arrAt 3 cfg0.N
    = fun i : S16384x6656.Idx => entry (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  have i3 := (idx t).2.2.2
  have ht : t.val < 104 := Nat.lt_of_lt_of_eq t.isLt N_0
  have y0 : (y 0).val < 2048 := (y 0).isLt
  have y1 : (y 1).val < 512 := (y 1).isLt
  have hr : ((((View.whole main_v17).slice (win0_3.rect t)).emb y 0 : Fin 16384)).val = 2048 * (t.val / 13) + (y 0).val := by
    blk_simp [i3]; omega
  have hc : ((((View.whole main_v17).slice (win0_3.rect t)).emb y 1 : Fin 6656)).val = 512 * (t.val % 13) + (y 1).val := by
    blk_simp [i3]; omega
  generalize (((View.whole main_v17).slice (win0_3.rect t)).emb y 0 : Fin 16384) = r at hr ⊢
  generalize (((View.whole main_v17).slice (win0_3.rect t)).emb y 1 : Fin 6656) = k at hc ⊢
  rw [show y = ix2 (y 0) (y 1) from eq_ix2 y]
  refine (out_apply _ _ _ (y 0) (y 1)).trans ?_
  unfold entry prod
  refine congrArg₂ (fun x y : EReal => x * y) (Finset.sum_congr rfl fun e _ => congrArg₂ (fun x y : EReal => x * y) (iblk0_apply m c t _ _ _ _ ?_) (iblk1_apply m c t _ _ _ ?_))
    (iblk2_apply m c t _ ?_) <;> (try dsimp only) <;> omega

/-- The reference's product at an entry. -/
theorem ref1_apply (x0 : FVec Ideal S4x4096x4096 .f32) (x1 : FVec Ideal S1x4096x17408 .f32) (b : Fin 4) (s : Fin 4096) (k : Fin 17408) :
    Cert.PvRefIdeal.Read.val_main_v1 (F := Ideal) x0 x1 (ix3 b s k) = ∑ e : Fin 4096, HMul.hMul (α := EReal) (x0 (ix3 b s e)) (x1 (ix3 0 e k)) := by
  have hk := k.isLt
  rw [Cert.PvRefIdeal.Read.val_main_v1_apply]
  refine Finset.sum_congr rfl fun e _ => congrArg₂ (fun x y : EReal => x * y) ?_ ?_
  · blk_ext
  · rw [Cert.PvRefIdeal.Read.val_main_v0_apply]
    have he := e.isLt
    blk_ext

/-- The reference's columns of the product at an entry. -/
theorem ref2_apply (x0 : FVec Ideal S4x4096x4096 .f32) (x1 : FVec Ideal S1x4096x17408 .f32) (r : Fin 16384) (k : Fin 6656) :
    Cert.PvRefIdeal.Read.val_main_v2 (F := Ideal) x0 x1 (ix3 ⟨r.val / 4096, by have := r.isLt; omega⟩ ⟨r.val % 4096, by omega⟩ k) = prod x0 x1 r k := by
  have hr := r.isLt
  have hk := k.isLt
  rw [Cert.PvRefIdeal.Read.val_main_v2_apply]
  refine Eq.trans ?_ (ref1_apply x0 x1 ⟨r.val / 4096, by omega⟩ ⟨r.val % 4096, by omega⟩ ⟨2560 + k.val, by omega⟩)
  blk_ext

/-- The reference's four groups of columns side by side, at an entry. -/
theorem cat_apply (x0 : FVec Ideal S4x4096x4096 .f32) (x1 : FVec Ideal S1x4096x17408 .f32) (b : Fin 4) (s : Fin 4096) (k : Fin 6656) :
    Cert.PvRefIdeal.Read.val_main_v13 (F := Ideal) x0 x1 (ix3 b s k)
      = HMul.hMul (α := EReal) (Cert.PvRefIdeal.Read.val_main_v2 (F := Ideal) x0 x1 (ix3 b s k)) (if 1 ≤ k.val / 512 ∧ k.val / 512 < 5 then scale else 1) := by
  have hk := k.isLt
  have h3 : ∀ j : Fin 512, Cert.PvRefIdeal.Read.val_main_v3 (F := Ideal) x0 x1 (ix3 b s j) = Cert.PvRefIdeal.Read.val_main_v2 (F := Ideal) x0 x1 (ix3 b s ⟨j.val, by omega⟩) := by
    intro j
    rw [Cert.PvRefIdeal.Read.val_main_v3_apply]
    blk_ext
  have h12 : ∀ j : Fin 2048, Cert.PvRefIdeal.Read.val_main_v12 (F := Ideal) x0 x1 (ix3 b s j)
      = HMul.hMul (α := EReal) (Cert.PvRefIdeal.Read.val_main_v2 (F := Ideal) x0 x1 (ix3 b s ⟨512 + j.val, by omega⟩)) scale := by
    intro j
    rw [Cert.PvRefIdeal.Read.val_main_v12_apply, Cert.PvRefIdeal.Read.val_main_v4_apply, Cert.PvRefIdeal.Read.val_main_v11_apply]
    refine congrArg₂ (fun x y : EReal => x * y) ?_ ?_
    · blk_ext
    · unfold scale
      exact congrArg _ (funext fun a => a.elim0)
  have h5 : ∀ j : Fin 2048, Cert.PvRefIdeal.Read.val_main_v5 (F := Ideal) x0 x1 (ix3 b s j) = Cert.PvRefIdeal.Read.val_main_v2 (F := Ideal) x0 x1 (ix3 b s ⟨2560 + j.val, by omega⟩) := by
    intro j
    rw [Cert.PvRefIdeal.Read.val_main_v5_apply]
    blk_ext
  have h6 : ∀ j : Fin 2048, Cert.PvRefIdeal.Read.val_main_v6 (F := Ideal) x0 x1 (ix3 b s j) = Cert.PvRefIdeal.Read.val_main_v2 (F := Ideal) x0 x1 (ix3 b s ⟨4608 + j.val, by omega⟩) := by
    intro j
    rw [Cert.PvRefIdeal.Read.val_main_v6_apply]
    blk_ext
  unfold Cert.PvRefIdeal.Read.val_main_v13
  generalize Cert.PvRefIdeal.Read.val_main_v3 (F := Ideal) x0 x1 = u3 at h3 ⊢
  generalize Cert.PvRefIdeal.Read.val_main_v12 (F := Ideal) x0 x1 = u12 at h12 ⊢
  generalize Cert.PvRefIdeal.Read.val_main_v5 (F := Ideal) x0 x1 = u5 at h5 ⊢
  generalize Cert.PvRefIdeal.Read.val_main_v6 (F := Ideal) x0 x1 = u6 at h6 ⊢
  generalize Cert.PvRefIdeal.Read.val_main_v2 (F := Ideal) x0 x1 = u at h3 h12 h5 h6 ⊢
  pointwise
  have n (h : ¬ (1 ≤ k.val / 512 ∧ k.val / 512 < 5)) :
      u (ix3 b s k) = u (ix3 b s k) * (if 1 ≤ k.val / 512 ∧ k.val / 512 < 5 then scale else 1) := by
    rw [if_neg h]
    exact (mul_one (M := EReal) _).symm
  by_cases c1 : k.val < 512
  · rw [dif_pos c1]
    exact (h3 ⟨k.val, c1⟩).trans (n (by omega))
  · by_cases c2 : k.val - 512 < 2048
    · rw [dif_neg c1, dif_pos c2]
      refine (h12 ⟨k.val - 512, c2⟩).trans ?_
      rw [if_pos (by omega)]
      exact congrArg (fun i => HMul.hMul (α := EReal) (u (ix3 b s i)) scale)
        (Fin.ext (show 512 + (k.val - 512) = k.val by omega))
    · by_cases c3 : k.val - 512 - 2048 < 2048
      · rw [dif_neg c1, dif_neg c2, dif_pos c3]
        refine (h5 ⟨k.val - 512 - 2048, c3⟩).trans (Eq.trans ?_ (n (by omega)))
        exact congrArg (fun i => u (ix3 b s i))
          (Fin.ext (show 2560 + (k.val - 512 - 2048) = k.val by omega))
      · rw [dif_neg c1, dif_neg c2, dif_neg c3]
        refine (h6 ⟨k.val - 512 - 2048 - 2048, by omega⟩).trans (Eq.trans ?_ (n (by omega)))
        exact congrArg (fun i => u (ix3 b s i))
          (Fin.ext (show 4608 + (k.val - 512 - 2048 - 2048) = k.val by omega))

/-- The reference at an entry. -/
theorem ref_apply (x0 : FVec Ideal S4x4096x4096 .f32) (x1 : FVec Ideal S1x4096x17408 .f32)
    (r : Fin 16384) (k : Fin 6656) : Cert.PvRefIdeal.Read.val_main_v15 (F := Ideal) x0 x1 (ix2 r k) = entry x0 x1 r k := by
  have hr := r.isLt
  have hk := k.isLt
  have h2 := ref2_apply x0 x1 r
  rw [Cert.PvRefIdeal.Read.val_main_v15_apply, Cert.PvRefIdeal.Read.val_main_v14_apply]
  unfold entry tileScale
  have e : Cert.PvRefIdeal.Read.idx_main_v14 (ix2 r k) = ix3 ⟨r.val / 4096, by omega⟩ ⟨r.val % 4096, by omega⟩ k := by
    funext a
    apply Fin.ext
    fin_cases a
    · show (r.val * 6656 + k.val) / 27262976 = r.val / 4096
      omega
    · show (r.val * 6656 + k.val) / 6656 % 4096 = r.val % 4096
      omega
    · show (r.val * 6656 + k.val) % 6656 = k.val
      omega
  rw [e, ← h2]
  exact cat_apply x0 x1 _ _ k

end Cert.PvIdeal.Tie
end
-- ==== Proof.PvClaims.lean ====
module

public import proofs.«01_k».proof.Defs
public import proofs.«01_k».proof.Proof.PvTie
public import proofs.«01_k».proof.Proof.Gen.Pv
public import proofs.«01_k».proof.Proof.Gen.PvIdeal.Value
public import proofs.«01_k».proof.Proof.Gen.PvRefIdeal.Run
public import proofs.«01_k».proof.Proof.Gen.PvRefIdeal.Read

@[expose] public section

set_option maxRecDepth 16384

noncomputable section

namespace Cert.Proof.Pv

open Idealize.ShloMosaic Idealize.ShloMosaic.TcCoe Idealize.SL.Sem

/-- The idealized reference runs, leaves its arguments as they were and ends with every semaphore at zero. -/
theorem frame_reference : Cert.quiescent_PvRefIdeal (hPvRefIdeal := Cert.PvRefIdeal.Gen.facts) := fun m g _ =>
  (θ_run (Cert.PvRefIdeal.defs (F := Ideal)) _ _).mono (fun r h => ⟨fun c => (h c).2, sem_eq_zero_of_no_sems (by decide) r.2⟩) (Cert.PvRefIdeal.Value.run m g)

/-- From equal arguments the idealized kernel and the idealized reference end with equal results. -/
theorem algebraic : Cert.algebraic_PvIdeal_PvRefIdeal (hPvIdeal := Cert.PvIdeal.Gen.facts) (hPvRefIdeal := Cert.PvRefIdeal.Gen.facts) := by
  intro m g m' g' _ ha
  refine ⟨_, Cert.PvIdeal.Value.run_blocks m g, (θ_run (Cert.PvRefIdeal.defs (F := Ideal)) _ _).mono (fun r h c => ?_) (Cert.PvRefIdeal.Value.run m' g')⟩
  obtain ⟨a0, a1⟩ := ha c
  obtain ⟨r0, hargs⟩ := h c
  refine ⟨r0.trans ?_, hargs⟩
  rw [Cert.PvRefIdeal.Read.val_main_v15_eq, Cert.PvIdeal.Tie.final m c]
  funext i
  obtain ⟨r, k, rfl⟩ : ∃ (r : Fin _) (k : Fin _), i = ix2 r k := ⟨i 0, i 1, eq_ix2 i⟩
  refine (Cert.PvIdeal.Tie.ref_apply _ _ r k).trans ?_
  rw [a0, a1]
  rfl

end Cert.Proof.Pv
end
-- ==== Proof.GatesTie.lean ====
module

public import proofs.«01_k».proof.Proof.Sigmoid
public import proofs.«01_k».proof.Proof.Gen.GatesIdeal.Value
public import proofs.«01_k».proof.Proof.Gen.GatesRefIdeal.Run
public import proofs.«01_k».proof.Proof.Gen.GatesRefIdeal.Read
public import Idealize.ShloMosaic.Lib.Pipeline.ValueKit

@[expose] public section

set_option maxRecDepth 16384

noncomputable section

namespace Cert.GatesIdeal.Tie

open Cert.GatesIdeal Cert.GatesIdeal.Gen Idealize.ShloMosaic Idealize.ShloMosaic.TcCoe Idealize.SL.Sem

variable (m : (ℓ : Loc nD τ sig) → Buf (Elt Ideal) ℓ)

/-- Entry `(r, k)` of the gates, from the reference's arguments. -/
def entry (x0 : FVec Ideal S4x4096x4096 .f32) (x1 : FVec Ideal S1x4096x17408 .f32) (r : Fin 16384) (k : Fin 8192) : EReal :=
  Ideal.logistic (∑ e : Fin 4096, HMul.hMul (α := EReal) (x0 (ix3 ⟨r.val / 4096, by have := r.isLt; omega⟩ ⟨r.val % 4096, by omega⟩ e))
    (x1 (ix3 0 e ⟨9216 + k.val, by have := k.isLt; omega⟩)))

/-- A chunk of the body's block at an entry. -/
theorem pay_apply (w : Vec Ideal S4096x512 .bf16) (a : Vec Ideal S512x4096 .bf16) (i j : Fin 512) :
    k0_pay2 (F := Ideal) w a (ix2 i j) = Ideal.logistic (∑ e : Fin 4096, HMul.hMul (α := EReal) (a (ix2 i e)) (w (ix2 e j))) := by
  unfold k0_pay2 k0_pay1
  pointwise

/-- The logistic function of a row times a column, where the row is the chunk's. -/
theorem chunk_apply (x : Vec Ideal S2048x4096 .bf16) (w : Vec Ideal S4096x512 .bf16) (v : Vec Ideal S512x4096 .bf16) (u : Vec Ideal S4096x512 .bf16)
    (i j j' : Fin 512) (r : Fin 2048) (hj : j' = j) (hv : ∀ e : Fin 4096, v (ix2 i e) = x (ix2 r e)) (hu : ∀ e : Fin 4096, u (ix2 e j) = w (ix2 e j)) :
    k0_pay2 (F := Ideal) u v (ix2 i j') = Ideal.logistic (∑ e : Fin 4096, HMul.hMul (α := EReal) (x (ix2 r e)) (w (ix2 e j))) := by
  rw [hj]
  refine (pay_apply u v i j).trans (congrArg Ideal.logistic (Finset.sum_congr rfl fun e _ => ?_))
  rw [hv, hu]

/-- The body's block at an entry. -/
theorem out_apply (x0 : Vec Ideal S2048x4096 .bf16) (x1 : Vec Ideal S4096x512 .bf16) (r : Fin 2048) (j : Fin 512) :
    out0_2 (F := Ideal) x0 x1 (ix2 r j) = Ideal.logistic (∑ e : Fin 4096, HMul.hMul (α := EReal) (x0 (ix2 r e)) (x1 (ix2 e j))) := by
  canon_tiles x h
  · have hr : r.val = 1536 + (x 0).val := h0
    have hj : x 1 = j := Fin.ext h1.symm
    rw [show x = ix2 (x 0) (x 1) from eq_ix2 x]
    refine chunk_apply x0 x1 (View.ld x0 r0_7) (View.ld x1 r0_0) (x 0) j (x 1) r hj (fun e => ?_) (fun e => ?_)
    · pointwise
      blk_ext
    · pointwise
  · have hr : r.val = 1024 + (x 0).val := h0
    have hj : x 1 = j := Fin.ext h1.symm
    rw [show x = ix2 (x 0) (x 1) from eq_ix2 x]
    refine chunk_apply x0 x1 (View.ld x0 r0_5) (View.ld x1 r0_0) (x 0) j (x 1) r hj (fun e => ?_) (fun e => ?_)
    · pointwise
      blk_ext
    · pointwise
  · have hr : r.val = 512 + (x 0).val := h0
    have hj : x 1 = j := Fin.ext h1.symm
    rw [show x = ix2 (x 0) (x 1) from eq_ix2 x]
    refine chunk_apply x0 x1 (View.ld x0 r0_3) (View.ld x1 r0_0) (x 0) j (x 1) r hj (fun e => ?_) (fun e => ?_)
    · pointwise
      blk_ext
    · pointwise
  · have hr : r.val = (x 0).val := h0
    have hj : x 1 = j := Fin.ext h1.symm
    rw [show x = ix2 (x 0) (x 1) from eq_ix2 x]
    refine chunk_apply x0 x1 (View.ld x0 r0_1) (View.ld x1 r0_0) (x 0) j (x 1) r hj (fun e => ?_) (fun e => ?_)
    · pointwise
      blk_ext
    · pointwise

/-- The block of each window at a grid point. -/
theorem idx (t : Fin cfg0.N) : win0_0.index t = ![t.val / 16, 0] ∧ win0_1.index t = ![0, 18 + t.val % 16] ∧ win0_2.index t = ![t.val / 16, t.val % 16] :=
  (by decide +kernel : ∀ t : Fin grid0.N, win0_0.index t = ![t.val / 16, 0] ∧ win0_1.index t = ![0, 18 + t.val % 16] ∧ win0_2.index t = ![t.val / 16, t.val % 16]) t

/-- A row of the left operand's block. -/
theorem iblk0_apply (c : Dev nD) (t : Fin cfg0.N) (i : Fin 2048) (e : Fin 4096) (b : Fin 4) (s : Fin 4096) (h : 4096 * b.val + s.val = 2048 * (t.val / 16) + i.val) :
    iblk m c 0 t (ix2 i e) = m ((c : Thread nD τ).loc main_arg0) (ix3 b s e) := by
  have := s.isLt
  have h' := (idx t).1
  have hx : iblk m c 0 t (ix2 i e) = V m c main_v1 (ix2 ⟨4096 * b.val + s.val, by have := b.isLt; omega⟩ e) := by
    blk_ext [iblk, h']
  refine hx.trans ?_
  entry_read
  pointwise
  blk_ext

/-- A column of the weight's block. -/
theorem iblk1_apply (c : Dev nD) (t : Fin cfg0.N) (e : Fin 4096) (j : Fin 512) (k : Fin 17408) (h : k.val = 512 * (18 + t.val % 16) + j.val) :
    iblk m c 1 t (ix2 e j) = m ((c : Thread nD τ).loc main_arg1) (ix3 0 e k) := by
  have h' := (idx t).2.1
  have hx : iblk m c 1 t (ix2 e j) = V m c main_v3 (ix2 e k) := by
    blk_ext [iblk, h']
  refine hx.trans ?_
  entry_read
  pointwise

/-- The call's result, entry by entry. -/
theorem final (c : Dev nD) : (dats (F := Ideal) m 0 c).arrAt 2 cfg0.N
    = fun i : S16384x8192.Idx => entry (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have i2 := (idx t).2.2
  have ht : t.val < 128 := Nat.lt_of_lt_of_eq t.isLt N_0
  have y0 : (y 0).val < 2048 := (y 0).isLt
  have y1 : (y 1).val < 512 := (y 1).isLt
  have hr : ((((View.whole main_v4).slice (win0_2.rect t)).emb y 0 : Fin 16384)).val = 2048 * (t.val / 16) + (y 0).val := by
    blk_simp [i2]; omega
  have hc : ((((View.whole main_v4).slice (win0_2.rect t)).emb y 1 : Fin 8192)).val = 512 * (t.val % 16) + (y 1).val := by
    blk_simp [i2]; omega
  generalize (((View.whole main_v4).slice (win0_2.rect t)).emb y 0 : Fin 16384) = r at hr ⊢
  generalize (((View.whole main_v4).slice (win0_2.rect t)).emb y 1 : Fin 8192) = k at hc ⊢
  rw [show y = ix2 (y 0) (y 1) from eq_ix2 y]
  refine (out_apply _ _ (y 0) (y 1)).trans ?_
  unfold entry
  refine congrArg Ideal.logistic (Finset.sum_congr rfl fun e _ => congrArg₂ (fun x y : EReal => x * y) (iblk0_apply m c t _ _ _ _ ?_) (iblk1_apply m c t _ _ _ ?_))
    <;> (try dsimp only) <;> omega

/-- The reference's product at an entry. -/
theorem ref1_apply (x0 : FVec Ideal S4x4096x4096 .f32) (x1 : FVec Ideal S1x4096x17408 .f32) (b : Fin 4) (s : Fin 4096) (k : Fin 17408) :
    Cert.GatesRefIdeal.Read.val_main_v1 (F := Ideal) x0 x1 (ix3 b s k) = ∑ e : Fin 4096, HMul.hMul (α := EReal) (x0 (ix3 b s e)) (x1 (ix3 0 e k)) := by
  have hk := k.isLt
  rw [Cert.GatesRefIdeal.Read.val_main_v1_apply]
  refine Finset.sum_congr rfl fun e _ => congrArg₂ (fun x y : EReal => x * y) ?_ ?_
  · blk_ext
  · rw [Cert.GatesRefIdeal.Read.val_main_v0_apply]
    have he := e.isLt
    blk_ext

/-- The reference's sigmoid at an entry. -/
theorem unit_apply (x0 : FVec Ideal S4x4096x4096 .f32) (x1 : FVec Ideal S1x4096x17408 .f32) (i : Cert.GatesRefIdeal.S4x4096x8192.Idx) :
    Cert.GatesRefIdeal.Read.val_main_v8 (F := Ideal) x0 x1 i = Ideal.logistic (Cert.GatesRefIdeal.Read.val_main_v2 (F := Ideal) x0 x1 i) := by
  rw [Cert.GatesRefIdeal.Read.val_main_v8_apply, Cert.GatesRefIdeal.Read.val_main_v7_apply, Cert.GatesRefIdeal.Read.val_main_v6_apply,
    Cert.GatesRefIdeal.Read.val_main_v5_apply, Cert.GatesRefIdeal.Read.val_main_v4_apply, Cert.GatesRefIdeal.Read.val_main_v3_apply,
    Cert.GatesRefIdeal.Read.val_main_cst_apply, Cert.GatesRefIdeal.Read.val_main_cst_0_apply]
  generalize Cert.GatesRefIdeal.Read.val_main_v2 (F := Ideal) x0 x1 i = y
  rw [Cert.Proof.Sigmoid.one_bits]
  exact Cert.Proof.Sigmoid.div_logistic y

/-- The reference at an entry. -/
theorem ref_apply (x0 : FVec Ideal S4x4096x4096 .f32) (x1 : FVec Ideal S1x4096x17408 .f32)
    (r : Fin 16384) (k : Fin 8192) : Cert.GatesRefIdeal.Read.val_main_v10 (F := Ideal) x0 x1 (ix2 r k) = entry x0 x1 r k := by
  have hr := r.isLt
  have hk := k.isLt
  rw [Cert.GatesRefIdeal.Read.val_main_v10_apply, Cert.GatesRefIdeal.Read.val_main_v9_apply, unit_apply, Cert.GatesRefIdeal.Read.val_main_v2_apply]
  have h1 := ref1_apply x0 x1 ⟨r.val / 4096, by omega⟩ ⟨r.val % 4096, by omega⟩ ⟨9216 + k.val, by omega⟩
  unfold entry
  rw [← h1]
  refine congrArg Ideal.logistic ?_
  blk_ext

end Cert.GatesIdeal.Tie
end
-- ==== Proof.GatesClaims.lean ====
module

public import proofs.«01_k».proof.Defs
public import proofs.«01_k».proof.Proof.GatesTie
public import proofs.«01_k».proof.Proof.Gen.Gates
public import proofs.«01_k».proof.Proof.Gen.GatesIdeal.Value
public import proofs.«01_k».proof.Proof.Gen.GatesRefIdeal.Run
public import proofs.«01_k».proof.Proof.Gen.GatesRefIdeal.Read

@[expose] public section

set_option maxRecDepth 16384

noncomputable section

namespace Cert.Proof.Gates

open Idealize.ShloMosaic Idealize.ShloMosaic.TcCoe Idealize.SL.Sem

/-- The idealized reference runs, leaves its arguments as they were and ends with every semaphore at zero. -/
theorem frame_reference : Cert.quiescent_GatesRefIdeal (hGatesRefIdeal := Cert.GatesRefIdeal.Gen.facts) := fun m g _ =>
  (θ_run (Cert.GatesRefIdeal.defs (F := Ideal)) _ _).mono (fun r h => ⟨fun c => (h c).2, sem_eq_zero_of_no_sems (by decide) r.2⟩) (Cert.GatesRefIdeal.Value.run m g)

/-- From equal arguments the idealized kernel and the idealized reference end with equal results. -/
theorem algebraic : Cert.algebraic_GatesIdeal_GatesRefIdeal (hGatesIdeal := Cert.GatesIdeal.Gen.facts) (hGatesRefIdeal := Cert.GatesRefIdeal.Gen.facts) := by
  intro m g m' g' _ ha
  refine ⟨_, Cert.GatesIdeal.Value.run_blocks m g, (θ_run (Cert.GatesRefIdeal.defs (F := Ideal)) _ _).mono (fun r h c => ?_) (Cert.GatesRefIdeal.Value.run m' g')⟩
  obtain ⟨a0, a1⟩ := ha c
  obtain ⟨r0, hargs⟩ := h c
  refine ⟨r0.trans ?_, hargs⟩
  rw [Cert.GatesRefIdeal.Read.val_main_v10_eq, Cert.GatesIdeal.Tie.final m c]
  funext i
  obtain ⟨r, k, rfl⟩ : ∃ (r : Fin _) (k : Fin _), i = ix2 r k := ⟨i 0, i 1, eq_ix2 i⟩
  refine (Cert.GatesIdeal.Tie.ref_apply _ _ r k).trans ?_
  rw [a0, a1]
  rfl

end Cert.Proof.Gates
end
-- ==== Proof.MergeTie.lean ====
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit

@[expose] public section

set_option maxRecDepth 16384

noncomputable section

namespace Cert.MergeIdeal.Tie

open Cert.MergeIdeal Cert.MergeIdeal.Gen Idealize.ShloMosaic Idealize.ShloMosaic.TcCoe Idealize.SL.Sem

variable (m : (ℓ : Loc nD τ sig) → Buf (Elt Ideal) ℓ)

/-- A gate times a row of one attention's output times a column of its weight. -/
def part (x : FVec Ideal S4x4096x2048 .f32) (s : FVec Ideal S4x4096x4096 .f32) (w : FVec Ideal S1x2048x4096 .f32) (r : Fin 16384) (k : Fin 4096) : EReal :=
  HMul.hMul (α := EReal) (s (ix3 ⟨r.val / 4096, by have := r.isLt; omega⟩ ⟨r.val % 4096, by omega⟩ k))
    (∑ e : Fin 2048, HMul.hMul (α := EReal) (x (ix3 ⟨r.val / 4096, by have := r.isLt; omega⟩ ⟨r.val % 4096, by omega⟩ e)) (w (ix3 0 e k)))

/-- Entry `(r, k)` of the sum of both gated products, from the reference's arguments. -/
def entry (x0 x1 : FVec Ideal S4x4096x2048 .f32) (x2 x3 : FVec Ideal S4x4096x4096 .f32) (x4 x5 : FVec Ideal S1x2048x4096 .f32)
    (r : Fin 16384) (k : Fin 4096) : EReal :=
  HAdd.hAdd (α := EReal) (part x0 x2 x4 r k) (part x1 x3 x5 r k)

/-- The body's block at an entry. -/
theorem pay_apply (a : Vec Ideal S1024x2048 .bf16) (w : Vec Ideal S2048x1024 .bf16) (a' : Vec Ideal S1024x2048 .bf16) (w' : Vec Ideal S2048x1024 .bf16)
    (g g' : Vec Ideal S1024x1024 .bf16) (i j : Fin 1024) :
    k0_pay1 (F := Ideal) a w a' w' g g' (ix2 i j)
      = HAdd.hAdd (α := EReal) (HMul.hMul (α := EReal) (g (ix2 i j)) (∑ e : Fin 2048, HMul.hMul (α := EReal) (a (ix2 i e)) (w (ix2 e j))))
        (HMul.hMul (α := EReal) (g' (ix2 i j)) (∑ e : Fin 2048, HMul.hMul (α := EReal) (a' (ix2 i e)) (w' (ix2 e j)))) := by
  unfold k0_pay1
  pointwise

/-- The block of each window at a grid point. -/
theorem idx (t : Fin cfg0.N) : win0_0.index t = ![t.val / 4, 0] ∧ win0_1.index t = ![t.val / 4, 0] ∧ win0_2.index t = ![0, t.val % 4]
    ∧ win0_3.index t = ![0, t.val % 4] ∧ win0_4.index t = ![t.val / 4, t.val % 4] ∧ win0_5.index t = ![t.val / 4, 4 + t.val % 4]
    ∧ win0_6.index t = ![t.val / 4, t.val % 4] :=
  (by decide +kernel : ∀ t : Fin grid0.N, win0_0.index t = ![t.val / 4, 0] ∧ win0_1.index t = ![t.val / 4, 0] ∧ win0_2.index t = ![0, t.val % 4]
    ∧ win0_3.index t = ![0, t.val % 4] ∧ win0_4.index t = ![t.val / 4, t.val % 4] ∧ win0_5.index t = ![t.val / 4, 4 + t.val % 4]
    ∧ win0_6.index t = ![t.val / 4, t.val % 4]) t

/-- A row of the first left operand's block. -/
theorem iblk0_apply (c : Dev nD) (t : Fin cfg0.N) (i : Fin 1024) (e : Fin 2048) (b : Fin 4) (s : Fin 4096) (h : 4096 * b.val + s.val = 1024 * (t.val / 4) + i.val) :
    iblk m c 0 t (ix2 i e) = m ((c : Thread nD τ).loc main_arg0) (ix3 b s e) := by
  have := s.isLt
  have h' := (idx t).1
  have hx : iblk m c 0 t (ix2 i e) = V m c main_v2 (ix2 ⟨4096 * b.val + s.val, by have := b.isLt; omega⟩ e) := by
    blk_ext [iblk, h']
  refine hx.trans ?_
  entry_read
  pointwise
  blk_ext

/-- A row of the second left operand's block. -/
theorem iblk1_apply (c : Dev nD) (t : Fin cfg0.N) (i : Fin 1024) (e : Fin 2048) (b : Fin 4) (s : Fin 4096) (h : 4096 * b.val + s.val = 1024 * (t.val / 4) + i.val) :
    iblk m c 1 t (ix2 i e) = m ((c : Thread nD τ).loc main_arg1) (ix3 b s e) := by
  have := s.isLt
  have h' := (idx t).2.1
  have hx : iblk m c 1 t (ix2 i e) = V m c main_v4 (ix2 ⟨4096 * b.val + s.val, by have := b.isLt; omega⟩ e) := by
    blk_ext [iblk, h']
  refine hx.trans ?_
  entry_read
  pointwise
  blk_ext

/-- A column of the first weight's block. -/
theorem iblk2_apply (c : Dev nD) (t : Fin cfg0.N) (e : Fin 2048) (j : Fin 1024) (k : Fin 4096) (h : k.val = 1024 * (t.val % 4) + j.val) :
    iblk m c 2 t (ix2 e j) = m ((c : Thread nD τ).loc main_arg4) (ix3 0 e k) := by
  have h' := (idx t).2.2.1
  have hx : iblk m c 2 t (ix2 e j) = V m c main_v6 (ix2 e k) := by
    blk_ext [iblk, h']
  refine hx.trans ?_
  entry_read
  pointwise

/-- A column of the second weight's block. -/
theorem iblk3_apply (c : Dev nD) (t : Fin cfg0.N) (e : Fin 2048) (j : Fin 1024) (k : Fin 4096) (h : k.val = 1024 * (t.val % 4) + j.val) :
    iblk m c 3 t (ix2 e j) = m ((c : Thread nD τ).loc main_arg5) (ix3 0 e k) := by
  have h' := (idx t).2.2.2.1
  have hx : iblk m c 3 t (ix2 e j) = V m c main_v8 (ix2 e k) := by
    blk_ext [iblk, h']
  refine hx.trans ?_
  entry_read
  pointwise

/-- An entry of the first gates' block. -/
theorem iblk4_apply (c : Dev nD) (t : Fin cfg0.N) (i j : Fin 1024) (b : Fin 4) (s : Fin 4096) (k : Fin 4096) (h : 4096 * b.val + s.val = 1024 * (t.val / 4) + i.val)
    (hk : k.val = 1024 * (t.val % 4) + j.val) : iblk m c 4 t (ix2 i j) = m ((c : Thread nD τ).loc main_arg2) (ix3 b s k) := by
  have := s.isLt
  have hk' := k.isLt
  have h' := (idx t).2.2.2.2.1
  have hx : iblk m c 4 t (ix2 i j) = V m c main_v10 (ix2 ⟨4096 * b.val + s.val, by have := b.isLt; omega⟩ ⟨k.val, by omega⟩) := by
    blk_ext [iblk, h']
  refine hx.trans ?_
  entry_read
  pointwise
  blk_ext

/-- An entry of the second gates' block. -/
theorem iblk5_apply (c : Dev nD) (t : Fin cfg0.N) (i j : Fin 1024) (b : Fin 4) (s : Fin 4096) (k : Fin 4096) (h : 4096 * b.val + s.val = 1024 * (t.val / 4) + i.val)
    (hk : k.val = 1024 * (t.val % 4) + j.val) : iblk m c 5 t (ix2 i j) = m ((c : Thread nD τ).loc main_arg3) (ix3 b s k) := by
  have := s.isLt
  have hk' := k.isLt
  have h' := (idx t).2.2.2.2.2.1
  have hx : iblk m c 5 t (ix2 i j) = V m c main_v10 (ix2 ⟨4096 * b.val + s.val, by have := b.isLt; omega⟩ ⟨4096 + k.val, by omega⟩) := by
    blk_ext [iblk, h']
  refine hx.trans ?_
  entry_read
  pointwise
  blk_ext

/-- The call's result, entry by entry. -/
theorem final (c : Dev nD) : (dats (F := Ideal) m 0 c).arrAt 6 cfg0.N
    = fun i : S16384x4096.Idx => entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  frame_out
  have i6 := (idx t).2.2.2.2.2.2
  have ht : t.val < 64 := Nat.lt_of_lt_of_eq t.isLt N_0
  have y0 : (y 0).val < 1024 := (y 0).isLt
  have y1 : (y 1).val < 1024 := (y 1).isLt
  have hr : ((((View.whole main_v11).slice (win0_6.rect t)).emb y 0 : Fin 16384)).val = 1024 * (t.val / 4) + (y 0).val := by
    blk_simp [i6]; omega
  have hc : ((((View.whole main_v11).slice (win0_6.rect t)).emb y 1 : Fin 4096)).val = 1024 * (t.val % 4) + (y 1).val := by
    blk_simp [i6]; omega
  generalize (((View.whole main_v11).slice (win0_6.rect t)).emb y 0 : Fin 16384) = r at hr ⊢
  generalize (((View.whole main_v11).slice (win0_6.rect t)).emb y 1 : Fin 4096) = k at hc ⊢
  rw [show y = ix2 (y 0) (y 1) from eq_ix2 y]
  refine (pay_apply _ _ _ _ _ _ (y 0) (y 1)).trans ?_
  unfold entry part
  refine congrArg₂ (fun x y : EReal => x + y) (congrArg₂ (fun x y : EReal => x * y) (iblk4_apply m c t _ _ _ _ _ ?_ ?_)
      (Finset.sum_congr rfl fun e _ => congrArg₂ (fun x y : EReal => x * y) (iblk0_apply m c t _ _ _ _ ?_) (iblk2_apply m c t _ _ _ ?_)))
    (congrArg₂ (fun x y : EReal => x * y) (iblk5_apply m c t _ _ _ _ _ ?_ ?_)
      (Finset.sum_congr rfl fun e _ => congrArg₂ (fun x y : EReal => x * y) (iblk1_apply m c t _ _ _ _ ?_) (iblk3_apply m c t _ _ _ ?_)))
    <;> (try dsimp only) <;> omega

/-- The reference at an entry. -/
theorem ref_apply (x0 x1 : FVec Ideal S4x4096x2048 .f32) (x2 x3 : FVec Ideal S4x4096x4096 .f32) (x4 x5 : FVec Ideal S1x2048x4096 .f32)
    (r : Fin 16384) (k : Fin 4096) : Cert.MergeRefIdeal.Read.val_main_v8 (F := Ideal) x0 x1 x2 x3 x4 x5 (ix2 r k) = entry x0 x1 x2 x3 x4 x5 r k := by
  have hr := r.isLt
  have hk := k.isLt
  unfold entry part
  rw [Cert.MergeRefIdeal.Read.val_main_v8_apply, Cert.MergeRefIdeal.Read.val_main_v7_apply, Cert.MergeRefIdeal.Read.val_main_v6_apply,
    Cert.MergeRefIdeal.Read.val_main_v5_apply, Cert.MergeRefIdeal.Read.val_main_v4_apply, Cert.MergeRefIdeal.Read.val_main_v2_apply, Cert.MergeRefIdeal.Read.val_main_v1_apply]
  refine congrArg₂ (fun x y : EReal => x + y) (congrArg₂ (fun x y : EReal => x * y) ?_ (Finset.sum_congr rfl fun e _ => congrArg₂ (fun x y : EReal => x * y) ?_ ?_))
    (congrArg₂ (fun x y : EReal => x * y) ?_ (Finset.sum_congr rfl fun e _ => congrArg₂ (fun x y : EReal => x * y) ?_ ?_))
  · blk_ext
  · blk_ext
  · rw [Cert.MergeRefIdeal.Read.val_main_v0_apply]
    have he := e.isLt
    blk_ext
  · blk_ext
  · blk_ext
  · rw [Cert.MergeRefIdeal.Read.val_main_v3_apply]
    have he := e.isLt
    blk_ext

end Cert.MergeIdeal.Tie
end
-- ==== Proof.MergeClaims.lean ====
module

public import proofs.«01_k».proof.Defs
public import proofs.«01_k».proof.Proof.MergeTie
public import proofs.«01_k».proof.Proof.Gen.Merge
public import proofs.«01_k».proof.Proof.Gen.MergeIdeal.Value
public import proofs.«01_k».proof.Proof.Gen.MergeRefIdeal.Run
public import proofs.«01_k».proof.Proof.Gen.MergeRefIdeal.Read

@[expose] public section

set_option maxRecDepth 16384

noncomputable section

namespace Cert.Proof.Merge

open Idealize.ShloMosaic Idealize.ShloMosaic.TcCoe Idealize.SL.Sem

/-- The idealized reference runs, leaves its arguments as they were and ends with every semaphore at zero. -/
theorem frame_reference : Cert.quiescent_MergeRefIdeal (hMergeRefIdeal := Cert.MergeRefIdeal.Gen.facts) := fun m g _ =>
  (θ_run (Cert.MergeRefIdeal.defs (F := Ideal)) _ _).mono (fun r h => ⟨fun c => (h c).2, sem_eq_zero_of_no_sems (by decide) r.2⟩) (Cert.MergeRefIdeal.Value.run m g)

/-- From equal arguments the idealized kernel and the idealized reference end with equal results. -/
theorem algebraic : Cert.algebraic_MergeIdeal_MergeRefIdeal (hMergeIdeal := Cert.MergeIdeal.Gen.facts) (hMergeRefIdeal := Cert.MergeRefIdeal.Gen.facts) := by
  intro m g m' g' _ ha
  refine ⟨_, Cert.MergeIdeal.Value.run_blocks m g, (θ_run (Cert.MergeRefIdeal.defs (F := Ideal)) _ _).mono (fun r h c => ?_) (Cert.MergeRefIdeal.Value.run m' g')⟩
  obtain ⟨a0, a1, a2, a3, a4, a5⟩ := ha c
  obtain ⟨r0, hargs⟩ := h c
  refine ⟨r0.trans ?_, hargs⟩
  rw [Cert.MergeRefIdeal.Read.val_main_v8_eq, Cert.MergeIdeal.Tie.final m c]
  funext i
  obtain ⟨r, k, rfl⟩ : ∃ (r : Fin _) (k : Fin _), i = ix2 r k := ⟨i 0, i 1, eq_ix2 i⟩
  refine (Cert.MergeIdeal.Tie.ref_apply _ _ _ _ _ _ r k).trans ?_
  rw [a0, a1, a2, a3, a4, a5]
  rfl

end Cert.Proof.Merge
end
-- ==== Proof.OutTie.lean ====
module

public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit

@[expose] public section

set_option maxRecDepth 16384

noncomputable section

namespace Cert.OutIdeal.Tie

open Cert.OutIdeal Cert.OutIdeal.Gen Idealize.ShloMosaic Idealize.ShloMosaic.TcCoe Idealize.SL.Sem

variable (m : (ℓ : Loc nD τ sig) → Buf (Elt Ideal) ℓ)

/-- Entry `(r, k)` of the residual plus the gate times the product, from the reference's arguments. -/
def entry (x0 : FVec Ideal S4x4096x4096 .f32) (x1 : FVec Ideal S1x4096x4096 .f32) (x2 : FVec Ideal S4x4096x4096 .f32) (x3 : FVec Ideal S4x1x4096 .f32)
    (r : Fin 16384) (k : Fin 4096) : EReal :=
  HAdd.hAdd (α := EReal) (x2 (ix3 ⟨r.val / 4096, by have := r.isLt; omega⟩ ⟨r.val % 4096, by omega⟩ k)) (HMul.hMul (α := EReal) (x3 (ix3 ⟨r.val / 4096, by have := r.isLt; omega⟩ 0 k))
    (∑ e : Fin 4096, HMul.hMul (α := EReal) (x0 (ix3 ⟨r.val / 4096, by have := r.isLt; omega⟩ ⟨r.val % 4096, by omega⟩ e)) (x1 (ix3 0 e k))))

/-- The body's block at an entry. -/
theorem pay_apply (a : Vec Ideal S1024x4096 .bf16) (w : Vec Ideal S4096x1024 .bf16) (res : Vec Ideal S1024x1024 .f32) (g : Vec Ideal S1x1x1024 .f32) (i j : Fin 1024) :
    k0_pay1 (F := Ideal) a w res g (ix2 i j)
      = HAdd.hAdd (α := EReal) (res (ix2 i j)) (HMul.hMul (α := EReal) (g (ix3 0 0 j)) (∑ e : Fin 4096, HMul.hMul (α := EReal) (a (ix2 i e)) (w (ix2 e j)))) := by
  unfold k0_pay1
  pointwise

/-- The block of each window at a grid point. -/
theorem idx (t : Fin cfg0.N) : win0_0.index t = ![t.val / 4, 0] ∧ win0_1.index t = ![0, t.val % 4] ∧ win0_2.index t = ![t.val / 4, t.val % 4]
    ∧ win0_3.index t = ![t.val / 4 / 4, 0, t.val % 4] ∧ win0_4.index t = ![t.val / 4, t.val % 4] :=
  (by decide +kernel : ∀ t : Fin grid0.N, win0_0.index t = ![t.val / 4, 0] ∧ win0_1.index t = ![0, t.val % 4] ∧ win0_2.index t = ![t.val / 4, t.val % 4]
    ∧ win0_3.index t = ![t.val / 4 / 4, 0, t.val % 4] ∧ win0_4.index t = ![t.val / 4, t.val % 4]) t

/-- A row of the left operand's block. -/
theorem iblk0_apply (c : Dev nD) (t : Fin cfg0.N) (i : Fin 1024) (e : Fin 4096) (b : Fin 4) (s : Fin 4096) (h : 4096 * b.val + s.val = 1024 * (t.val / 4) + i.val) :
    iblk m c 0 t (ix2 i e) = m ((c : Thread nD τ).loc main_arg0) (ix3 b s e) := by
  have := s.isLt
  have h' := (idx t).1
  have hx : iblk m c 0 t (ix2 i e) = V m c main_v1 (ix2 ⟨4096 * b.val + s.val, by have := b.isLt; omega⟩ e) := by
    blk_ext [iblk, h']
  refine hx.trans ?_
  entry_read
  pointwise
  blk_ext

/-- A column of the weight's block. -/
theorem iblk1_apply (c : Dev nD) (t : Fin cfg0.N) (e : Fin 4096) (j : Fin 1024) (k : Fin 4096) (h : k.val = 1024 * (t.val % 4) + j.val) :
    iblk m c 1 t (ix2 e j) = m ((c : Thread nD τ).loc main_arg1) (ix3 0 e k) := by
  have h' := (idx t).2.1
  have hx : iblk m c 1 t (ix2 e j) = V m c main_v3 (ix2 e k) := by
    blk_ext [iblk, h']
  refine hx.trans ?_
  entry_read
  pointwise

/-- An entry of the residual's block. -/
theorem iblk2_apply (c : Dev nD) (t : Fin cfg0.N) (i j : Fin 1024) (b : Fin 4) (s : Fin 4096) (k : Fin 4096) (h : 4096 * b.val + s.val = 1024 * (t.val / 4) + i.val)
    (hk : k.val = 1024 * (t.val % 4) + j.val) : iblk m c 2 t (ix2 i j) = m ((c : Thread nD τ).loc main_arg2) (ix3 b s k) := by
  have := s.isLt
  have h' := (idx t).2.2.1
  have hx : iblk m c 2 t (ix2 i j) = V m c main_v4 (ix2 ⟨4096 * b.val + s.val, by have := b.isLt; omega⟩ k) := by
    blk_ext [iblk, h']
  refine hx.trans ?_
  entry_read
  pointwise
  blk_ext

/-- An entry of the gate's block. -/
theorem iblk3_apply (c : Dev nD) (t : Fin cfg0.N) (j : Fin 1024) (b : Fin 4) (k : Fin 4096) (h : b.val = t.val / 4 / 4)
    (hk : k.val = 1024 * (t.val % 4) + j.val) : iblk m c 3 t (ix3 0 0 j) = m ((c : Thread nD τ).loc main_arg3) (ix3 b 0 k) := by
  have h' := (idx t).2.2.2.1
  have hx : iblk m c 3 t (ix3 0 0 j) = V m c main_arg3 (ix3 b 0 k) := by
    blk_ext [iblk, h']
  refine hx.trans ?_
  entry_read
  rfl

/-- The call's result, entry by entry. -/
theorem final (c : Dev nD) : (dats (F := Ideal) m 0 c).arrAt 4 cfg0.N
    = fun i : S16384x4096.Idx => entry (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 4 _ (by decide +kernel) fun t hf y => ?_
  blk_simp
  rw [after0_4]
  frame_out
  have i4 := (idx t).2.2.2.2
  have ht : t.val < 64 := Nat.lt_of_lt_of_eq t.isLt N_0
  have y0 : (y 0).val < 1024 := (y 0).isLt
  have y1 : (y 1).val < 1024 := (y 1).isLt
  have hr : ((((View.whole main_v5).slice (win0_4.rect t)).emb y 0 : Fin 16384)).val = 1024 * (t.val / 4) + (y 0).val := by
    blk_simp [i4]; omega
  have hc : ((((View.whole main_v5).slice (win0_4.rect t)).emb y 1 : Fin 4096)).val = 1024 * (t.val % 4) + (y 1).val := by
    blk_simp [i4]; omega
  generalize (((View.whole main_v5).slice (win0_4.rect t)).emb y 0 : Fin 16384) = r at hr ⊢
  generalize (((View.whole main_v5).slice (win0_4.rect t)).emb y 1 : Fin 4096) = k at hc ⊢
  rw [show y = ix2 (y 0) (y 1) from eq_ix2 y]
  refine (pay_apply _ _ _ _ (y 0) (y 1)).trans ?_
  unfold entry
  refine congrArg₂ (fun x y : EReal => x + y) (iblk2_apply m c t _ _ _ _ _ ?_ ?_) (congrArg₂ (fun x y : EReal => x * y) (iblk3_apply m c t _ _ _ ?_ ?_)
    (Finset.sum_congr rfl fun e _ => congrArg₂ (fun x y : EReal => x * y) (iblk0_apply m c t _ _ _ _ ?_) (iblk1_apply m c t _ _ _ ?_))) <;> (try dsimp only) <;> omega

/-- The reference at an entry. -/
theorem ref_apply (x0 : FVec Ideal S4x4096x4096 .f32) (x1 : FVec Ideal S1x4096x4096 .f32) (x2 : FVec Ideal S4x4096x4096 .f32) (x3 : FVec Ideal S4x1x4096 .f32)
    (r : Fin 16384) (k : Fin 4096) : Cert.OutRefIdeal.Read.val_main_v5 (F := Ideal) x0 x1 x2 x3 (ix2 r k) = entry x0 x1 x2 x3 r k := by
  have hr := r.isLt
  have hk := k.isLt
  unfold entry
  rw [Cert.OutRefIdeal.Read.val_main_v5_apply, Cert.OutRefIdeal.Read.val_main_v4_apply, Cert.OutRefIdeal.Read.val_main_v3_apply,
    Cert.OutRefIdeal.Read.val_main_v2_apply, Cert.OutRefIdeal.Read.val_main_v1_apply]
  refine congrArg₂ (fun x y : EReal => x + y) ?_ (congrArg₂ (fun x y : EReal => x * y) ?_ (Finset.sum_congr rfl fun e _ => congrArg₂ (fun x y : EReal => x * y) ?_ ?_))
  · blk_ext
  · blk_ext
  · blk_ext
  · rw [Cert.OutRefIdeal.Read.val_main_v0_apply]
    have he := e.isLt
    blk_ext

end Cert.OutIdeal.Tie
end
-- ==== Proof.OutClaims.lean ====
module

public import proofs.«01_k».proof.Defs
public import proofs.«01_k».proof.Proof.OutTie
public import proofs.«01_k».proof.Proof.Gen.Out
public import proofs.«01_k».proof.Proof.Gen.OutIdeal.Value
public import proofs.«01_k».proof.Proof.Gen.OutRefIdeal.Run
public import proofs.«01_k».proof.Proof.Gen.OutRefIdeal.Read

@[expose] public section

set_option maxRecDepth 16384

noncomputable section

namespace Cert.Proof.Out

open Idealize.ShloMosaic Idealize.ShloMosaic.TcCoe Idealize.SL.Sem

/-- The idealized reference runs, leaves its arguments as they were and ends with every semaphore at zero. -/
theorem frame_reference : Cert.quiescent_OutRefIdeal (hOutRefIdeal := Cert.OutRefIdeal.Gen.facts) := fun m g _ =>
  (θ_run (Cert.OutRefIdeal.defs (F := Ideal)) _ _).mono (fun r h => ⟨fun c => (h c).2, sem_eq_zero_of_no_sems (by decide) r.2⟩) (Cert.OutRefIdeal.Value.run m g)

/-- From equal arguments the idealized kernel and the idealized reference end with equal results. -/
theorem algebraic : Cert.algebraic_OutIdeal_OutRefIdeal (hOutIdeal := Cert.OutIdeal.Gen.facts) (hOutRefIdeal := Cert.OutRefIdeal.Gen.facts) := by
  intro m g m' g' _ ha
  refine ⟨_, Cert.OutIdeal.Value.run_blocks m g, (θ_run (Cert.OutRefIdeal.defs (F := Ideal)) _ _).mono (fun r h c => ?_) (Cert.OutRefIdeal.Value.run m' g')⟩
  obtain ⟨a0, a1, a2, a3⟩ := ha c
  obtain ⟨r0, hargs⟩ := h c
  refine ⟨r0.trans ?_, hargs⟩
  rw [Cert.OutRefIdeal.Read.val_main_v5_eq, Cert.OutIdeal.Tie.final m c]
  funext i
  obtain ⟨r, k, rfl⟩ : ∃ (r : Fin _) (k : Fin _), i = ix2 r k := ⟨i 0, i 1, eq_ix2 i⟩
  refine (Cert.OutIdeal.Tie.ref_apply _ _ _ _ r k).trans ?_
  rw [a0, a1, a2, a3]
  rfl

end Cert.Proof.Out
end
-- ==== Proof.UpConv.lean ====
module

public import proofs.«01_k».proof.Proof.Gen.UpIdeal.Skeleton
public import Idealize.ShloMosaic.Lib.Pipeline.ValueKit

@[expose] public section

set_option maxRecDepth 16384

noncomputable section

namespace Cert.UpIdeal.Conv

open Cert.UpIdeal Cert.UpIdeal.Gen Idealize.ShloMosaic Idealize.ShloMosaic.TcCoe Idealize.SL.Sem

/-- A chunk's rows moved down by one, the row above the chunk in front. -/
def down (above : FVec Ideal S1x8x256 .f32) (u : FVec Ideal S64x8x256 .f32) : FVec Ideal S64x8x256 .f32 :=
  dynamicRotate 1 1#32 none
    (select (cmpi .eq (iota .tc S64x8x256 32 [1] iota_S64x8x256_d1_w32) (broadcast S64x8x256 7#32))
      (concatenate S64x8x256 0 [⟨S1x8x256, above⟩, ⟨S63x8x256, extractStridedSlice S63x8x256 ![0, 0, 0] u slices_S64x8x256_o0_0_0_S63x8x256⟩]
        concatenates_S1x8x256_S63x8x256_S64x8x256_d0) u) rotates_S64x8x256_d1

/-- A chunk's rows moved up by one, the row below the chunk behind. -/
def up (u : FVec Ideal S64x8x256 .f32) (below : FVec Ideal S1x8x256 .f32) : FVec Ideal S64x8x256 .f32 :=
  dynamicRotate 1 7#32 none
    (select (cmpi .eq (iota .tc S64x8x256 32 [1] iota_S64x8x256_d1_w32) (broadcast S64x8x256 0#32))
      (concatenate S64x8x256 0 [⟨S63x8x256, extractStridedSlice S63x8x256 ![1, 0, 0] u slices_S64x8x256_o1_0_0_S63x8x256⟩, ⟨S1x8x256, below⟩]
        concatenates_S63x8x256_S1x8x256_S64x8x256_d0) u) rotates_S64x8x256_d1

/-- One tap's row over the chunk. -/
def tap (w : Vec Ideal S1x256 .f32) : FVec Ideal S64x8x256 .f32 :=
  broadcastTo S64x8x256 (shapeCast S1x1x256 (shapeCast S1x256 w shapeCasts_S1x256_S1x256) shapeCasts_S1x256_S1x1x256) broadcasts_S1x1x256_S64x8x256

/-- A chunk's rows in groups of eight. -/
def grp (u : FVec Ideal S512x256 .f32) : FVec Ideal S64x8x256 .f32 := shapeCast S64x8x256 u shapeCasts_S512x256_S64x8x256

/-- A chunk's convolution over the rows. -/
def conv (above : FVec Ideal S1x8x256 .f32) (u : FVec Ideal S512x256 .f32) (below : FVec Ideal S1x8x256 .f32) (c0 c1 c2 b : Vec Ideal S1x256 .f32) :
    FVec Ideal S512x256 .f32 :=
  shapeCast S512x256 (addf (addf (addf (mulf (down above (grp u)) (tap c0)) (mulf (grp u) (tap c1))) (mulf (up (grp u) below) (tap c2))) (tap b))
    shapeCasts_S64x8x256_S512x256

/-- The rows moved down, at an entry: the row before, which at the chunk's first row is the one above the chunk. -/
theorem down_apply (above : FVec Ideal S1x8x256 .f32) (u : FVec Ideal S64x8x256 .f32) (g : Fin 64) (s : Fin 8) (j : Fin 256) :
    down above u (ix3 g s j) = if s.val = 0 then (if g.val = 0 then above (ix3 0 7 j) else u (ix3 ⟨g.val - 1, by omega⟩ 7 j)) else u (ix3 g ⟨s.val - 1, by omega⟩ j) := by
  unfold down
  fin_cases s <;> pointwise
  · by_cases h : g.val = 0
    · rw [dif_pos (by omega), if_pos h]
      exact congrArg (fun q => above (ix3 q 7 j)) (Fin.ext h)
    · rw [dif_neg (by omega), if_neg h]
  all_goals rfl

/-- The rows moved up, at an entry: the row after, which at the chunk's last row is the one below the chunk. -/
theorem up_apply (below : FVec Ideal S1x8x256 .f32) (u : FVec Ideal S64x8x256 .f32) (g : Fin 64) (s : Fin 8) (j : Fin 256) :
    up u below (ix3 g s j) = if h : s.val = 7 then (if h : g.val = 63 then below (ix3 0 0 j) else u (ix3 ⟨g.val + 1, by omega⟩ 0 j)) else u (ix3 g ⟨s.val + 1, by omega⟩ j) := by
  unfold up
  fin_cases s <;> pointwise
  case «7» =>
    by_cases h : g.val = 63
    · rw [dif_neg (by omega), dif_pos h]
      exact congrArg (fun q => below (ix3 q 0 j)) (Fin.ext (by simp [h]))
    · rw [dif_pos (by omega), dif_neg h]
      exact congrArg (fun q => u (ix3 q 0 j)) (Fin.ext (Nat.add_comm _ _))
  all_goals rfl

/-- A chunk's groups at an entry. -/
theorem grp_apply (u : FVec Ideal S512x256 .f32) (g : Fin 64) (s : Fin 8) (j : Fin 256) : grp u (ix3 g s j) = u (ix2 ⟨g.val * 8 + s.val, by omega⟩ j) := by
  unfold grp
  pointwise

/-- A tap's row at an entry. -/
theorem tap_apply (w : Vec Ideal S1x256 .f32) (g : Fin 64) (s : Fin 8) (j : Fin 256) : tap w (ix3 g s j) = w (ix2 0 j) := by
  unfold tap
  pointwise

/-- A chunk's convolution at an entry, when its rows and the rows beside it are entries of one padded column. -/
theorem conv_apply (f : ℕ → EReal) (n : ℕ) (above : FVec Ideal S1x8x256 .f32) (u : FVec Ideal S512x256 .f32) (below : FVec Ideal S1x8x256 .f32)
    (c0 c1 c2 b : Vec Ideal S1x256 .f32) (i : Fin 512) (j : Fin 256) (ha : above (ix3 0 7 j) = f n) (hu : ∀ i : Fin 512, u (ix2 i j) = f (n + i.val + 1))
    (hb : below (ix3 0 0 j) = f (n + 513)) :
    conv above u below c0 c1 c2 b (ix2 i j)
      = HAdd.hAdd (α := EReal) (HAdd.hAdd (α := EReal) (HAdd.hAdd (α := EReal) (HMul.hMul (α := EReal) (f (n + i.val)) (c0 (ix2 0 j)))
          (HMul.hMul (α := EReal) (f (n + i.val + 1)) (c1 (ix2 0 j)))) (HMul.hMul (α := EReal) (f (n + i.val + 2)) (c2 (ix2 0 j)))) (b (ix2 0 j)) := by
  have hi := i.isLt
  unfold conv
  generalize hd : down above (grp u) = d
  generalize hp : up (grp u) below = p
  generalize hg : grp u = q
  generalize h0 : tap c0 = t0
  generalize h1 : tap c1 = t1
  generalize h2 : tap c2 = t2
  generalize h3 : tap b = t3
  pointwise
  subst hd hp hg h0 h1 h2 h3
  rw [tap_apply, tap_apply, tap_apply, tap_apply, down_apply, up_apply]
  simp only [grp_apply, hu, ha, hb]
  refine congrArg₂ (fun x y : EReal => x + y) (congrArg₂ (fun x y : EReal => x + y) (congrArg₂ (fun x y : EReal => x + y) (congrArg₂ (fun x y : EReal => x * y) ?_ rfl)
    (congrArg₂ (fun x y : EReal => x * y) ?_ rfl)) (congrArg₂ (fun x y : EReal => x * y) ?_ rfl)) rfl
  · split_ifs <;> refine congrArg f ?_ <;> (try dsimp only) <;> omega
  · refine congrArg f ?_
    omega
  · split_ifs <;> refine congrArg f ?_ <;> (try dsimp only) <;> omega

end Cert.UpIdeal.Conv
end
-- ==== Proof.UpBlock.lean ====
module

public import proofs.«01_k».proof.Proof.UpConv
public import proofs.«01_k».proof.Proof.Gen.UpIdeal.Frame

@[expose] public section

set_option maxRecDepth 16384

noncomputable section

namespace Cert.UpIdeal.Conv

open Cert.UpIdeal Cert.UpIdeal.Gen Idealize.ShloMosaic Idealize.ShloMosaic.TcCoe Idealize.SL.Sem

/-- A chunk of the rows times a block of the weight's columns. -/
def mm (x : Vec Ideal S512x4096 .bf16) (w : Vec Ideal S4096x256 .bf16) : FVec Ideal S512x256 .f32 :=
  matmul (φ₁ := .bf16) (φ₂ := .bf16) dot_S512x4096_S4096x256_S512x256_1_0_0_1_n_n none (shapeCast S512x4096 x shapeCasts_S512x4096_S512x4096)
    (shapeCast S4096x256 w shapeCasts_S4096x256_S4096x256) (constant (F := Ideal) S512x256 .f32 0x00000000#32)

/-- A chunk's last eight rows. -/
def last8 (u : FVec Ideal S512x256 .f32) : FVec Ideal S1x8x256 .f32 :=
  extractStridedSlice S1x8x256 ![63, 0, 0] (grp u) slices_S64x8x256_o63_0_0_S1x8x256

/-- A chunk's first eight rows. -/
def first8 (u : FVec Ideal S512x256 .f32) : FVec Ideal S1x8x256 .f32 :=
  extractStridedSlice S1x8x256 ![0, 0, 0] (grp u) slices_S64x8x256_o0_0_0_S1x8x256

/-- A chunk of the result: the gate's convolution through the logistic unit, times the value's convolution. -/
def gated (ag : FVec Ideal S1x8x256 .f32) (ug : FVec Ideal S512x256 .f32) (bg : FVec Ideal S1x8x256 .f32) (av : FVec Ideal S1x8x256 .f32)
    (uv : FVec Ideal S512x256 .f32) (bv : FVec Ideal S1x8x256 .f32) (g0 g1 g2 g3 v0 v1 v2 v3 : Vec Ideal S1x256 .f32) : FVec Ideal S512x256 .bf16 :=
  truncf .bf16 (mulf (mulf (conv ag ug bg g0 g1 g2 g3) (logistic (conv ag ug bg g0 g1 g2 g3))) (conv av uv bv v0 v1 v2 v3)) bitsLt_bf16_f32

/-- A column of 4096 entries with one zero in front and zeros behind. -/
def padc (g : Fin 4096 → EReal) (n : ℕ) : EReal := if h : 1 ≤ n ∧ n ≤ 4096 then g ⟨n - 1, by omega⟩ else 0

/-- Three neighbouring entries of a padded column times the taps, plus the bias. -/
def cv (f : ℕ → EReal) (n : ℕ) (c0 c1 c2 b : EReal) : EReal := f n * c0 + f (n + 1) * c1 + f (n + 2) * c2 + b

/-- The gate through the logistic unit, times the value. -/
def glu (g v : EReal) : EReal := g * Ideal.logistic g * v

/-- A chunk's product at an entry. -/
theorem mm_apply (x : Vec Ideal S512x4096 .bf16) (w : Vec Ideal S4096x256 .bf16) (i : Fin 512) (j : Fin 256) :
    mm x w (ix2 i j) = ∑ e : Fin 4096, HMul.hMul (α := EReal) (x (ix2 i e)) (w (ix2 e j)) := by
  unfold mm
  pointwise

/-- The last of a chunk's last eight rows is its last row. -/
theorem last8_apply (u : FVec Ideal S512x256 .f32) (j : Fin 256) : last8 u (ix3 0 7 j) = u (ix2 511 j) := by
  unfold last8 grp
  pointwise

/-- The first of a chunk's first eight rows is its first row. -/
theorem first8_apply (u : FVec Ideal S512x256 .f32) (j : Fin 256) : first8 u (ix3 0 0 j) = u (ix2 0 j) := by
  unfold first8 grp
  pointwise

/-- The row beside the first and the last chunk is zero. -/
theorem zero8_apply (s : Fin 8) (j : Fin 256) : k0_pay28 (F := Ideal) (ix3 0 s j) = (0 : EReal) := by
  unfold k0_pay28
  pointwise

/-- A chunk of the result at an entry, when both products' rows are entries of padded columns. -/
theorem gated_apply (f g : ℕ → EReal) (n : ℕ) (ag : FVec Ideal S1x8x256 .f32) (ug : FVec Ideal S512x256 .f32) (bg : FVec Ideal S1x8x256 .f32)
    (av : FVec Ideal S1x8x256 .f32) (uv : FVec Ideal S512x256 .f32) (bv : FVec Ideal S1x8x256 .f32) (g0 g1 g2 g3 v0 v1 v2 v3 : Vec Ideal S1x256 .f32)
    (i : Fin 512) (j : Fin 256) (h1 : ag (ix3 0 7 j) = f n) (h2 : ∀ i : Fin 512, ug (ix2 i j) = f (n + i.val + 1)) (h3 : bg (ix3 0 0 j) = f (n + 513))
    (h4 : av (ix3 0 7 j) = g n) (h5 : ∀ i : Fin 512, uv (ix2 i j) = g (n + i.val + 1)) (h6 : bv (ix3 0 0 j) = g (n + 513)) :
    gated ag ug bg av uv bv g0 g1 g2 g3 v0 v1 v2 v3 (ix2 i j)
      = glu (cv f (n + i.val) (g0 (ix2 0 j)) (g1 (ix2 0 j)) (g2 (ix2 0 j)) (g3 (ix2 0 j))) (cv g (n + i.val) (v0 (ix2 0 j)) (v1 (ix2 0 j)) (v2 (ix2 0 j)) (v3 (ix2 0 j))) := by
  have e1 := conv_apply f n ag ug bg g0 g1 g2 g3 i j h1 h2 h3
  have e2 := conv_apply g n av uv bv v0 v1 v2 v3 i j h4 h5 h6
  unfold gated
  generalize conv ag ug bg g0 g1 g2 g3 = x at e1 ⊢
  generalize conv av uv bv v0 v1 v2 v3 = y at e2 ⊢
  pointwise
  rw [e1, e2]
  rfl

/-- Chunk 0 of the rows times a block of columns, at an entry: an entry of the padded column. -/
theorem col0 (x : Vec Ideal S4096x4096 .bf16) (w : Vec Ideal S4096x256 .bf16) (i : Fin 512) (j : Fin 256) :
    mm (View.ld x r0_1) (View.ld w r0_0) (ix2 i j)
      = padc (fun r => ∑ e : Fin 4096, HMul.hMul (α := EReal) (x (ix2 r e)) (w (ix2 e j))) (0 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- Chunk 1 of the rows times a block of columns, at an entry: an entry of the padded column. -/
theorem col1 (x : Vec Ideal S4096x4096 .bf16) (w : Vec Ideal S4096x256 .bf16) (i : Fin 512) (j : Fin 256) :
    mm (View.ld x r0_2) (View.ld w r0_0) (ix2 i j)
      = padc (fun r => ∑ e : Fin 4096, HMul.hMul (α := EReal) (x (ix2 r e)) (w (ix2 e j))) (512 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- Chunk 2 of the rows times a block of columns, at an entry: an entry of the padded column. -/
theorem col2 (x : Vec Ideal S4096x4096 .bf16) (w : Vec Ideal S4096x256 .bf16) (i : Fin 512) (j : Fin 256) :
    mm (View.ld x r0_3) (View.ld w r0_0) (ix2 i j)
      = padc (fun r => ∑ e : Fin 4096, HMul.hMul (α := EReal) (x (ix2 r e)) (w (ix2 e j))) (1024 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- Chunk 3 of the rows times a block of columns, at an entry: an entry of the padded column. -/
theorem col3 (x : Vec Ideal S4096x4096 .bf16) (w : Vec Ideal S4096x256 .bf16) (i : Fin 512) (j : Fin 256) :
    mm (View.ld x r0_4) (View.ld w r0_0) (ix2 i j)
      = padc (fun r => ∑ e : Fin 4096, HMul.hMul (α := EReal) (x (ix2 r e)) (w (ix2 e j))) (1536 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- Chunk 4 of the rows times a block of columns, at an entry: an entry of the padded column. -/
theorem col4 (x : Vec Ideal S4096x4096 .bf16) (w : Vec Ideal S4096x256 .bf16) (i : Fin 512) (j : Fin 256) :
    mm (View.ld x r0_5) (View.ld w r0_0) (ix2 i j)
      = padc (fun r => ∑ e : Fin 4096, HMul.hMul (α := EReal) (x (ix2 r e)) (w (ix2 e j))) (2048 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- Chunk 5 of the rows times a block of columns, at an entry: an entry of the padded column. -/
theorem col5 (x : Vec Ideal S4096x4096 .bf16) (w : Vec Ideal S4096x256 .bf16) (i : Fin 512) (j : Fin 256) :
    mm (View.ld x r0_6) (View.ld w r0_0) (ix2 i j)
      = padc (fun r => ∑ e : Fin 4096, HMul.hMul (α := EReal) (x (ix2 r e)) (w (ix2 e j))) (2560 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- Chunk 6 of the rows times a block of columns, at an entry: an entry of the padded column. -/
theorem col6 (x : Vec Ideal S4096x4096 .bf16) (w : Vec Ideal S4096x256 .bf16) (i : Fin 512) (j : Fin 256) :
    mm (View.ld x r0_7) (View.ld w r0_0) (ix2 i j)
      = padc (fun r => ∑ e : Fin 4096, HMul.hMul (α := EReal) (x (ix2 r e)) (w (ix2 e j))) (3072 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- Chunk 7 of the rows times a block of columns, at an entry: an entry of the padded column. -/
theorem col7 (x : Vec Ideal S4096x4096 .bf16) (w : Vec Ideal S4096x256 .bf16) (i : Fin 512) (j : Fin 256) :
    mm (View.ld x r0_8) (View.ld w r0_0) (ix2 i j)
      = padc (fun r => ∑ e : Fin 4096, HMul.hMul (α := EReal) (x (ix2 r e)) (w (ix2 e j))) (3584 + i.val + 1) := by
  refine (mm_apply _ _ _ _).trans ?_
  unfold padc
  rw [dif_pos (by omega)]
  refine Finset.sum_congr rfl fun e _ => congrArg₂ (fun x y : EReal => x * y) ?_ ?_
  · pointwise
    blk_ext
  · pointwise

/-- The body's block at an entry. -/
theorem out_apply (x0 : Vec Ideal S4096x4096 .bf16) (x1 x2 : Vec Ideal S4096x256 .bf16) (x3 x4 : Vec Ideal S3x256 .f32) (x5 x6 : Vec Ideal S1x256 .f32)
    (r : Fin 4096) (j : Fin 256) :
    out0_7 (F := Ideal) x0 x1 x2 x3 x4 x5 x6 (ix2 r j)
      = glu (cv (padc fun r => ∑ e : Fin 4096, HMul.hMul (α := EReal) (x0 (ix2 r e)) (x1 (ix2 e j))) r.val (x3 (ix2 0 j)) (x3 (ix2 1 j)) (x3 (ix2 2 j)) (x5 (ix2 0 j)))
          (cv (padc fun r => ∑ e : Fin 4096, HMul.hMul (α := EReal) (x0 (ix2 r e)) (x2 (ix2 e j))) r.val (x4 (ix2 0 j)) (x4 (ix2 1 j)) (x4 (ix2 2 j)) (x6 (ix2 0 j))) := by
  canon_tiles x h
  · have hr : r.val = 3584 + (x 0).val := h0
    have hj : x 1 = j := Fin.ext h1.symm
    rw [show x = ix2 (x 0) (x 1) from eq_ix2 x, hj, hr]
    show gated (last8 (mm (View.ld x0 r0_7) (View.ld x1 r0_0))) (mm (View.ld x0 r0_8) (View.ld x1 r0_0)) (k0_pay28 (F := Ideal)) (last8 (mm (View.ld x0 r0_7) (View.ld x2 r0_0))) (mm (View.ld x0 r0_8) (View.ld x2 r0_0)) (k0_pay28 (F := Ideal)) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 3584 _ _ _ _ _ _ _ _ _ _ _ _ _ _ _ _
      ((last8_apply _ _).trans (col6 x0 x1 _ _)) (fun i => col7 x0 x1 i _) ?_ ((last8_apply _ _).trans (col6 x0 x2 _ _)) (fun i => col7 x0 x2 i _) ?_).trans ?_
    all_goals first | exact zero8_apply _ _ | skip
    pointwise
  · have hr : r.val = 3072 + (x 0).val := h0
    have hj : x 1 = j := Fin.ext h1.symm
    rw [show x = ix2 (x 0) (x 1) from eq_ix2 x, hj, hr]
    show gated (last8 (mm (View.ld x0 r0_6) (View.ld x1 r0_0))) (mm (View.ld x0 r0_7) (View.ld x1 r0_0)) (first8 (mm (View.ld x0 r0_8) (View.ld x1 r0_0))) (last8 (mm (View.ld x0 r0_6) (View.ld x2 r0_0))) (mm (View.ld x0 r0_7) (View.ld x2 r0_0)) (first8 (mm (View.ld x0 r0_8) (View.ld x2 r0_0))) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 3072 _ _ _ _ _ _ _ _ _ _ _ _ _ _ _ _
      ((last8_apply _ _).trans (col5 x0 x1 _ _)) (fun i => col6 x0 x1 i _) ((first8_apply _ _).trans (col7 x0 x1 _ _)) ((last8_apply _ _).trans (col5 x0 x2 _ _)) (fun i => col6 x0 x2 i _) ((first8_apply _ _).trans (col7 x0 x2 _ _))).trans ?_
    all_goals first | exact zero8_apply _ _ | skip
    pointwise
  · have hr : r.val = 2560 + (x 0).val := h0
    have hj : x 1 = j := Fin.ext h1.symm
    rw [show x = ix2 (x 0) (x 1) from eq_ix2 x, hj, hr]
    show gated (last8 (mm (View.ld x0 r0_5) (View.ld x1 r0_0))) (mm (View.ld x0 r0_6) (View.ld x1 r0_0)) (first8 (mm (View.ld x0 r0_7) (View.ld x1 r0_0))) (last8 (mm (View.ld x0 r0_5) (View.ld x2 r0_0))) (mm (View.ld x0 r0_6) (View.ld x2 r0_0)) (first8 (mm (View.ld x0 r0_7) (View.ld x2 r0_0))) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 2560 _ _ _ _ _ _ _ _ _ _ _ _ _ _ _ _
      ((last8_apply _ _).trans (col4 x0 x1 _ _)) (fun i => col5 x0 x1 i _) ((first8_apply _ _).trans (col6 x0 x1 _ _)) ((last8_apply _ _).trans (col4 x0 x2 _ _)) (fun i => col5 x0 x2 i _) ((first8_apply _ _).trans (col6 x0 x2 _ _))).trans ?_
    all_goals first | exact zero8_apply _ _ | skip
    pointwise
  · have hr : r.val = 2048 + (x 0).val := h0
    have hj : x 1 = j := Fin.ext h1.symm
    rw [show x = ix2 (x 0) (x 1) from eq_ix2 x, hj, hr]
    show gated (last8 (mm (View.ld x0 r0_4) (View.ld x1 r0_0))) (mm (View.ld x0 r0_5) (View.ld x1 r0_0)) (first8 (mm (View.ld x0 r0_6) (View.ld x1 r0_0))) (last8 (mm (View.ld x0 r0_4) (View.ld x2 r0_0))) (mm (View.ld x0 r0_5) (View.ld x2 r0_0)) (first8 (mm (View.ld x0 r0_6) (View.ld x2 r0_0))) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 2048 _ _ _ _ _ _ _ _ _ _ _ _ _ _ _ _
      ((last8_apply _ _).trans (col3 x0 x1 _ _)) (fun i => col4 x0 x1 i _) ((first8_apply _ _).trans (col5 x0 x1 _ _)) ((last8_apply _ _).trans (col3 x0 x2 _ _)) (fun i => col4 x0 x2 i _) ((first8_apply _ _).trans (col5 x0 x2 _ _))).trans ?_
    all_goals first | exact zero8_apply _ _ | skip
    pointwise
  · have hr : r.val = 1536 + (x 0).val := h0
    have hj : x 1 = j := Fin.ext h1.symm
    rw [show x = ix2 (x 0) (x 1) from eq_ix2 x, hj, hr]
    show gated (last8 (mm (View.ld x0 r0_3) (View.ld x1 r0_0))) (mm (View.ld x0 r0_4) (View.ld x1 r0_0)) (first8 (mm (View.ld x0 r0_5) (View.ld x1 r0_0))) (last8 (mm (View.ld x0 r0_3) (View.ld x2 r0_0))) (mm (View.ld x0 r0_4) (View.ld x2 r0_0)) (first8 (mm (View.ld x0 r0_5) (View.ld x2 r0_0))) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 1536 _ _ _ _ _ _ _ _ _ _ _ _ _ _ _ _
      ((last8_apply _ _).trans (col2 x0 x1 _ _)) (fun i => col3 x0 x1 i _) ((first8_apply _ _).trans (col4 x0 x1 _ _)) ((last8_apply _ _).trans (col2 x0 x2 _ _)) (fun i => col3 x0 x2 i _) ((first8_apply _ _).trans (col4 x0 x2 _ _))).trans ?_
    all_goals first | exact zero8_apply _ _ | skip
    pointwise
  · have hr : r.val = 1024 + (x 0).val := h0
    have hj : x 1 = j := Fin.ext h1.symm
    rw [show x = ix2 (x 0) (x 1) from eq_ix2 x, hj, hr]
    show gated (last8 (mm (View.ld x0 r0_2) (View.ld x1 r0_0))) (mm (View.ld x0 r0_3) (View.ld x1 r0_0)) (first8 (mm (View.ld x0 r0_4) (View.ld x1 r0_0))) (last8 (mm (View.ld x0 r0_2) (View.ld x2 r0_0))) (mm (View.ld x0 r0_3) (View.ld x2 r0_0)) (first8 (mm (View.ld x0 r0_4) (View.ld x2 r0_0))) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 1024 _ _ _ _ _ _ _ _ _ _ _ _ _ _ _ _
      ((last8_apply _ _).trans (col1 x0 x1 _ _)) (fun i => col2 x0 x1 i _) ((first8_apply _ _).trans (col3 x0 x1 _ _)) ((last8_apply _ _).trans (col1 x0 x2 _ _)) (fun i => col2 x0 x2 i _) ((first8_apply _ _).trans (col3 x0 x2 _ _))).trans ?_
    all_goals first | exact zero8_apply _ _ | skip
    pointwise
  · have hr : r.val = 512 + (x 0).val := h0
    have hj : x 1 = j := Fin.ext h1.symm
    rw [show x = ix2 (x 0) (x 1) from eq_ix2 x, hj, hr]
    show gated (last8 (mm (View.ld x0 r0_1) (View.ld x1 r0_0))) (mm (View.ld x0 r0_2) (View.ld x1 r0_0)) (first8 (mm (View.ld x0 r0_3) (View.ld x1 r0_0))) (last8 (mm (View.ld x0 r0_1) (View.ld x2 r0_0))) (mm (View.ld x0 r0_2) (View.ld x2 r0_0)) (first8 (mm (View.ld x0 r0_3) (View.ld x2 r0_0))) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 512 _ _ _ _ _ _ _ _ _ _ _ _ _ _ _ _
      ((last8_apply _ _).trans (col0 x0 x1 _ _)) (fun i => col1 x0 x1 i _) ((first8_apply _ _).trans (col2 x0 x1 _ _)) ((last8_apply _ _).trans (col0 x0 x2 _ _)) (fun i => col1 x0 x2 i _) ((first8_apply _ _).trans (col2 x0 x2 _ _))).trans ?_
    all_goals first | exact zero8_apply _ _ | skip
    pointwise
  · have hr : r.val = (x 0).val := h0
    have hj : x 1 = j := Fin.ext h1.symm
    rw [show x = ix2 (x 0) (x 1) from eq_ix2 x, hj, hr]
    show gated (k0_pay28 (F := Ideal)) (mm (View.ld x0 r0_1) (View.ld x1 r0_0)) (first8 (mm (View.ld x0 r0_2) (View.ld x1 r0_0))) (k0_pay28 (F := Ideal)) (mm (View.ld x0 r0_1) (View.ld x2 r0_0)) (first8 (mm (View.ld x0 r0_2) (View.ld x2 r0_0))) (View.ld x3 r0_9) (View.ld x3 r0_10) (View.ld x3 r0_11)
      (View.ld x5 r0_12) (View.ld x4 r0_9) (View.ld x4 r0_10) (View.ld x4 r0_11) (View.ld x6 r0_12) (ix2 (x 0) j) = _
    refine (gated_apply (padc fun r => ∑ e : Fin 4096, HMul.hMul (α := EReal) (x0 (ix2 r e)) (x1 (ix2 e j)))
      (padc fun r => ∑ e : Fin 4096, HMul.hMul (α := EReal) (x0 (ix2 r e)) (x2 (ix2 e j))) 0 _ _ _ _ _ _ _ _ _ _ _ _ _ _ _ _
      ?_ (fun i => col0 x0 x1 i _) ((first8_apply _ _).trans (col1 x0 x1 _ _)) ?_ (fun i => col0 x0 x2 i _) ((first8_apply _ _).trans (col1 x0 x2 _ _))).trans ?_
    all_goals first | exact zero8_apply _ _ | skip
    pointwise

end Cert.UpIdeal.Conv
end
-- ==== Proof.UpTie.lean ====
module

public import proofs.«01_k».proof.Proof.UpBlock
public import proofs.«01_k».proof.Proof.Sigmoid
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit

@[expose] public section

set_option maxRecDepth 16384

noncomputable section

namespace Cert.UpIdeal.Tie

open Cert.UpIdeal Cert.UpIdeal.Gen Cert.UpIdeal.Conv Idealize.ShloMosaic Idealize.ShloMosaic.TcCoe Idealize.SL.Sem

variable (m : (ℓ : Loc nD τ sig) → Buf (Elt Ideal) ℓ)

/-- Column `k` of a sequence's rows times the weight. -/
def colOf (x0 : FVec Ideal S4x4096x4096 .f32) (x1 : FVec Ideal S1x4096x22016 .f32) (b : Fin 4) (k : Fin 22016) (s : Fin 4096) : EReal :=
  ∑ e : Fin 4096, HMul.hMul (α := EReal) (x0 (ix3 b s e)) (x1 (ix3 0 e k))

/-- Entry `s` of that column after the convolution along the rows. -/
def half (x0 : FVec Ideal S4x4096x4096 .f32) (x1 : FVec Ideal S1x4096x22016 .f32) (x2 : FVec Ideal S1x3x22016 .f32) (x3 : FVec Ideal S1x22016 .f32)
    (b : Fin 4) (s : ℕ) (k : Fin 22016) : EReal :=
  cv (padc (colOf x0 x1 b k)) s (x2 (ix3 0 0 k)) (x2 (ix3 0 1 k)) (x2 (ix3 0 2 k)) (x3 (ix2 0 k))

/-- Entry `(r, k)` of the result, from the reference's arguments. -/
def entry (x0 : FVec Ideal S4x4096x4096 .f32) (x1 : FVec Ideal S1x4096x22016 .f32) (x2 : FVec Ideal S1x3x22016 .f32) (x3 : FVec Ideal S1x22016 .f32)
    (r : Fin 16384) (k : Fin 11008) : EReal :=
  glu (half x0 x1 x2 x3 ⟨r.val / 4096, by have := r.isLt; omega⟩ (r.val % 4096) ⟨k.val, by have := k.isLt; omega⟩)
    (half x0 x1 x2 x3 ⟨r.val / 4096, by have := r.isLt; omega⟩ (r.val % 4096) ⟨11008 + k.val, by have := k.isLt; omega⟩)

/-- The block of each window at a grid point. -/
theorem idx (t : Fin cfg0.N) : win0_0.index t = ![t.val / 43, 0] ∧ win0_1.index t = ![0, t.val % 43] ∧ win0_2.index t = ![0, 43 + t.val % 43]
    ∧ win0_3.index t = ![0, t.val % 43] ∧ win0_4.index t = ![0, 43 + t.val % 43] ∧ win0_5.index t = ![0, t.val % 43] ∧ win0_6.index t = ![0, 43 + t.val % 43]
    ∧ win0_7.index t = ![t.val / 43, t.val % 43] :=
  (by decide +kernel : ∀ t : Fin grid0.N, win0_0.index t = ![t.val / 43, 0] ∧ win0_1.index t = ![0, t.val % 43] ∧ win0_2.index t = ![0, 43 + t.val % 43]
    ∧ win0_3.index t = ![0, t.val % 43] ∧ win0_4.index t = ![0, 43 + t.val % 43] ∧ win0_5.index t = ![0, t.val % 43] ∧ win0_6.index t = ![0, 43 + t.val % 43]
    ∧ win0_7.index t = ![t.val / 43, t.val % 43]) t

/-- A row of the left operand's block. -/
theorem iblk0_apply (c : Dev nD) (t : Fin cfg0.N) (i e : Fin 4096) (b : Fin 4) (h : b.val = t.val / 43) :
    iblk m c 0 t (ix2 i e) = m ((c : Thread nD τ).loc main_arg0) (ix3 b i e) := by
  have := i.isLt
  have h' := (idx t).1
  have hx : iblk m c 0 t (ix2 i e) = V m c main_v1 (ix2 ⟨4096 * b.val + i.val, by have := b.isLt; omega⟩ e) := by
    blk_ext [iblk, h']
  refine hx.trans ?_
  entry_read
  pointwise
  blk_ext

/-- A column of the weight's gate block. -/
theorem iblk1_apply (c : Dev nD) (t : Fin cfg0.N) (e : Fin 4096) (j : Fin 256) (k : Fin 22016) (h : k.val = 256 * (t.val % 43) + j.val) :
    iblk m c 1 t (ix2 e j) = m ((c : Thread nD τ).loc main_arg1) (ix3 0 e k) := by
  have h' := (idx t).2.1
  have hx : iblk m c 1 t (ix2 e j) = V m c main_v3 (ix2 e k) := by
    blk_ext [iblk, h']
  refine hx.trans ?_
  entry_read
  pointwise

/-- A column of the weight's value block. -/
theorem iblk2_apply (c : Dev nD) (t : Fin cfg0.N) (e : Fin 4096) (j : Fin 256) (k : Fin 22016) (h : k.val = 256 * (43 + t.val % 43) + j.val) :
    iblk m c 2 t (ix2 e j) = m ((c : Thread nD τ).loc main_arg1) (ix3 0 e k) := by
  have h' := (idx t).2.2.1
  have hx : iblk m c 2 t (ix2 e j) = V m c main_v3 (ix2 e k) := by
    blk_ext [iblk, h']
  refine hx.trans ?_
  entry_read
  pointwise

/-- The gate block's taps. -/
theorem iblk3_apply (c : Dev nD) (t : Fin cfg0.N) (s : Fin 3) (j : Fin 256) (k : Fin 22016) (h : k.val = 256 * (t.val % 43) + j.val) :
    iblk m c 3 t (ix2 s j) = m ((c : Thread nD τ).loc main_arg2) (ix3 0 s k) := by
  have h' := (idx t).2.2.2.1
  have hx : iblk m c 3 t (ix2 s j) = V m c main_v4 (ix2 s k) := by
    blk_ext [iblk, h']
  refine hx.trans ?_
  entry_read
  pointwise

/-- The value block's taps. -/
theorem iblk4_apply (c : Dev nD) (t : Fin cfg0.N) (s : Fin 3) (j : Fin 256) (k : Fin 22016) (h : k.val = 256 * (43 + t.val % 43) + j.val) :
    iblk m c 4 t (ix2 s j) = m ((c : Thread nD τ).loc main_arg2) (ix3 0 s k) := by
  have h' := (idx t).2.2.2.2.1
  have hx : iblk m c 4 t (ix2 s j) = V m c main_v4 (ix2 s k) := by
    blk_ext [iblk, h']
  refine hx.trans ?_
  entry_read
  pointwise

/-- The gate block's bias. -/
theorem iblk5_apply (c : Dev nD) (t : Fin cfg0.N) (j : Fin 256) (k : Fin 22016) (h : k.val = 256 * (t.val % 43) + j.val) :
    iblk m c 5 t (ix2 0 j) = m ((c : Thread nD τ).loc main_arg3) (ix2 0 k) := by
  have h' := (idx t).2.2.2.2.2.1
  have hx : iblk m c 5 t (ix2 0 j) = V m c main_v6 (ix2 0 k) := by
    blk_ext [iblk, h']
  refine hx.trans ?_
  entry_read
  pointwise

/-- The value block's bias. -/
theorem iblk6_apply (c : Dev nD) (t : Fin cfg0.N) (j : Fin 256) (k : Fin 22016) (h : k.val = 256 * (43 + t.val % 43) + j.val) :
    iblk m c 6 t (ix2 0 j) = m ((c : Thread nD τ).loc main_arg3) (ix2 0 k) := by
  have h' := (idx t).2.2.2.2.2.2.1
  have hx : iblk m c 6 t (ix2 0 j) = V m c main_v6 (ix2 0 k) := by
    blk_ext [iblk, h']
  refine hx.trans ?_
  entry_read
  pointwise

/-- Equal columns, taps and bias give equal entries of the convolution. -/
theorem cv_congr {f g : Fin 4096 → EReal} {n n' : ℕ} {c0 c1 c2 b d0 d1 d2 b' : EReal} (hf : ∀ s, f s = g s) (hn : n = n') (h0 : c0 = d0) (h1 : c1 = d1)
    (h2 : c2 = d2) (hb : b = b') : cv (padc f) n c0 c1 c2 b = cv (padc g) n' d0 d1 d2 b' := by
  rw [show f = g from funext hf, hn, h0, h1, h2, hb]

/-- The call's result, entry by entry. -/
theorem final (c : Dev nD) : (dats (F := Ideal) m 0 c).arrAt 7 cfg0.N
    = fun i : S16384x11008.Idx => entry (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 7 _ (by decide +kernel) fun t hf y => ?_
  blk_simp
  rw [after0_7]
  have i7 := (idx t).2.2.2.2.2.2.2
  have ht : t.val < 172 := Nat.lt_of_lt_of_eq t.isLt N_0
  have y0 : (y 0).val < 4096 := (y 0).isLt
  have y1 : (y 1).val < 256 := (y 1).isLt
  have hr : ((((View.whole main_v7).slice (win0_7.rect t)).emb y 0 : Fin 16384)).val = 4096 * (t.val / 43) + (y 0).val := by
    blk_simp [i7]; omega
  have hc : ((((View.whole main_v7).slice (win0_7.rect t)).emb y 1 : Fin 11008)).val = 256 * (t.val % 43) + (y 1).val := by
    blk_simp [i7]; omega
  generalize (((View.whole main_v7).slice (win0_7.rect t)).emb y 0 : Fin 16384) = r at hr ⊢
  generalize (((View.whole main_v7).slice (win0_7.rect t)).emb y 1 : Fin 11008) = k at hc ⊢
  rw [show y = ix2 (y 0) (y 1) from eq_ix2 y]
  refine (out_apply _ _ _ _ _ _ _ (y 0) (y 1)).trans ?_
  unfold entry half colOf
  refine congrArg₂ glu (cv_congr (fun s => Finset.sum_congr rfl fun e _ => congrArg₂ (fun x y : EReal => x * y) (iblk0_apply m c t _ _ _ ?_) (iblk1_apply m c t _ _ _ ?_)) ?_
      (iblk3_apply m c t _ _ _ ?_) (iblk3_apply m c t _ _ _ ?_) (iblk3_apply m c t _ _ _ ?_) (iblk5_apply m c t _ _ ?_))
    (cv_congr (fun s => Finset.sum_congr rfl fun e _ => congrArg₂ (fun x y : EReal => x * y) (iblk0_apply m c t _ _ _ ?_) (iblk2_apply m c t _ _ _ ?_)) ?_
      (iblk4_apply m c t _ _ _ ?_) (iblk4_apply m c t _ _ _ ?_) (iblk4_apply m c t _ _ _ ?_) (iblk6_apply m c t _ _ ?_)) <;> (try dsimp only) <;> omega

/-- The reference's product at an entry. -/
theorem ref1_apply (x0 : FVec Ideal S4x4096x4096 .f32) (x1 : FVec Ideal S1x4096x22016 .f32) (b : Fin 4) (s : Fin 4096) (k : Fin 22016) :
    Cert.UpRefIdeal.Read.val_main_v1 (F := Ideal) x0 x1 (ix3 b s k) = colOf x0 x1 b k s := by
  have hk := k.isLt
  unfold colOf
  rw [Cert.UpRefIdeal.Read.val_main_v1_apply]
  refine Finset.sum_congr rfl fun e _ => congrArg₂ (fun x y : EReal => x * y) ?_ ?_
  · blk_ext
  · rw [Cert.UpRefIdeal.Read.val_main_v0_apply]
    have he := e.isLt
    blk_ext

/-- The reference's product with a row of zeros before and behind, at an entry. -/
theorem ref2_apply (x0 : FVec Ideal S4x4096x4096 .f32) (x1 : FVec Ideal S1x4096x22016 .f32) (b : Fin 4) (s : Fin 4098) (k : Fin 22016) :
    Cert.UpRefIdeal.Read.val_main_v2 (F := Ideal) x0 x1 (ix3 b s k) = padc (colOf x0 x1 b k) s.val := by
  have h := fun s => ref1_apply x0 x1 b s k
  unfold Cert.UpRefIdeal.Read.val_main_v2 Cert.UpRefIdeal.Read.val_main_call0_v0 Cert.UpRefIdeal.Read.val_main_c
  generalize Cert.UpRefIdeal.Read.val_main_v1 (F := Ideal) x0 x1 = u at h ⊢
  rw [pad_apply]
  unfold padc
  by_cases hs : 1 ≤ s.val ∧ s.val ≤ 4096
  · rw [dif_pos hs, dif_pos]
    · rw [← h]
      blk_ext
      · show (b.val - 0) / (0 + 1) = b.val
        omega
      · show (s.val - 1) / (0 + 1) = s.val - 1
        omega
      · show (k.val - 0) / (0 + 1) = k.val
        omega
    · intro a
      fin_cases a <;> pointwise <;> omega
  · rw [dif_neg hs, dif_neg]
    · show (((0#32).toInt : ℝ) : EReal) = 0
      simp
    · intro hh
      have h1 : 1 ≤ s.val ∧ (s.val - 1) % (0 + 1) = 0 ∧ (s.val - 1) / (0 + 1) < 4096 := hh 1
      apply hs
      omega

/-- The reference's convolution at an entry. -/
theorem ref26_apply (x0 : FVec Ideal S4x4096x4096 .f32) (x1 : FVec Ideal S1x4096x22016 .f32) (x2 : FVec Ideal S1x3x22016 .f32) (x3 : FVec Ideal S1x22016 .f32)
    (b : Fin 4) (s : Fin 4096) (k : Fin 22016) :
    Cert.UpRefIdeal.Read.val_main_v26 (F := Ideal) x0 x1 x2 x3 (ix3 b s k) = half x0 x1 x2 x3 b s.val k := by
  have hs := s.isLt
  have hk := k.isLt
  unfold half cv
  rw [Cert.UpRefIdeal.Read.val_main_v26_apply, Cert.UpRefIdeal.Read.val_main_v22_apply, Cert.UpRefIdeal.Read.val_main_v15_apply,
    Cert.UpRefIdeal.Read.val_main_v8_apply, Cert.UpRefIdeal.Read.val_main_v14_apply, Cert.UpRefIdeal.Read.val_main_v21_apply]
  refine congrArg₂ (fun x y : EReal => x + y) (congrArg₂ (fun x y : EReal => x + y) (congrArg₂ (fun x y : EReal => x + y) (congrArg₂ (fun x y : EReal => x * y) ?_ ?_)
    (congrArg₂ (fun x y : EReal => x * y) ?_ ?_)) (congrArg₂ (fun x y : EReal => x * y) ?_ ?_)) ?_
  · rw [Cert.UpRefIdeal.Read.val_main_v3_apply]
    refine Eq.trans ?_ (ref2_apply x0 x1 b ⟨s.val, by omega⟩ k)
    blk_ext
  · rw [Cert.UpRefIdeal.Read.val_main_v7_apply, Cert.UpRefIdeal.Read.val_main_v6_apply, Cert.UpRefIdeal.Read.val_main_v5_apply, Cert.UpRefIdeal.Read.val_main_v4_apply]
    blk_ext
  · rw [Cert.UpRefIdeal.Read.val_main_v9_apply]
    refine Eq.trans ?_ (ref2_apply x0 x1 b ⟨s.val + 1, by omega⟩ k)
    blk_ext
  · rw [Cert.UpRefIdeal.Read.val_main_v13_apply, Cert.UpRefIdeal.Read.val_main_v12_apply, Cert.UpRefIdeal.Read.val_main_v11_apply, Cert.UpRefIdeal.Read.val_main_v10_apply]
    blk_ext
  · rw [Cert.UpRefIdeal.Read.val_main_v16_apply]
    refine Eq.trans ?_ (ref2_apply x0 x1 b ⟨s.val + 2, by omega⟩ k)
    blk_ext
  · rw [Cert.UpRefIdeal.Read.val_main_v20_apply, Cert.UpRefIdeal.Read.val_main_v19_apply, Cert.UpRefIdeal.Read.val_main_v18_apply, Cert.UpRefIdeal.Read.val_main_v17_apply]
    blk_ext
  · rw [Cert.UpRefIdeal.Read.val_main_v25_apply, Cert.UpRefIdeal.Read.val_main_v24_apply, Cert.UpRefIdeal.Read.val_main_v23_apply]
    blk_ext

/-- The reference's logistic unit at an entry. -/
theorem unit_apply (x0 : FVec Ideal S4x4096x4096 .f32) (x1 : FVec Ideal S1x4096x22016 .f32) (x2 : FVec Ideal S1x3x22016 .f32) (x3 : FVec Ideal S1x22016 .f32)
    (i : Cert.UpRefIdeal.S4x4096x11008.Idx) :
    Cert.UpRefIdeal.Read.val_main_call1_v5 (F := Ideal) x0 x1 x2 x3 i = Ideal.logistic (Cert.UpRefIdeal.Read.val_main_v27 (F := Ideal) x0 x1 x2 x3 i) := by
  rw [Cert.UpRefIdeal.Read.val_main_call1_v5_apply, Cert.UpRefIdeal.Read.val_main_call1_v4_apply, Cert.UpRefIdeal.Read.val_main_call1_v3_apply,
    Cert.UpRefIdeal.Read.val_main_call1_v2_apply, Cert.UpRefIdeal.Read.val_main_call1_v1_apply, Cert.UpRefIdeal.Read.val_main_call1_v0_apply,
    Cert.UpRefIdeal.Read.val_main_call1_cst_apply, Cert.UpRefIdeal.Read.val_main_call1_cst_0_apply]
  generalize Cert.UpRefIdeal.Read.val_main_v27 (F := Ideal) x0 x1 x2 x3 i = y
  rw [Cert.Proof.Sigmoid.one_bits]
  exact Cert.Proof.Sigmoid.div_logistic y

/-- The reference at an entry. -/
theorem ref_apply (x0 : FVec Ideal S4x4096x4096 .f32) (x1 : FVec Ideal S1x4096x22016 .f32) (x2 : FVec Ideal S1x3x22016 .f32) (x3 : FVec Ideal S1x22016 .f32)
    (r : Fin 16384) (k : Fin 11008) : Cert.UpRefIdeal.Read.val_main_v32 (F := Ideal) x0 x1 x2 x3 (ix2 r k) = entry x0 x1 x2 x3 r k := by
  have hr := r.isLt
  have hk := k.isLt
  rw [Cert.UpRefIdeal.Read.val_main_v32_apply, Cert.UpRefIdeal.Read.val_main_v31_apply, Cert.UpRefIdeal.Read.val_main_v30_apply,
    Cert.UpRefIdeal.Read.val_main_v29_apply, unit_apply, Cert.UpRefIdeal.Read.val_main_v27_apply, Cert.UpRefIdeal.Read.val_main_v28_apply]
  have h1 := ref26_apply x0 x1 x2 x3 ⟨r.val / 4096, by omega⟩ ⟨r.val % 4096, by omega⟩ ⟨k.val, by omega⟩
  have h2 := ref26_apply x0 x1 x2 x3 ⟨r.val / 4096, by omega⟩ ⟨r.val % 4096, by omega⟩ ⟨11008 + k.val, by omega⟩
  unfold entry glu
  rw [← h1, ← h2]
  refine congrArg₂ (fun x y : EReal => x * y) (congrArg₂ (fun x y : EReal => x * y) ?_ (congrArg Ideal.logistic ?_)) ?_ <;> blk_ext

end Cert.UpIdeal.Tie
end
-- ==== Proof.UpClaims.lean ====
module

public import proofs.«01_k».proof.Defs
public import proofs.«01_k».proof.Proof.UpTie
public import proofs.«01_k».proof.Proof.Gen.Up
public import proofs.«01_k».proof.Proof.Gen.UpIdeal.Value
public import proofs.«01_k».proof.Proof.Gen.UpRefIdeal.Run
public import proofs.«01_k».proof.Proof.Gen.UpRefIdeal.Read

@[expose] public section

set_option maxRecDepth 16384

noncomputable section

namespace Cert.Proof.Up

open Idealize.ShloMosaic Idealize.ShloMosaic.TcCoe Idealize.SL.Sem

/-- The idealized reference runs, leaves its arguments as they were and ends with every semaphore at zero. -/
theorem frame_reference : Cert.quiescent_UpRefIdeal (hUpRefIdeal := Cert.UpRefIdeal.Gen.facts) := fun m g _ =>
  (θ_run (Cert.UpRefIdeal.defs (F := Ideal)) _ _).mono (fun r h => ⟨fun c => (h c).2, sem_eq_zero_of_no_sems (by decide) r.2⟩) (Cert.UpRefIdeal.Value.run m g)

/-- From equal arguments the idealized kernel and the idealized reference end with equal results. -/
theorem algebraic : Cert.algebraic_UpIdeal_UpRefIdeal (hUpIdeal := Cert.UpIdeal.Gen.facts) (hUpRefIdeal := Cert.UpRefIdeal.Gen.facts) := by
  intro m g m' g' _ ha
  refine ⟨_, Cert.UpIdeal.Value.run_blocks m g, (θ_run (Cert.UpRefIdeal.defs (F := Ideal)) _ _).mono (fun r h c => ?_) (Cert.UpRefIdeal.Value.run m' g')⟩
  obtain ⟨a0, a1, a2, a3⟩ := ha c
  obtain ⟨r0, hargs⟩ := h c
  refine ⟨r0.trans ?_, hargs⟩
  rw [Cert.UpRefIdeal.Read.val_main_v32_eq, Cert.UpIdeal.Tie.final m c]
  funext i
  obtain ⟨r, k, rfl⟩ : ∃ (r : Fin _) (k : Fin _), i = ix2 r k := ⟨i 0, i 1, eq_ix2 i⟩
  refine (Cert.UpIdeal.Tie.ref_apply _ _ _ _ r k).trans ?_
  rw [a0, a1, a2, a3]
  rfl

end Cert.Proof.Up
end
-- ==== Proof.DownTie.lean ====
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit

@[expose] public section

set_option maxRecDepth 16384

noncomputable section

namespace Cert.DownIdeal.Tie

open Cert.DownIdeal Cert.DownIdeal.Gen Idealize.ShloMosaic Idealize.ShloMosaic.TcCoe Idealize.SL.Sem

variable (m : (ℓ : Loc nD τ sig) → Buf (Elt Ideal) ℓ)

/-- Entry `(r, k)` of the residual plus the gate times the product, from the reference's arguments. -/
def entry (x0 : FVec Ideal S4x4096x11008 .f32) (x1 : FVec Ideal S1x11008x4096 .f32) (x2 : FVec Ideal S4x4096x4096 .f32) (x3 : FVec Ideal S4x1x4096 .f32)
    (r : Fin 16384) (k : Fin 4096) : EReal :=
  HAdd.hAdd (α := EReal) (x2 (ix3 ⟨r.val / 4096, by have := r.isLt; omega⟩ ⟨r.val % 4096, by omega⟩ k)) (HMul.hMul (α := EReal) (x3 (ix3 ⟨r.val / 4096, by have := r.isLt; omega⟩ 0 k))
    (∑ e : Fin 11008, HMul.hMul (α := EReal) (x0 (ix3 ⟨r.val / 4096, by have := r.isLt; omega⟩ ⟨r.val % 4096, by omega⟩ e)) (x1 (ix3 0 e k))))

/-- The body's block at an entry. -/
theorem pay_apply (a : Vec Ideal S512x11008 .bf16) (w : Vec Ideal S11008x512 .bf16) (res : Vec Ideal S512x512 .f32) (g : Vec Ideal S1x1x512 .f32) (i j : Fin 512) :
    k0_pay1 (F := Ideal) a w res g (ix2 i j)
      = HAdd.hAdd (α := EReal) (res (ix2 i j)) (HMul.hMul (α := EReal) (g (ix3 0 0 j)) (∑ e : Fin 11008, HMul.hMul (α := EReal) (a (ix2 i e)) (w (ix2 e j)))) := by
  unfold k0_pay1
  pointwise

/-- The block of each window at a grid point. -/
theorem idx (t : Fin cfg0.N) : win0_0.index t = ![t.val / 8, 0] ∧ win0_1.index t = ![0, t.val % 8] ∧ win0_2.index t = ![t.val / 8, t.val % 8]
    ∧ win0_3.index t = ![t.val / 8 / 8, 0, t.val % 8] ∧ win0_4.index t = ![t.val / 8, t.val % 8] :=
  (by decide +kernel : ∀ t : Fin grid0.N, win0_0.index t = ![t.val / 8, 0] ∧ win0_1.index t = ![0, t.val % 8] ∧ win0_2.index t = ![t.val / 8, t.val % 8]
    ∧ win0_3.index t = ![t.val / 8 / 8, 0, t.val % 8] ∧ win0_4.index t = ![t.val / 8, t.val % 8]) t

/-- A row of the left operand's block. -/
theorem iblk0_apply (c : Dev nD) (t : Fin cfg0.N) (i : Fin 512) (e : Fin 11008) (b : Fin 4) (s : Fin 4096) (h : 4096 * b.val + s.val = 512 * (t.val / 8) + i.val) :
    iblk m c 0 t (ix2 i e) = m ((c : Thread nD τ).loc main_arg0) (ix3 b s e) := by
  have := s.isLt
  have h' := (idx t).1
  have hx : iblk m c 0 t (ix2 i e) = V m c main_v1 (ix2 ⟨4096 * b.val + s.val, by have := b.isLt; omega⟩ e) := by
    blk_ext [iblk, h']
  refine hx.trans ?_
  entry_read
  pointwise
  blk_ext

/-- A column of the weight's block. -/
theorem iblk1_apply (c : Dev nD) (t : Fin cfg0.N) (e : Fin 11008) (j : Fin 512) (k : Fin 4096) (h : k.val = 512 * (t.val % 8) + j.val) :
    iblk m c 1 t (ix2 e j) = m ((c : Thread nD τ).loc main_arg1) (ix3 0 e k) := by
  have h' := (idx t).2.1
  have hx : iblk m c 1 t (ix2 e j) = V m c main_v3 (ix2 e k) := by
    blk_ext [iblk, h']
  refine hx.trans ?_
  entry_read
  pointwise

/-- An entry of the residual's block. -/
theorem iblk2_apply (c : Dev nD) (t : Fin cfg0.N) (i j : Fin 512) (b : Fin 4) (s : Fin 4096) (k : Fin 4096) (h : 4096 * b.val + s.val = 512 * (t.val / 8) + i.val)
    (hk : k.val = 512 * (t.val % 8) + j.val) : iblk m c 2 t (ix2 i j) = m ((c : Thread nD τ).loc main_arg2) (ix3 b s k) := by
  have := s.isLt
  have h' := (idx t).2.2.1
  have hx : iblk m c 2 t (ix2 i j) = V m c main_v4 (ix2 ⟨4096 * b.val + s.val, by have := b.isLt; omega⟩ k) := by
    blk_ext [iblk, h']
  refine hx.trans ?_
  entry_read
  pointwise
  blk_ext

/-- An entry of the gate's block. -/
theorem iblk3_apply (c : Dev nD) (t : Fin cfg0.N) (j : Fin 512) (b : Fin 4) (k : Fin 4096) (h : b.val = t.val / 8 / 8)
    (hk : k.val = 512 * (t.val % 8) + j.val) : iblk m c 3 t (ix3 0 0 j) = m ((c : Thread nD τ).loc main_arg3) (ix3 b 0 k) := by
  have h' := (idx t).2.2.2.1
  have hx : iblk m c 3 t (ix3 0 0 j) = V m c main_arg3 (ix3 b 0 k) := by
    blk_ext [iblk, h']
  refine hx.trans ?_
  entry_read
  rfl

/-- The call's result, entry by entry. -/
theorem final (c : Dev nD) : (dats (F := Ideal) m 0 c).arrAt 4 cfg0.N
    = fun i : S16384x4096.Idx => entry (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 4 _ (by decide +kernel) fun t hf y => ?_
  blk_simp
  rw [after0_4]
  frame_out
  have i4 := (idx t).2.2.2.2
  have ht : t.val < 256 := Nat.lt_of_lt_of_eq t.isLt N_0
  have y0 : (y 0).val < 512 := (y 0).isLt
  have y1 : (y 1).val < 512 := (y 1).isLt
  have hr : ((((View.whole main_v5).slice (win0_4.rect t)).emb y 0 : Fin 16384)).val = 512 * (t.val / 8) + (y 0).val := by
    blk_simp [i4]; omega
  have hc : ((((View.whole main_v5).slice (win0_4.rect t)).emb y 1 : Fin 4096)).val = 512 * (t.val % 8) + (y 1).val := by
    blk_simp [i4]; omega
  generalize (((View.whole main_v5).slice (win0_4.rect t)).emb y 0 : Fin 16384) = r at hr ⊢
  generalize (((View.whole main_v5).slice (win0_4.rect t)).emb y 1 : Fin 4096) = k at hc ⊢
  rw [show y = ix2 (y 0) (y 1) from eq_ix2 y]
  refine (pay_apply _ _ _ _ (y 0) (y 1)).trans ?_
  unfold entry
  refine congrArg₂ (fun x y : EReal => x + y) (iblk2_apply m c t _ _ _ _ _ ?_ ?_) (congrArg₂ (fun x y : EReal => x * y) (iblk3_apply m c t _ _ _ ?_ ?_)
    (Finset.sum_congr rfl fun e _ => congrArg₂ (fun x y : EReal => x * y) (iblk0_apply m c t _ _ _ _ ?_) (iblk1_apply m c t _ _ _ ?_))) <;> (try dsimp only) <;> omega

/-- The reference at an entry. -/
theorem ref_apply (x0 : FVec Ideal S4x4096x11008 .f32) (x1 : FVec Ideal S1x11008x4096 .f32) (x2 : FVec Ideal S4x4096x4096 .f32) (x3 : FVec Ideal S4x1x4096 .f32)
    (r : Fin 16384) (k : Fin 4096) : Cert.DownRefIdeal.Read.val_main_v5 (F := Ideal) x0 x1 x2 x3 (ix2 r k) = entry x0 x1 x2 x3 r k := by
  have hr := r.isLt
  have hk := k.isLt
  unfold entry
  rw [Cert.DownRefIdeal.Read.val_main_v5_apply, Cert.DownRefIdeal.Read.val_main_v4_apply, Cert.DownRefIdeal.Read.val_main_v3_apply,
    Cert.DownRefIdeal.Read.val_main_v2_apply, Cert.DownRefIdeal.Read.val_main_v1_apply]
  refine congrArg₂ (fun x y : EReal => x + y) ?_ (congrArg₂ (fun x y : EReal => x * y) ?_ (Finset.sum_congr rfl fun e _ => congrArg₂ (fun x y : EReal => x * y) ?_ ?_))
  · blk_ext
  · blk_ext
  · blk_ext
  · rw [Cert.DownRefIdeal.Read.val_main_v0_apply]
    have he := e.isLt
    blk_ext

end Cert.DownIdeal.Tie
end
-- ==== Proof.DownClaims.lean ====
module

public import proofs.«01_k».proof.Defs
public import proofs.«01_k».proof.Proof.DownTie
public import proofs.«01_k».proof.Proof.Gen.Down
public import proofs.«01_k».proof.Proof.Gen.DownIdeal.Value
public import proofs.«01_k».proof.Proof.Gen.DownRefIdeal.Run
public import proofs.«01_k».proof.Proof.Gen.DownRefIdeal.Read

@[expose] public section

set_option maxRecDepth 16384

noncomputable section

namespace Cert.Proof.Down

open Idealize.ShloMosaic Idealize.ShloMosaic.TcCoe Idealize.SL.Sem

/-- The idealized reference runs, leaves its arguments as they were and ends with every semaphore at zero. -/
theorem frame_reference : Cert.quiescent_DownRefIdeal (hDownRefIdeal := Cert.DownRefIdeal.Gen.facts) := fun m g _ =>
  (θ_run (Cert.DownRefIdeal.defs (F := Ideal)) _ _).mono (fun r h => ⟨fun c => (h c).2, sem_eq_zero_of_no_sems (by decide) r.2⟩) (Cert.DownRefIdeal.Value.run m g)

/-- From equal arguments the idealized kernel and the idealized reference end with equal results. -/
theorem algebraic : Cert.algebraic_DownIdeal_DownRefIdeal (hDownIdeal := Cert.DownIdeal.Gen.facts) (hDownRefIdeal := Cert.DownRefIdeal.Gen.facts) := by
  intro m g m' g' _ ha
  refine ⟨_, Cert.DownIdeal.Value.run_blocks m g, (θ_run (Cert.DownRefIdeal.defs (F := Ideal)) _ _).mono (fun r h c => ?_) (Cert.DownRefIdeal.Value.run m' g')⟩
  obtain ⟨a0, a1, a2, a3⟩ := ha c
  obtain ⟨r0, hargs⟩ := h c
  refine ⟨r0.trans ?_, hargs⟩
  rw [Cert.DownRefIdeal.Read.val_main_v5_eq, Cert.DownIdeal.Tie.final m c]
  funext i
  obtain ⟨r, k, rfl⟩ : ∃ (r : Fin _) (k : Fin _), i = ix2 r k := ⟨i 0, i 1, eq_ix2 i⟩
  refine (Cert.DownIdeal.Tie.ref_apply _ _ _ _ r k).trans ?_
  rw [a0, a1, a2, a3]
  rfl

end Cert.Proof.Down
end
-- ==== Proof.NormTie.lean ====
module

public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit

@[expose] public section

set_option maxRecDepth 16384

noncomputable section

namespace Cert.NormIdeal.Tie

open Cert.NormIdeal Cert.NormIdeal.Gen Idealize.ShloMosaic Idealize.ShloMosaic.TcCoe Idealize.SL.Sem

variable (m : (ℓ : Loc nD τ sig) → Buf (Elt Ideal) ℓ)

/-- An entry of a row over the root of the row's mean square, times the weight. -/
def scaled (f : Fin 4096 → EReal) (x w : EReal) : EReal :=
  x * Ideal.rsqrt (Ideal.div (∑ e : Fin 4096, f e * f e) (Ideal.ofBits .f32 0x45800000#32) + Ideal.ofBits .f32 0x358637BD#32) * w

/-- Entry `(r, k)` of the normalized rows, from the reference's arguments. -/
def entry (x0 : FVec Ideal S4x4096x4096 .f32) (x1 : FVec Ideal S4096 .f32) (r : Fin 16384) (k : Fin 4096) : EReal :=
  scaled (fun e => x0 (ix3 ⟨r.val / 4096, by have := r.isLt; omega⟩ ⟨r.val % 4096, by omega⟩ e))
    (x0 (ix3 ⟨r.val / 4096, by have := r.isLt; omega⟩ ⟨r.val % 4096, by omega⟩ k)) (x1 (ix1 k))

/-- The body's block at an entry. -/
theorem pay_apply (a : Vec Ideal S512x4096 .f32) (w : Vec Ideal S1x4096 .f32) (i : Fin 512) (j : Fin 4096) :
    k0_pay1 (F := Ideal) a w (ix2 i j) = scaled (fun e => a (ix2 i e)) (a (ix2 i j)) (w (ix2 0 j)) := by
  unfold k0_pay1 scaled
  pointwise

/-- The block of each window at a grid point. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- An entry of the rows' block. -/
theorem iblk0_apply (c : Dev nD) (t : Fin cfg0.N) (i : Fin 512) (e : Fin 4096) (b : Fin 4) (s : Fin 4096) (h : 4096 * b.val + s.val = 512 * t.val + i.val) :
    iblk m c 0 t (ix2 i e) = m ((c : Thread nD τ).loc main_arg0) (ix3 b s e) := by
  have := s.isLt
  have h' := (idx t).1
  have hx : iblk m c 0 t (ix2 i e) = V m c main_v0 (ix2 ⟨4096 * b.val + s.val, by have := b.isLt; omega⟩ e) := by
    blk_ext [iblk, h']
  refine hx.trans ?_
  entry_read
  pointwise
  blk_ext

/-- An entry of the weight. -/
theorem iblk1_apply (c : Dev nD) (t : Fin cfg0.N) (j : Fin 4096) :
    iblk m c 1 t (ix2 0 j) = m ((c : Thread nD τ).loc main_arg1) (ix1 j) := by
  have h' := (idx t).2.1
  have hx : iblk m c 1 t (ix2 0 j) = V m c main_v1 (ix2 0 j) := by
    blk_ext [iblk, h']
  refine hx.trans ?_
  entry_read
  pointwise

/-- Equal rows, entries and weights give equal normalized entries. -/
theorem scaled_congr {f g : Fin 4096 → EReal} {x y w v : EReal} (hf : ∀ e, f e = g e) (hx : x = y) (hw : w = v) : scaled f x w = scaled g y v := by
  rw [show f = g from funext hf, hx, hw]

/-- The call's result, entry by entry. -/
theorem final (c : Dev nD) : (dats (F := Ideal) m 0 c).arrAt 2 cfg0.N
    = fun i : S16384x4096.Idx => entry (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  have i2 := (idx t).2.2
  have ht : t.val < 32 := Nat.lt_of_lt_of_eq t.isLt N_0
  have y0 : (y 0).val < 512 := (y 0).isLt
  have y1 : (y 1).val < 4096 := (y 1).isLt
  have hr : ((((View.whole main_v2).slice (win0_2.rect t)).emb y 0 : Fin 16384)).val = 512 * t.val + (y 0).val := by
    blk_simp [i2]; omega
  have hc : ((((View.whole main_v2).slice (win0_2.rect t)).emb y 1 : Fin 4096)).val = (y 1).val := by
    blk_simp [i2]
  generalize (((View.whole main_v2).slice (win0_2.rect t)).emb y 0 : Fin 16384) = r at hr ⊢
  generalize (((View.whole main_v2).slice (win0_2.rect t)).emb y 1 : Fin 4096) = k at hc ⊢
  rw [show y = ix2 (y 0) (y 1) from eq_ix2 y, show y 1 = k from Fin.ext hc.symm]
  refine (pay_apply _ _ (y 0) k).trans ?_
  unfold entry
  refine scaled_congr (fun e => iblk0_apply m c t _ _ _ _ ?_) (iblk0_apply m c t _ _ _ _ ?_) (iblk1_apply m c t _) <;> (try dsimp only) <;> omega

/-- The reference at an entry. -/
theorem ref_apply (x0 : FVec Ideal S4x4096x4096 .f32) (x1 : FVec Ideal S4096 .f32)
    (r : Fin 16384) (k : Fin 4096) : Cert.NormRefIdeal.Read.val_main_v13 (F := Ideal) x0 x1 (ix2 r k) = entry x0 x1 r k := by
  have hr := r.isLt
  have hk := k.isLt
  unfold entry scaled
  rw [Cert.NormRefIdeal.Read.val_main_v13_apply, Cert.NormRefIdeal.Read.val_main_v12_apply, Cert.NormRefIdeal.Read.val_main_v11_apply,
    Cert.NormRefIdeal.Read.val_main_v10_apply, Cert.NormRefIdeal.Read.val_main_v9_apply, Cert.NormRefIdeal.Read.val_main_v8_apply, Cert.NormRefIdeal.Read.val_main_v7_apply,
    Cert.NormRefIdeal.Read.val_main_v6_apply, Cert.NormRefIdeal.Read.val_main_v5_apply, Cert.NormRefIdeal.Read.val_main_v4_apply,
    Cert.NormRefIdeal.Read.val_main_v3_apply, Cert.NormRefIdeal.Read.val_main_v2_apply, Cert.NormRefIdeal.Read.val_main_v1_apply]
  refine congrArg₂ (fun x y : EReal => x * y) (congrArg₂ (fun x y : EReal => x * y) ?_ (congrArg Ideal.rsqrt (congrArg₂ (fun x y : EReal => x + y)
    (congrArg₂ Ideal.div ?_ ?_) ?_))) ?_
  · blk_ext
  · rw [Cert.NormRefIdeal.Read.val_main_cst_apply]
    refine Eq.trans (congrArg₂ (fun x y : EReal => x + y) (show _ = (0 : EReal) from ?_) (Finset.sum_congr rfl fun e _ => ?_)) (zero_add _)
    · pointwise
    · rw [Cert.NormRefIdeal.Read.val_main_v0_apply]
      refine congrArg₂ (fun x y : EReal => x * y) ?_ ?_ <;> blk_ext
  · rfl
  · rfl
  · blk_ext

end Cert.NormIdeal.Tie
end
-- ==== Proof.NormClaims.lean ====
module

public import proofs.«01_k».proof.Defs
public import proofs.«01_k».proof.Proof.NormTie
public import proofs.«01_k».proof.Proof.Gen.Norm
public import proofs.«01_k».proof.Proof.Gen.NormIdeal.Value
public import proofs.«01_k».proof.Proof.Gen.NormRefIdeal.Run
public import proofs.«01_k».proof.Proof.Gen.NormRefIdeal.Read

@[expose] public section

set_option maxRecDepth 16384

noncomputable section

namespace Cert.Proof.Norm

open Idealize.ShloMosaic Idealize.ShloMosaic.TcCoe Idealize.SL.Sem

/-- The idealized reference runs, leaves its arguments as they were and ends with every semaphore at zero. -/
theorem frame_reference : Cert.quiescent_NormRefIdeal (hNormRefIdeal := Cert.NormRefIdeal.Gen.facts) := fun m g _ =>
  (θ_run (Cert.NormRefIdeal.defs (F := Ideal)) _ _).mono (fun r h => ⟨fun c => (h c).2, sem_eq_zero_of_no_sems (by decide) r.2⟩) (Cert.NormRefIdeal.Value.run m g)

/-- From equal arguments the idealized kernel and the idealized reference end with equal results. -/
theorem algebraic : Cert.algebraic_NormIdeal_NormRefIdeal (hNormIdeal := Cert.NormIdeal.Gen.facts) (hNormRefIdeal := Cert.NormRefIdeal.Gen.facts) := by
  intro m g m' g' _ ha
  refine ⟨_, Cert.NormIdeal.Value.run_blocks m g, (θ_run (Cert.NormRefIdeal.defs (F := Ideal)) _ _).mono (fun r h c => ?_) (Cert.NormRefIdeal.Value.run m' g')⟩
  obtain ⟨a0, a1⟩ := ha c
  obtain ⟨r0, hargs⟩ := h c
  refine ⟨r0.trans ?_, hargs⟩
  rw [Cert.NormRefIdeal.Read.val_main_v13_eq, Cert.NormIdeal.Tie.final m c]
  funext i
  obtain ⟨r, k, rfl⟩ : ∃ (r : Fin _) (k : Fin _), i = ix2 r k := ⟨i 0, i 1, eq_ix2 i⟩
  refine (Cert.NormIdeal.Tie.ref_apply _ _ r k).trans ?_
  rw [a0, a1]
  rfl

end Cert.Proof.Norm
end
-- ==== Proof.ModTie.lean ====
module

public import proofs.«01_k».proof.Proof.Gen.ModIdeal.Value
public import proofs.«01_k».proof.Proof.Gen.ModRefIdeal.Run
public import proofs.«01_k».proof.Proof.Gen.ModRefIdeal.Read
public import Idealize.ShloMosaic.Lib.Pipeline.ValueKit

@[expose] public section

set_option maxRecDepth 16384

noncomputable section

namespace Cert.ModIdeal.Tie

open Cert.ModIdeal Cert.ModIdeal.Gen Idealize.ShloMosaic Idealize.ShloMosaic.TcCoe Idealize.SL.Sem

variable (m : (ℓ : Loc nD τ sig) → Buf (Elt Ideal) ℓ)

/-- An entry of a row over the root of the row's mean square, times the weight, scaled and shifted. -/
def scaled (f : Fin 4096 → EReal) (x w sc sh : EReal) : EReal :=
  x * Ideal.rsqrt (Ideal.div (∑ e : Fin 4096, f e * f e) (Ideal.ofBits .f32 0x45800000#32) + Ideal.ofBits .f32 0x358637BD#32) * w
    * (Ideal.ofBits .f32 0x3F800000#32 + sc) + sh

/-- Entry `(r, k)` of the modulated rows, from the reference's arguments. -/
def entry (x0 : FVec Ideal S4x4096x4096 .f32) (x1 : FVec Ideal S1x4096 .f32) (x2 x3 : FVec Ideal S4x1x4096 .f32) (r : Fin 16384) (k : Fin 4096) : EReal :=
  scaled (fun e => x0 (ix3 ⟨r.val / 4096, by have := r.isLt; omega⟩ ⟨r.val % 4096, by omega⟩ e))
    (x0 (ix3 ⟨r.val / 4096, by have := r.isLt; omega⟩ ⟨r.val % 4096, by omega⟩ k)) (x1 (ix2 0 k))
    (x2 (ix3 ⟨r.val / 4096, by have := r.isLt; omega⟩ 0 k)) (x3 (ix3 ⟨r.val / 4096, by have := r.isLt; omega⟩ 0 k))

/-- The body's block at an entry. -/
theorem pay_apply (a : Vec Ideal S512x4096 .f32) (w : Vec Ideal S1x4096 .f32) (sc sh : Vec Ideal S1x1x4096 .f32) (i : Fin 512) (j : Fin 4096) :
    k0_pay1 (F := Ideal) a w sc sh (ix2 i j) = scaled (fun e => a (ix2 i e)) (a (ix2 i j)) (w (ix2 0 j)) (sc (ix3 0 0 j)) (sh (ix3 0 0 j)) := by
  unfold k0_pay1 scaled
  pointwise

/-- The block of each window at a grid point. -/
theorem idx (t : Fin cfg0.N) : win0_0.index t = ![t.val, 0] ∧ win0_1.index t = ![0, 0] ∧ win0_2.index t = ![t.val / 8, 0, 0] ∧ win0_3.index t = ![t.val / 8, 0, 0] ∧ win0_4.index t = ![t.val, 0] :=
  (by decide +kernel : ∀ t : Fin grid0.N, win0_0.index t = ![t.val, 0] ∧ win0_1.index t = ![0, 0] ∧ win0_2.index t = ![t.val / 8, 0, 0] ∧ win0_3.index t = ![t.val / 8, 0, 0] ∧ win0_4.index t = ![t.val, 0]) t

/-- An entry of the rows' block. -/
theorem iblk0_apply (c : Dev nD) (t : Fin cfg0.N) (i : Fin 512) (e : Fin 4096) (b : Fin 4) (s : Fin 4096) (h : 4096 * b.val + s.val = 512 * t.val + i.val) :
    iblk m c 0 t (ix2 i e) = m ((c : Thread nD τ).loc main_arg0) (ix3 b s e) := by
  have := s.isLt
  have h' := (idx t).1
  have hx : iblk m c 0 t (ix2 i e) = V m c main_v0 (ix2 ⟨4096 * b.val + s.val, by have := b.isLt; omega⟩ e) := by
    blk_ext [iblk, h']
  refine hx.trans ?_
  entry_read
  pointwise
  blk_ext

/-- An entry of the weight. -/
theorem iblk1_apply (c : Dev nD) (t : Fin cfg0.N) (j : Fin 4096) :
    iblk m c 1 t (ix2 0 j) = m ((c : Thread nD τ).loc main_arg1) (ix2 0 j) := by
  have h' := (idx t).2.1
  have hx : iblk m c 1 t (ix2 0 j) = V m c main_v2 (ix2 0 j) := by
    blk_ext [iblk, h']
  refine hx.trans ?_
  entry_read
  pointwise

/-- An entry of the scale. -/
theorem iblk2_apply (c : Dev nD) (t : Fin cfg0.N) (j : Fin 4096) (b : Fin 4) (h : b.val = t.val / 8) :
    iblk m c 2 t (ix3 0 0 j) = m ((c : Thread nD τ).loc main_arg2) (ix3 b 0 j) := by
  have h' := (idx t).2.2.1
  have hx : iblk m c 2 t (ix3 0 0 j) = V m c main_arg2 (ix3 b 0 j) := by
    blk_ext [iblk, h']
  exact hx

/-- An entry of the shift. -/
theorem iblk3_apply (c : Dev nD) (t : Fin cfg0.N) (j : Fin 4096) (b : Fin 4) (h : b.val = t.val / 8) :
    iblk m c 3 t (ix3 0 0 j) = m ((c : Thread nD τ).loc main_arg3) (ix3 b 0 j) := by
  have h' := (idx t).2.2.2.1
  have hx : iblk m c 3 t (ix3 0 0 j) = V m c main_arg3 (ix3 b 0 j) := by
    blk_ext [iblk, h']
  exact hx

/-- Equal rows, entries, weights, scales and shifts give equal modulated entries. -/
theorem scaled_congr {f g : Fin 4096 → EReal} {x y w v a b p q : EReal} (hf : ∀ e, f e = g e) (hx : x = y) (hw : w = v) (ha : a = b) (hp : p = q) :
    scaled f x w a p = scaled g y v b q := by
  rw [show f = g from funext hf, hx, hw, ha, hp]

/-- The call's result, entry by entry. -/
theorem final (c : Dev nD) : (dats (F := Ideal) m 0 c).arrAt 4 cfg0.N
    = fun i : S16384x4096.Idx => entry (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  frame_out
  have i2 := (idx t).2.2.2.2
  have ht : t.val < 32 := Nat.lt_of_lt_of_eq t.isLt N_0
  have y0 : (y 0).val < 512 := (y 0).isLt
  have y1 : (y 1).val < 4096 := (y 1).isLt
  have hr : ((((View.whole main_v3).slice (win0_4.rect t)).emb y 0 : Fin 16384)).val = 512 * t.val + (y 0).val := by
    blk_simp [i2]; omega
  have hc : ((((View.whole main_v3).slice (win0_4.rect t)).emb y 1 : Fin 4096)).val = (y 1).val := by
    blk_simp [i2]
  generalize (((View.whole main_v3).slice (win0_4.rect t)).emb y 0 : Fin 16384) = r at hr ⊢
  generalize (((View.whole main_v3).slice (win0_4.rect t)).emb y 1 : Fin 4096) = k at hc ⊢
  rw [show y = ix2 (y 0) (y 1) from eq_ix2 y, show y 1 = k from Fin.ext hc.symm]
  refine (pay_apply _ _ _ _ (y 0) k).trans ?_
  unfold entry
  refine scaled_congr (fun e => iblk0_apply m c t _ _ _ _ ?_) (iblk0_apply m c t _ _ _ _ ?_) (iblk1_apply m c t _) (iblk2_apply m c t _ _ ?_) (iblk3_apply m c t _ _ ?_) <;> (try dsimp only) <;> omega

/-- The reference at an entry. -/
theorem ref_apply (x0 : FVec Ideal S4x4096x4096 .f32) (x1 : FVec Ideal S1x4096 .f32) (x2 x3 : FVec Ideal S4x1x4096 .f32)
    (r : Fin 16384) (k : Fin 4096) : Cert.ModRefIdeal.Read.val_main_v21 (F := Ideal) x0 x1 x2 x3 (ix2 r k) = entry x0 x1 x2 x3 r k := by
  have hr := r.isLt
  have hk := k.isLt
  have e : Cert.ModRefIdeal.Read.idx_main_v20 (ix2 r k) = ix3 ⟨r.val / 4096, by omega⟩ ⟨r.val % 4096, by omega⟩ k := by
    funext a
    apply Fin.ext
    fin_cases a
    · show (r.val * 4096 + k.val) / 16777216 = r.val / 4096
      omega
    · show (r.val * 4096 + k.val) / 4096 % 4096 = r.val % 4096
      omega
    · show (r.val * 4096 + k.val) % 4096 = k.val
      omega
  rw [Cert.ModRefIdeal.Read.val_main_v21_apply, Cert.ModRefIdeal.Read.val_main_v20_apply, e]
  unfold entry scaled
  generalize (⟨r.val / 4096, _⟩ : Fin 4) = b
  generalize (⟨r.val % 4096, _⟩ : Fin 4096) = s
  refine (show _ = Cert.ModRefIdeal.Read.val_main_v19 (F := Ideal) x0 x1 x2 x3 (ix3 b s k) from rfl).trans ?_
  rw [Cert.ModRefIdeal.Read.val_main_v19_apply, Cert.ModRefIdeal.Read.val_main_v18_apply, Cert.ModRefIdeal.Read.val_main_v17_apply, Cert.ModRefIdeal.Read.val_main_v16_apply, Cert.ModRefIdeal.Read.val_main_v15_apply, Cert.ModRefIdeal.Read.val_main_v14_apply, Cert.ModRefIdeal.Read.val_main_v13_apply, Cert.ModRefIdeal.Read.val_main_v12_apply, Cert.ModRefIdeal.Read.val_main_v11_apply, Cert.ModRefIdeal.Read.val_main_v10_apply, Cert.ModRefIdeal.Read.val_main_v9_apply, Cert.ModRefIdeal.Read.val_main_v8_apply, Cert.ModRefIdeal.Read.val_main_v7_apply, Cert.ModRefIdeal.Read.val_main_v6_apply, Cert.ModRefIdeal.Read.val_main_v5_apply, Cert.ModRefIdeal.Read.val_main_v4_apply, Cert.ModRefIdeal.Read.val_main_v3_apply, Cert.ModRefIdeal.Read.val_main_v2_apply, Cert.ModRefIdeal.Read.val_main_v1_apply]
  refine congrArg₂ (fun x y : EReal => x + y) (congrArg₂ (fun x y : EReal => x * y) (congrArg₂ (fun x y : EReal => x * y) (congrArg₂ (fun x y : EReal => x * y) ?_
    (congrArg Ideal.rsqrt (congrArg₂ (fun x y : EReal => x + y) (congrArg₂ Ideal.div ?_ ?_) ?_))) ?_) (congrArg₂ (fun x y : EReal => x + y) ?_ ?_)) ?_
  · rfl
  · rw [Cert.ModRefIdeal.Read.val_main_cst_apply]
    refine Eq.trans (congrArg₂ (fun x y : EReal => x + y) (show _ = (0 : EReal) from ?_) (Finset.sum_congr rfl fun e _ => ?_)) (zero_add _)
    · pointwise
    · rw [Cert.ModRefIdeal.Read.val_main_v0_apply]
      refine congrArg₂ (fun x y : EReal => x * y) ?_ ?_ <;> blk_ext
  · rfl
  · rfl
  · blk_ext
  · rfl
  · blk_ext
  · blk_ext

end Cert.ModIdeal.Tie
end
-- ==== Proof.ModClaims.lean ====
module

public import proofs.«01_k».proof.Defs
public import proofs.«01_k».proof.Proof.ModTie
public import proofs.«01_k».proof.Proof.Gen.Mod
public import proofs.«01_k».proof.Proof.Gen.ModIdeal.Value
public import proofs.«01_k».proof.Proof.Gen.ModRefIdeal.Run
public import proofs.«01_k».proof.Proof.Gen.ModRefIdeal.Read

@[expose] public section

set_option maxRecDepth 16384

noncomputable section

namespace Cert.Proof.Mod

open Idealize.ShloMosaic Idealize.ShloMosaic.TcCoe Idealize.SL.Sem

/-- The idealized reference runs, leaves its arguments as they were and ends with every semaphore at zero. -/
theorem frame_reference : Cert.quiescent_ModRefIdeal (hModRefIdeal := Cert.ModRefIdeal.Gen.facts) := fun m g _ =>
  (θ_run (Cert.ModRefIdeal.defs (F := Ideal)) _ _).mono (fun r h => ⟨fun c => (h c).2, sem_eq_zero_of_no_sems (by decide) r.2⟩) (Cert.ModRefIdeal.Value.run m g)

/-- From equal arguments the idealized kernel and the idealized reference end with equal results. -/
theorem algebraic : Cert.algebraic_ModIdeal_ModRefIdeal (hModIdeal := Cert.ModIdeal.Gen.facts) (hModRefIdeal := Cert.ModRefIdeal.Gen.facts) := by
  intro m g m' g' _ ha
  refine ⟨_, Cert.ModIdeal.Value.run_blocks m g, (θ_run (Cert.ModRefIdeal.defs (F := Ideal)) _ _).mono (fun r h c => ?_) (Cert.ModRefIdeal.Value.run m' g')⟩
  obtain ⟨a0, a1, a2, a3⟩ := ha c
  obtain ⟨r0, hargs⟩ := h c
  refine ⟨r0.trans ?_, hargs⟩
  rw [Cert.ModRefIdeal.Read.val_main_v21_eq, Cert.ModIdeal.Tie.final m c]
  funext i
  obtain ⟨r, k, rfl⟩ : ∃ (r : Fin _) (k : Fin _), i = ix2 r k := ⟨i 0, i 1, eq_ix2 i⟩
  refine (Cert.ModIdeal.Tie.ref_apply _ _ _ _ r k).trans ?_
  rw [a0, a1, a2, a3]
  rfl

end Cert.Proof.Mod
end
-- ==== Proof.QkBlock.lean ====
module

public import proofs.«01_k».proof.Proof.Gen.QkIdeal.Value
public import Idealize.ShloMosaic.Lib.Pipeline.ValueKit

@[expose] public section

set_option maxRecDepth 16384

noncomputable section

namespace Cert.QkIdeal.Tie

open Cert.QkIdeal Cert.QkIdeal.Gen Idealize.ShloMosaic Idealize.ShloMosaic.TcCoe Idealize.SL.Sem

/-- An entry of a head over the root of the head's mean square, times the gain. -/
def gained (f w : Fin 128 → EReal) (d : Fin 128) : EReal :=
  f d * Ideal.rsqrt (Ideal.div (∑ e : Fin 128, f e * f e) (Ideal.ofBits .f32 0x43000000#32) + Ideal.ofBits .f32 0x358637BD#32) * w d

/-- The lane with which a lane is rotated: 32 further in the first half of each half of the head, 32 back in the second. -/
def partner (d : Fin 128) : Fin 128 := ⟨if d.val % 64 < 32 then d.val + 32 else d.val - 32, by have := d.isLt; split <;> omega⟩

/-- A normalized head rotated, at a lane: the lane times its cosine plus its partner times its signed sine. -/
def roped (f w : Fin 128 → EReal) (c s : EReal) (d : Fin 128) : EReal := gained f w d * c + gained f w (partner d) * s

/-- A chunk's head in the body, from the head's columns of the product, the gain and the chunk's tables. -/
def head (v16 : FVec Ideal S512x128 .f32) (g : FVec Ideal S1x128 .f32) (cs sn : FVec Ideal S512x128 .f32) : FVec Ideal S512x128 .bf16 :=
  have v28 := mulf (mulf v16 (broadcastTo S512x128 (rsqrt (addf (divf (shapeCast S512x1 (multiReduction .add [1] S512 (mulf v16 v16) 0x00000000#32 reduces_S512x128_S512 (.inl rfl) rfl)
    shapeCasts_S512_S512x1) (broadcast S512x1 (Scalar.ofBits (F := Ideal) .f32 0x43000000#32))) (broadcast S512x1 (Scalar.ofBits (F := Ideal) .f32 0x358637BD#32)))) broadcasts_S512x1_S512x128))
    (broadcastTo S512x128 g broadcasts_S1x128_S512x128)
  truncf .bf16 (addf (mulf v28 cs) (mulf (select k0_pay4 (dynamicRotate 1 96#32 none v28 rotates_S512x128_d1) (dynamicRotate 1 32#32 none v28 rotates_S512x128_d1)) sn)) bitsLt_bf16_f32

/-- The mask of the first half of each half of a head, at a lane. -/
theorem mask_eq (d : Fin 128) : IntOp.cmpi CmpIPredicate.slt (IntOp.andi (BitVec.ofNat 32 d.val) 63#32) 32#32 = if d.val % 64 < 32 then 1#1 else 0#1 :=
  (by decide +kernel : ∀ d : Fin 128, IntOp.cmpi CmpIPredicate.slt (IntOp.andi (BitVec.ofNat 32 d.val) 63#32) 32#32 = if d.val % 64 < 32 then 1#1 else 0#1) d

/-- A chunk's head at an entry. -/
theorem head_apply (v : FVec Ideal S512x128 .f32) (g : FVec Ideal S1x128 .f32) (cs sn : FVec Ideal S512x128 .f32) (i : Fin 512) (d : Fin 128) :
    head v g cs sn (ix2 i d) = roped (fun e => v (ix2 i e)) (fun e => g (ix2 0 e)) (cs (ix2 i d)) (sn (ix2 i d)) d := by
  unfold head k0_pay4 roped gained
  pointwise
  have hd := d.isLt
  rw [mask_eq]
  by_cases h : d.val % 64 < 32
  · rw [if_pos h, show ∀ a b : EReal, Scalar.select 1#1 a b = a from fun _ _ => rfl, show partner d = ⟨(d.val + 128 - 96) % 128, by omega⟩ from Fin.ext (show (if d.val % 64 < 32 then d.val + 32 else d.val - 32) = (d.val + 128 - 96) % 128 by rw [if_pos h]; omega)]
  · rw [if_neg h, show ∀ a b : EReal, Scalar.select 0#1 a b = b from fun _ _ => rfl, show partner d = ⟨(d.val + 128 - 32) % 128, by omega⟩ from Fin.ext (show (if d.val % 64 < 32 then d.val + 32 else d.val - 32) = (d.val + 128 - 32) % 128 by rw [if_neg h]; omega)]

/-- Equal heads, gains and tables give equal rotated entries. -/
theorem roped_congr {f g w v : Fin 128 → EReal} {c c' s s' : EReal} {d d' : Fin 128} (hf : ∀ e, f e = g e) (hw : ∀ e, w e = v e) (hc : c = c') (hs : s = s') (hd : d = d') :
    roped f w c s d = roped g v c' s' d' := by
  rw [show f = g from funext hf, show w = v from funext hw, hc, hs, hd]

/-- An entry of the body's block, from the blocks it reads: the head of the column, normalized and rotated. -/
def blk (x0 : Vec Ideal S2048x4096 .bf16) (x1 : Vec Ideal S4096x512 .bf16) (x2 : Vec Ideal S1x1x128 .f32) (x3 x4 : Vec Ideal S2048x128 .f32) (r : Fin 2048) (j : Fin 512) : EReal :=
  roped (fun e => ∑ k : Fin 4096, HMul.hMul (α := EReal) (x0 (ix2 r k)) (x1 (ix2 k ⟨128 * (j.val / 128) + e.val, by have := j.isLt; have := e.isLt; omega⟩)))
    (fun e => x2 (ix3 0 0 e)) (x3 (ix2 r ⟨j.val % 128, by omega⟩)) (x4 (ix2 r ⟨j.val % 128, by omega⟩)) ⟨j.val % 128, by omega⟩

/-- The product of a chunk of rows and the weight's block at an entry. -/
theorem acc_apply (w : Vec Ideal S4096x512 .bf16) (a : Vec Ideal S512x4096 .bf16) (i j : Fin 512) :
    k0_pay5 (F := Ideal) w a (ix2 i j) = ∑ e : Fin 4096, HMul.hMul (α := EReal) (a (ix2 i e)) (w (ix2 e j)) := by
  unfold k0_pay5 k0_pay2
  pointwise

/-- A chunk's head at an entry, from the blocks. -/
theorem tile_apply (x0 : Vec Ideal S2048x4096 .bf16) (x1 : Vec Ideal S4096x512 .bf16) (x2 : Vec Ideal S1x1x128 .f32) (x3 x4 : Vec Ideal S2048x128 .f32)
    (a : Vec Ideal S512x4096 .bf16) (p q : Vec Ideal S512x128 .f32) (o : ℕ) (hs : S512x512.Slices ![0, o] S512x128) (i : Fin 512) (d : Fin 128) (r : Fin 2048) (j : Fin 512)
    (ho : o % 128 = 0) (hj : j.val = o + d.val) (ha : ∀ e : Fin 4096, a (ix2 i e) = x0 (ix2 r e)) (hp : p (ix2 i d) = x3 (ix2 r d)) (hq : q (ix2 i d) = x4 (ix2 r d)) :
    head (extractStridedSlice S512x128 ![0, o] (k0_pay5 (F := Ideal) (View.ld x1 r0_0) a) hs) (k0_pay3 (View.ld x2 r0_1)) (k0_pay6 p) (k0_pay7 q) (ix2 i d) = blk x0 x1 x2 x3 x4 r j := by
  have hd := d.isLt
  have hjl := j.isLt
  have hd' : d = ⟨j.val % 128, by omega⟩ := Fin.ext (by show d.val = j.val % 128; omega)
  refine (head_apply _ _ _ _ i d).trans ?_
  unfold blk
  refine roped_congr (fun e => ?_) (fun e => ?_) ?_ ?_ hd'
  · have he := e.isLt
    refine (extractStridedSlice_apply ![0, o] (k0_pay5 (F := Ideal) (View.ld x1 r0_0) a) hs (ix2 i e) (ix2 i ⟨o + e.val, by omega⟩) ?_).trans
      ((acc_apply _ _ i ⟨o + e.val, by omega⟩).trans (Finset.sum_congr rfl fun k _ => ?_))
    · intro b
      fin_cases b
      · show i.val = 0 + i.val
        omega
      · rfl
    · rw [ha]
      refine congrArg₂ (fun x y : EReal => x * y) rfl ?_
      pointwise
      blk_ext
  · unfold k0_pay3
    pointwise
  · rw [← hd', ← hp]
    unfold k0_pay6
    pointwise
  · rw [← hd', ← hq]
    unfold k0_pay7
    pointwise

/-- The body's block at an entry. -/
theorem out_apply (x0 : Vec Ideal S2048x4096 .bf16) (x1 : Vec Ideal S4096x512 .bf16) (x2 : Vec Ideal S1x1x128 .f32) (x3 x4 : Vec Ideal S2048x128 .f32) (r : Fin 2048) (j : Fin 512) :
    out0_5 (F := Ideal) x0 x1 x2 x3 x4 (ix2 r j) = blk x0 x1 x2 x3 x4 r j := by
  canon_tiles x h
  · rw [show x = ix2 (x 0) (x 1) from eq_ix2 x]
    refine tile_apply x0 x1 x2 x3 x4 (View.ld x0 r0_20) (View.ld x3 r0_21) (View.ld x4 r0_21) 384 slices_S512x512_o0_384_S512x128 (x 0) (x 1) r j rfl ?_ (fun e => ?_) ?_ ?_
    · have h1' : j.val = 384 + (x 1).val := h1
      omega
    · have h0' : r.val = 1536 + (x 0).val := h0
      pointwise
      blk_ext
    · have h0' : r.val = 1536 + (x 0).val := h0
      pointwise
      blk_ext
    · have h0' : r.val = 1536 + (x 0).val := h0
      pointwise
      blk_ext
  · rw [show x = ix2 (x 0) (x 1) from eq_ix2 x]
    refine tile_apply x0 x1 x2 x3 x4 (View.ld x0 r0_20) (View.ld x3 r0_21) (View.ld x4 r0_21) 256 slices_S512x512_o0_256_S512x128 (x 0) (x 1) r j rfl ?_ (fun e => ?_) ?_ ?_
    · have h1' : j.val = 256 + (x 1).val := h1
      omega
    · have h0' : r.val = 1536 + (x 0).val := h0
      pointwise
      blk_ext
    · have h0' : r.val = 1536 + (x 0).val := h0
      pointwise
      blk_ext
    · have h0' : r.val = 1536 + (x 0).val := h0
      pointwise
      blk_ext
  · rw [show x = ix2 (x 0) (x 1) from eq_ix2 x]
    refine tile_apply x0 x1 x2 x3 x4 (View.ld x0 r0_20) (View.ld x3 r0_21) (View.ld x4 r0_21) 128 slices_S512x512_o0_128_S512x128 (x 0) (x 1) r j rfl ?_ (fun e => ?_) ?_ ?_
    · have h1' : j.val = 128 + (x 1).val := h1
      omega
    · have h0' : r.val = 1536 + (x 0).val := h0
      pointwise
      blk_ext
    · have h0' : r.val = 1536 + (x 0).val := h0
      pointwise
      blk_ext
    · have h0' : r.val = 1536 + (x 0).val := h0
      pointwise
      blk_ext
  · rw [show x = ix2 (x 0) (x 1) from eq_ix2 x]
    refine tile_apply x0 x1 x2 x3 x4 (View.ld x0 r0_20) (View.ld x3 r0_21) (View.ld x4 r0_21) 0 slices_S512x512_o0_0_S512x128 (x 0) (x 1) r j rfl ?_ (fun e => ?_) ?_ ?_
    · have h1' : j.val = (x 1).val := h1
      omega
    · have h0' : r.val = 1536 + (x 0).val := h0
      pointwise
      blk_ext
    · have h0' : r.val = 1536 + (x 0).val := h0
      pointwise
      blk_ext
    · have h0' : r.val = 1536 + (x 0).val := h0
      pointwise
      blk_ext
  · rw [show x = ix2 (x 0) (x 1) from eq_ix2 x]
    refine tile_apply x0 x1 x2 x3 x4 (View.ld x0 r0_14) (View.ld x3 r0_15) (View.ld x4 r0_15) 384 slices_S512x512_o0_384_S512x128 (x 0) (x 1) r j rfl ?_ (fun e => ?_) ?_ ?_
    · have h1' : j.val = 384 + (x 1).val := h1
      omega
    · have h0' : r.val = 1024 + (x 0).val := h0
      pointwise
      blk_ext
    · have h0' : r.val = 1024 + (x 0).val := h0
      pointwise
      blk_ext
    · have h0' : r.val = 1024 + (x 0).val := h0
      pointwise
      blk_ext
  · rw [show x = ix2 (x 0) (x 1) from eq_ix2 x]
    refine tile_apply x0 x1 x2 x3 x4 (View.ld x0 r0_14) (View.ld x3 r0_15) (View.ld x4 r0_15) 256 slices_S512x512_o0_256_S512x128 (x 0) (x 1) r j rfl ?_ (fun e => ?_) ?_ ?_
    · have h1' : j.val = 256 + (x 1).val := h1
      omega
    · have h0' : r.val = 1024 + (x 0).val := h0
      pointwise
      blk_ext
    · have h0' : r.val = 1024 + (x 0).val := h0
      pointwise
      blk_ext
    · have h0' : r.val = 1024 + (x 0).val := h0
      pointwise
      blk_ext
  · rw [show x = ix2 (x 0) (x 1) from eq_ix2 x]
    refine tile_apply x0 x1 x2 x3 x4 (View.ld x0 r0_14) (View.ld x3 r0_15) (View.ld x4 r0_15) 128 slices_S512x512_o0_128_S512x128 (x 0) (x 1) r j rfl ?_ (fun e => ?_) ?_ ?_
    · have h1' : j.val = 128 + (x 1).val := h1
      omega
    · have h0' : r.val = 1024 + (x 0).val := h0
      pointwise
      blk_ext
    · have h0' : r.val = 1024 + (x 0).val := h0
      pointwise
      blk_ext
    · have h0' : r.val = 1024 + (x 0).val := h0
      pointwise
      blk_ext
  · rw [show x = ix2 (x 0) (x 1) from eq_ix2 x]
    refine tile_apply x0 x1 x2 x3 x4 (View.ld x0 r0_14) (View.ld x3 r0_15) (View.ld x4 r0_15) 0 slices_S512x512_o0_0_S512x128 (x 0) (x 1) r j rfl ?_ (fun e => ?_) ?_ ?_
    · have h1' : j.val = (x 1).val := h1
      omega
    · have h0' : r.val = 1024 + (x 0).val := h0
      pointwise
      blk_ext
    · have h0' : r.val = 1024 + (x 0).val := h0
      pointwise
      blk_ext
    · have h0' : r.val = 1024 + (x 0).val := h0
      pointwise
      blk_ext
  · rw [show x = ix2 (x 0) (x 1) from eq_ix2 x]
    refine tile_apply x0 x1 x2 x3 x4 (View.ld x0 r0_8) (View.ld x3 r0_9) (View.ld x4 r0_9) 384 slices_S512x512_o0_384_S512x128 (x 0) (x 1) r j rfl ?_ (fun e => ?_) ?_ ?_
    · have h1' : j.val = 384 + (x 1).val := h1
      omega
    · have h0' : r.val = 512 + (x 0).val := h0
      pointwise
      blk_ext
    · have h0' : r.val = 512 + (x 0).val := h0
      pointwise
      blk_ext
    · have h0' : r.val = 512 + (x 0).val := h0
      pointwise
      blk_ext
  · rw [show x = ix2 (x 0) (x 1) from eq_ix2 x]
    refine tile_apply x0 x1 x2 x3 x4 (View.ld x0 r0_8) (View.ld x3 r0_9) (View.ld x4 r0_9) 256 slices_S512x512_o0_256_S512x128 (x 0) (x 1) r j rfl ?_ (fun e => ?_) ?_ ?_
    · have h1' : j.val = 256 + (x 1).val := h1
      omega
    · have h0' : r.val = 512 + (x 0).val := h0
      pointwise
      blk_ext
    · have h0' : r.val = 512 + (x 0).val := h0
      pointwise
      blk_ext
    · have h0' : r.val = 512 + (x 0).val := h0
      pointwise
      blk_ext
  · rw [show x = ix2 (x 0) (x 1) from eq_ix2 x]
    refine tile_apply x0 x1 x2 x3 x4 (View.ld x0 r0_8) (View.ld x3 r0_9) (View.ld x4 r0_9) 128 slices_S512x512_o0_128_S512x128 (x 0) (x 1) r j rfl ?_ (fun e => ?_) ?_ ?_
    · have h1' : j.val = 128 + (x 1).val := h1
      omega
    · have h0' : r.val = 512 + (x 0).val := h0
      pointwise
      blk_ext
    · have h0' : r.val = 512 + (x 0).val := h0
      pointwise
      blk_ext
    · have h0' : r.val = 512 + (x 0).val := h0
      pointwise
      blk_ext
  · rw [show x = ix2 (x 0) (x 1) from eq_ix2 x]
    refine tile_apply x0 x1 x2 x3 x4 (View.ld x0 r0_8) (View.ld x3 r0_9) (View.ld x4 r0_9) 0 slices_S512x512_o0_0_S512x128 (x 0) (x 1) r j rfl ?_ (fun e => ?_) ?_ ?_
    · have h1' : j.val = (x 1).val := h1
      omega
    · have h0' : r.val = 512 + (x 0).val := h0
      pointwise
      blk_ext
    · have h0' : r.val = 512 + (x 0).val := h0
      pointwise
      blk_ext
    · have h0' : r.val = 512 + (x 0).val := h0
      pointwise
      blk_ext
  · rw [show x = ix2 (x 0) (x 1) from eq_ix2 x]
    refine tile_apply x0 x1 x2 x3 x4 (View.ld x0 r0_2) (View.ld x3 r0_3) (View.ld x4 r0_3) 384 slices_S512x512_o0_384_S512x128 (x 0) (x 1) r j rfl ?_ (fun e => ?_) ?_ ?_
    · have h1' : j.val = 384 + (x 1).val := h1
      omega
    · have h0' : r.val = (x 0).val := h0
      pointwise
      blk_ext
    · have h0' : r.val = (x 0).val := h0
      pointwise
      blk_ext
    · have h0' : r.val = (x 0).val := h0
      pointwise
      blk_ext
  · rw [show x = ix2 (x 0) (x 1) from eq_ix2 x]
    refine tile_apply x0 x1 x2 x3 x4 (View.ld x0 r0_2) (View.ld x3 r0_3) (View.ld x4 r0_3) 256 slices_S512x512_o0_256_S512x128 (x 0) (x 1) r j rfl ?_ (fun e => ?_) ?_ ?_
    · have h1' : j.val = 256 + (x 1).val := h1
      omega
    · have h0' : r.val = (x 0).val := h0
      pointwise
      blk_ext
    · have h0' : r.val = (x 0).val := h0
      pointwise
      blk_ext
    · have h0' : r.val = (x 0).val := h0
      pointwise
      blk_ext
  · rw [show x = ix2 (x 0) (x 1) from eq_ix2 x]
    refine tile_apply x0 x1 x2 x3 x4 (View.ld x0 r0_2) (View.ld x3 r0_3) (View.ld x4 r0_3) 128 slices_S512x512_o0_128_S512x128 (x 0) (x 1) r j rfl ?_ (fun e => ?_) ?_ ?_
    · have h1' : j.val = 128 + (x 1).val := h1
      omega
    · have h0' : r.val = (x 0).val := h0
      pointwise
      blk_ext
    · have h0' : r.val = (x 0).val := h0
      pointwise
      blk_ext
    · have h0' : r.val = (x 0).val := h0
      pointwise
      blk_ext
  · rw [show x = ix2 (x 0) (x 1) from eq_ix2 x]
    refine tile_apply x0 x1 x2 x3 x4 (View.ld x0 r0_2) (View.ld x3 r0_3) (View.ld x4 r0_3) 0 slices_S512x512_o0_0_S512x128 (x 0) (x 1) r j rfl ?_ (fun e => ?_) ?_ ?_
    · have h1' : j.val = (x 1).val := h1
      omega
    · have h0' : r.val = (x 0).val := h0
      pointwise
      blk_ext
    · have h0' : r.val = (x 0).val := h0
      pointwise
      blk_ext
    · have h0' : r.val = (x 0).val := h0
      pointwise
      blk_ext

end Cert.QkIdeal.Tie
end
-- ==== Proof.QkRef.lean ====
module

public import proofs.«01_k».proof.Proof.Sigmoid
public import proofs.«01_k».proof.Proof.QkBlock
public import proofs.«01_k».proof.Proof.Gen.QkRefIdeal.Run
public import proofs.«01_k».proof.Proof.Gen.QkRefIdeal.Read

@[expose] public section

set_option maxRecDepth 16384

noncomputable section

namespace Cert.QkIdeal.Tie

open Cert.QkIdeal Cert.QkIdeal.Gen Idealize.ShloMosaic Idealize.ShloMosaic.TcCoe Idealize.SL.Sem

/-- The queries' scale: one over the logarithm of two times the root of the width. -/
def scale : EReal := Cert.QkRefIdeal.Read.val_main_v87 (F := Ideal) ix0

/-- The queries' scale is a positive real number. -/
theorem scale_real : ∃ s : ℝ, 0 < s ∧ scale = (s : EReal) := by
  have two : Ideal.ofBits .f32 0x40000000#32 = ((2 : ℝ) : EReal) := by
    simp [Ideal.ofBits, Ideal.ieee, -EReal.coe_mul]
    norm_num
  have wide : Ideal.ofBits .f32 0x43000000#32 = ((128 : ℝ) : EReal) := by
    simp [Ideal.ofBits, Ideal.ieee, -EReal.coe_mul]
    norm_num
  have hl : 0 < Real.log 2 := Real.log_pos (by norm_num)
  have hq : 0 < Real.sqrt 128 := Real.sqrt_pos.mpr (by norm_num)
  have hp : 0 < Real.log 2 * Real.sqrt 128 := mul_pos hl hq
  refine ⟨1 / (Real.log 2 * Real.sqrt 128), by positivity, ?_⟩
  have e : scale = Ideal.div (Ideal.ofBits .f32 0x3F800000#32) (HMul.hMul (α := EReal) (Ideal.log (Ideal.ofBits .f32 0x40000000#32)) (Ideal.sqrt (Ideal.ofBits .f32 0x43000000#32))) := rfl
  rw [e, two, wide, Ideal.log_coe, if_neg (by norm_num), Ideal.sqrt_coe, if_neg (by norm_num), ← EReal.coe_mul, Ideal.div_coe hp.ne', show Ideal.ofBits .f32 0x3F800000#32 = 1 from Cert.Proof.Sigmoid.one_bits, one_mul]

/-- A gain multiplied by the scale multiplies the rotated head by the scale. -/
theorem roped_scale (f w : Fin 128 → EReal) (c s : EReal) (d : Fin 128) : roped f (fun e => w e * scale) c s d = roped f w c s d * scale := by
  obtain ⟨a, ha, hs⟩ := scale_real
  have h0 : (0 : EReal) ≤ scale := by
    rw [hs]
    exact_mod_cast ha.le
  have ht : scale ≠ ⊤ := by
    rw [hs]
    exact EReal.coe_ne_top a
  have g (e : Fin 128) : gained f (fun e => w e * scale) e = gained f w e * scale := by
    unfold gained
    exact (mul_assoc (G := EReal) _ _ _).symm
  unfold roped
  rw [g, g, EReal.right_distrib_of_nonneg_of_ne_top h0 ht, mul_right_comm, mul_right_comm (gained f w (partner d))]

/-- A row times a column of the weight. -/
def prod (x0 : FVec Ideal S4x4096x4096 .f32) (x1 : FVec Ideal S1x4096x17408 .f32) (b : Fin 4) (s : Fin 4096) (n : Fin 20) (d : Fin 128) : EReal :=
  ∑ e : Fin 4096, HMul.hMul (α := EReal) (x0 (ix3 b s e)) (x1 (ix3 0 e ⟨128 * n.val + d.val, by have := n.isLt; have := d.isLt; omega⟩))

/-- The gain of a head: the first sixteen heads are queries, the last four keys. -/
def gain (x2 x3 : FVec Ideal S1x128 .f32) (n : Fin 20) (e : Fin 128) : EReal := if n.val < 16 then x2 (ix2 0 e) else x3 (ix2 0 e)

/-- The cosine of a token and a lane: by the token's row in the first half of the head, by its column in the second. -/
def cosT (s : Fin 4096) (d : Fin 128) : EReal :=
  if d.val < 64 then Cert.QkRefIdeal.Read.val_main_v40 (F := Ideal) (ix2 s ⟨d.val % 32, by omega⟩) else Cert.QkRefIdeal.Read.val_main_v65 (F := Ideal) (ix2 s ⟨d.val % 32, by omega⟩)

/-- The sine of a token and a lane, without its sign. -/
def sinA (s : Fin 4096) (d : Fin 128) : EReal :=
  if d.val < 64 then Cert.QkRefIdeal.Read.val_main_v42 (F := Ideal) (ix2 s ⟨d.val % 32, by omega⟩) else Cert.QkRefIdeal.Read.val_main_v67 (F := Ideal) (ix2 s ⟨d.val % 32, by omega⟩)

/-- The signed sine of a token and a lane: minus the sine in the first half of each half of the head. -/
def sinT (s : Fin 4096) (d : Fin 128) : EReal := if d.val % 64 < 32 then -sinA s d else sinA s d

/-- A head of a token rotated, at a lane, before the queries' scale. -/
def rot (x0 : FVec Ideal S4x4096x4096 .f32) (x1 : FVec Ideal S1x4096x17408 .f32) (x2 x3 : FVec Ideal S1x128 .f32) (b : Fin 4) (s : Fin 4096) (n : Fin 20) (d : Fin 128) : EReal :=
  roped (prod x0 x1 b s n) (gain x2 x3 n) (cosT s d) (sinT s d) d

/-- Entry `(r, k)` of the result, from the reference's arguments. -/
def entry (x0 : FVec Ideal S4x4096x4096 .f32) (x1 : FVec Ideal S1x4096x17408 .f32) (x2 x3 : FVec Ideal S1x128 .f32) (r : Fin 16384) (k : Fin 2560) : EReal :=
  rot x0 x1 x2 x3 ⟨r.val / 4096, by have := r.isLt; omega⟩ ⟨r.val % 4096, by omega⟩ ⟨k.val / 128, by have := k.isLt; omega⟩ ⟨k.val % 128, by omega⟩
    * (if k.val / 128 < 16 then scale else 1)

variable (x0 : FVec Ideal S4x4096x4096 .f32) (x1 : FVec Ideal S1x4096x17408 .f32) (x2 x3 : FVec Ideal S1x128 .f32)

/-- The reference's product, split in heads, at an entry. -/
theorem ref3_apply (b : Fin 4) (s : Fin 4096) (n : Fin 20) (d : Fin 128) : Cert.QkRefIdeal.Read.val_main_v3 (F := Ideal) x0 x1 (ix4 b s n d) = prod x0 x1 b s n d := by
  have hs := s.isLt
  have hn := n.isLt
  have hd := d.isLt
  have hb := b.isLt
  have e : Cert.QkRefIdeal.Read.idx_main_v3 (ix4 b s n d) = ix3 b s ⟨128 * n.val + d.val, by omega⟩ := by
    funext a
    apply Fin.ext
    fin_cases a
    · show (((b.val * 4096 + s.val) * 20 + n.val) * 128 + d.val) / 10485760 = b.val
      omega
    · show (((b.val * 4096 + s.val) * 20 + n.val) * 128 + d.val) / 2560 % 4096 = s.val
      omega
    · show (((b.val * 4096 + s.val) * 20 + n.val) * 128 + d.val) % 2560 = 128 * n.val + d.val
      omega
  rw [Cert.QkRefIdeal.Read.val_main_v3_apply, e, Cert.QkRefIdeal.Read.val_main_v2_apply, Cert.QkRefIdeal.Read.val_main_v1_apply]
  unfold prod
  refine Finset.sum_congr rfl fun e _ => congrArg₂ (fun x y : EReal => x * y) ?_ ?_
  · blk_ext
  · rw [Cert.QkRefIdeal.Read.val_main_v0_apply]
    have he := e.isLt
    blk_ext

/-- The reference's head over the root of its mean square, at an entry. -/
theorem ref13_apply (b : Fin 4) (s : Fin 4096) (n : Fin 20) (d : Fin 128) : Cert.QkRefIdeal.Read.val_main_v13 (F := Ideal) x0 x1 (ix4 b s n d)
    = HMul.hMul (α := EReal) (prod x0 x1 b s n d) (Ideal.rsqrt (HAdd.hAdd (α := EReal) (Ideal.div (∑ e : Fin 128, prod x0 x1 b s n e * prod x0 x1 b s n e) (Ideal.ofBits .f32 0x43000000#32)) (Ideal.ofBits .f32 0x358637BD#32))) := by
  have h3 := ref3_apply x0 x1
  rw [Cert.QkRefIdeal.Read.val_main_v13_apply, Cert.QkRefIdeal.Read.val_main_v12_apply, Cert.QkRefIdeal.Read.val_main_v11_apply, Cert.QkRefIdeal.Read.val_main_v10_apply,
    Cert.QkRefIdeal.Read.val_main_v9_apply, Cert.QkRefIdeal.Read.val_main_v8_apply, Cert.QkRefIdeal.Read.val_main_v7_apply, Cert.QkRefIdeal.Read.val_main_v6_apply,
    Cert.QkRefIdeal.Read.val_main_v5_apply]
  refine congrArg₂ (fun x y : EReal => x * y) (h3 b s n d) (congrArg Ideal.rsqrt (congrArg₂ (fun x y : EReal => x + y) (congrArg₂ Ideal.div ?_ rfl) rfl))
  rw [Cert.QkRefIdeal.Read.val_main_cst_apply]
  refine Eq.trans (congrArg₂ (fun x y : EReal => x + y) (show _ = (0 : EReal) from ?_) (Finset.sum_congr rfl fun e _ => ?_)) (zero_add _)
  · pointwise
  · rw [Cert.QkRefIdeal.Read.val_main_v4_apply]
    refine (congrArg₂ (fun x y : EReal => x * y) ?_ ?_).trans (congrArg₂ (fun x y : EReal => x * y) (h3 b s n e) (h3 b s n e)) <;> blk_ext

/-- The reference's heads times their gains, at an entry. -/
theorem ref24_apply (b : Fin 4) (s : Fin 4096) (n : Fin 20) (d : Fin 128) : Cert.QkRefIdeal.Read.val_main_v24 (F := Ideal) x0 x1 x2 x3 (ix4 b s n d)
    = gained (prod x0 x1 b s n) (gain x2 x3 n) d := by
  have hn := n.isLt
  have h13 := ref13_apply x0 x1
  have h18 : ∀ j : Fin 16, Cert.QkRefIdeal.Read.val_main_v18 (F := Ideal) x0 x1 x2 (ix4 b s j d) = Cert.QkRefIdeal.Read.val_main_v13 (F := Ideal) x0 x1 (ix4 b s ⟨j.val, by omega⟩ d) * x2 (ix2 0 d) := by
    intro j
    rw [Cert.QkRefIdeal.Read.val_main_v18_apply, Cert.QkRefIdeal.Read.val_main_v17_apply, Cert.QkRefIdeal.Read.val_main_v16_apply, Cert.QkRefIdeal.Read.val_main_v15_apply, Cert.QkRefIdeal.Read.val_main_v14_apply]
    refine congrArg₂ (fun x y : EReal => x * y) ?_ ?_ <;> blk_ext
  have h23 : ∀ j : Fin 4, Cert.QkRefIdeal.Read.val_main_v23 (F := Ideal) x0 x1 x3 (ix4 b s j d) = Cert.QkRefIdeal.Read.val_main_v13 (F := Ideal) x0 x1 (ix4 b s ⟨16 + j.val, by omega⟩ d) * x3 (ix2 0 d) := by
    intro j
    rw [Cert.QkRefIdeal.Read.val_main_v23_apply, Cert.QkRefIdeal.Read.val_main_v22_apply, Cert.QkRefIdeal.Read.val_main_v21_apply, Cert.QkRefIdeal.Read.val_main_v20_apply, Cert.QkRefIdeal.Read.val_main_v19_apply]
    refine congrArg₂ (fun x y : EReal => x * y) ?_ ?_ <;> blk_ext
  unfold Cert.QkRefIdeal.Read.val_main_v24
  generalize Cert.QkRefIdeal.Read.val_main_v18 (F := Ideal) x0 x1 x2 = u at h18 ⊢
  generalize Cert.QkRefIdeal.Read.val_main_v23 (F := Ideal) x0 x1 x3 = v at h23 ⊢
  pointwise
  unfold gained gain
  by_cases c : n.val < 16
  · rw [dif_pos c, if_pos c]
    refine (h18 ⟨n.val, c⟩).trans ?_
    rw [h13]
  · rw [dif_neg c, if_neg c]
    refine (h23 ⟨n.val - 16, by omega⟩).trans ?_
    rw [h13, show (⟨16 + (n.val - 16), by omega⟩ : Fin 20) = n from Fin.ext (by show 16 + (n.val - 16) = n.val; omega)]

/-- The reference's first half of a head rotated by the token's row, at an entry. -/
theorem ref56_apply (b : Fin 4) (s : Fin 4096) (n : Fin 20) (d : Fin 64) : Cert.QkRefIdeal.Read.val_main_v56 (F := Ideal) x0 x1 x2 x3 (ix4 b s n d)
    = if d.val < 32 then
        gained (prod x0 x1 b s n) (gain x2 x3 n) ⟨d.val, by have := d.isLt; omega⟩ * Cert.QkRefIdeal.Read.val_main_v40 (F := Ideal) (ix2 s ⟨d.val % 32, by omega⟩)
          - gained (prod x0 x1 b s n) (gain x2 x3 n) ⟨(d.val + 32) % 64, by omega⟩ * Cert.QkRefIdeal.Read.val_main_v42 (F := Ideal) (ix2 s ⟨d.val % 32, by omega⟩)
      else
        gained (prod x0 x1 b s n) (gain x2 x3 n) ⟨d.val, by have := d.isLt; omega⟩ * Cert.QkRefIdeal.Read.val_main_v40 (F := Ideal) (ix2 s ⟨d.val % 32, by omega⟩)
          + gained (prod x0 x1 b s n) (gain x2 x3 n) ⟨(d.val + 32) % 64, by omega⟩ * Cert.QkRefIdeal.Read.val_main_v42 (F := Ideal) (ix2 s ⟨d.val % 32, by omega⟩) := by
  have hd := d.isLt
  have h24 := ref24_apply x0 x1 x2 x3 b s n
  have hs : ∀ e : Fin 64, Cert.QkRefIdeal.Read.val_main_v32 (F := Ideal) x0 x1 x2 x3 (ix4 b s n e) = gained (prod x0 x1 b s n) (gain x2 x3 n) ⟨e.val, by have := e.isLt; omega⟩ := by
    intro e
    rw [Cert.QkRefIdeal.Read.val_main_v32_apply, ← h24]
    blk_ext
  have hf : ∀ e : Fin 32, Cert.QkRefIdeal.Read.val_main_v50 (F := Ideal) x0 x1 x2 x3 (ix4 b s n e)
      = HSub.hSub (α := EReal) (Cert.QkRefIdeal.Read.val_main_v32 (F := Ideal) x0 x1 x2 x3 (ix4 b s n ⟨e.val, by have := e.isLt; omega⟩) * Cert.QkRefIdeal.Read.val_main_v40 (F := Ideal) (ix2 s e))
        (Cert.QkRefIdeal.Read.val_main_v32 (F := Ideal) x0 x1 x2 x3 (ix4 b s n ⟨32 + e.val, by have := e.isLt; omega⟩) * Cert.QkRefIdeal.Read.val_main_v42 (F := Ideal) (ix2 s e)) := by
    intro e
    rw [Cert.QkRefIdeal.Read.val_main_v50_apply, Cert.QkRefIdeal.Read.val_main_v47_apply, Cert.QkRefIdeal.Read.val_main_v49_apply, Cert.QkRefIdeal.Read.val_main_v44_apply, Cert.QkRefIdeal.Read.val_main_v45_apply, Cert.QkRefIdeal.Read.val_main_v46_apply, Cert.QkRefIdeal.Read.val_main_v48_apply, Cert.QkRefIdeal.Read.val_main_v41_apply, Cert.QkRefIdeal.Read.val_main_v43_apply]
    refine congrArg₂ (fun x y : EReal => x - y) (congrArg₂ (fun x y : EReal => x * y) ?_ ?_) (congrArg₂ (fun x y : EReal => x * y) ?_ ?_) <;> blk_ext
  have hg : ∀ e : Fin 32, Cert.QkRefIdeal.Read.val_main_v55 (F := Ideal) x0 x1 x2 x3 (ix4 b s n e)
      = HAdd.hAdd (α := EReal) (Cert.QkRefIdeal.Read.val_main_v32 (F := Ideal) x0 x1 x2 x3 (ix4 b s n ⟨32 + e.val, by have := e.isLt; omega⟩) * Cert.QkRefIdeal.Read.val_main_v40 (F := Ideal) (ix2 s e))
        (Cert.QkRefIdeal.Read.val_main_v32 (F := Ideal) x0 x1 x2 x3 (ix4 b s n ⟨e.val, by have := e.isLt; omega⟩) * Cert.QkRefIdeal.Read.val_main_v42 (F := Ideal) (ix2 s e)) := by
    intro e
    rw [Cert.QkRefIdeal.Read.val_main_v55_apply, Cert.QkRefIdeal.Read.val_main_v52_apply, Cert.QkRefIdeal.Read.val_main_v54_apply, Cert.QkRefIdeal.Read.val_main_v45_apply, Cert.QkRefIdeal.Read.val_main_v44_apply, Cert.QkRefIdeal.Read.val_main_v51_apply, Cert.QkRefIdeal.Read.val_main_v53_apply, Cert.QkRefIdeal.Read.val_main_v41_apply, Cert.QkRefIdeal.Read.val_main_v43_apply]
    refine congrArg₂ (fun x y : EReal => x + y) (congrArg₂ (fun x y : EReal => x * y) ?_ ?_) (congrArg₂ (fun x y : EReal => x * y) ?_ ?_) <;> blk_ext
  unfold Cert.QkRefIdeal.Read.val_main_v56
  generalize Cert.QkRefIdeal.Read.val_main_v50 (F := Ideal) x0 x1 x2 x3 = u at hf ⊢
  generalize Cert.QkRefIdeal.Read.val_main_v55 (F := Ideal) x0 x1 x2 x3 = v at hg ⊢
  pointwise
  by_cases c : d.val < 32
  · rw [dif_pos c, if_pos c]
    refine (hf ⟨d.val, c⟩).trans ?_
    rw [hs, hs]
    simp only [show d.val % 32 = d.val by omega, show (d.val + 32) % 64 = 32 + d.val by omega]
  · rw [dif_neg c, if_neg c]
    refine (hg ⟨d.val - 32, by omega⟩).trans ?_
    rw [hs, hs]
    simp only [show d.val % 32 = d.val - 32 by omega, show (d.val + 32) % 64 = d.val - 32 by omega, show 32 + (d.val - 32) = d.val by omega]

/-- The reference's second half of a head rotated by the token's column, at an entry. -/
theorem ref81_apply (b : Fin 4) (s : Fin 4096) (n : Fin 20) (d : Fin 64) : Cert.QkRefIdeal.Read.val_main_v81 (F := Ideal) x0 x1 x2 x3 (ix4 b s n d)
    = if d.val < 32 then
        gained (prod x0 x1 b s n) (gain x2 x3 n) ⟨64 + d.val, by have := d.isLt; omega⟩ * Cert.QkRefIdeal.Read.val_main_v65 (F := Ideal) (ix2 s ⟨d.val % 32, by omega⟩)
          - gained (prod x0 x1 b s n) (gain x2 x3 n) ⟨64 + (d.val + 32) % 64, by omega⟩ * Cert.QkRefIdeal.Read.val_main_v67 (F := Ideal) (ix2 s ⟨d.val % 32, by omega⟩)
      else
        gained (prod x0 x1 b s n) (gain x2 x3 n) ⟨64 + d.val, by have := d.isLt; omega⟩ * Cert.QkRefIdeal.Read.val_main_v65 (F := Ideal) (ix2 s ⟨d.val % 32, by omega⟩)
          + gained (prod x0 x1 b s n) (gain x2 x3 n) ⟨64 + (d.val + 32) % 64, by omega⟩ * Cert.QkRefIdeal.Read.val_main_v67 (F := Ideal) (ix2 s ⟨d.val % 32, by omega⟩) := by
  have hd := d.isLt
  have h24 := ref24_apply x0 x1 x2 x3 b s n
  have hs : ∀ e : Fin 64, Cert.QkRefIdeal.Read.val_main_v57 (F := Ideal) x0 x1 x2 x3 (ix4 b s n e) = gained (prod x0 x1 b s n) (gain x2 x3 n) ⟨64 + e.val, by have := e.isLt; omega⟩ := by
    intro e
    rw [Cert.QkRefIdeal.Read.val_main_v57_apply, ← h24]
    blk_ext
  have hf : ∀ e : Fin 32, Cert.QkRefIdeal.Read.val_main_v75 (F := Ideal) x0 x1 x2 x3 (ix4 b s n e)
      = HSub.hSub (α := EReal) (Cert.QkRefIdeal.Read.val_main_v57 (F := Ideal) x0 x1 x2 x3 (ix4 b s n ⟨e.val, by have := e.isLt; omega⟩) * Cert.QkRefIdeal.Read.val_main_v65 (F := Ideal) (ix2 s e))
        (Cert.QkRefIdeal.Read.val_main_v57 (F := Ideal) x0 x1 x2 x3 (ix4 b s n ⟨32 + e.val, by have := e.isLt; omega⟩) * Cert.QkRefIdeal.Read.val_main_v67 (F := Ideal) (ix2 s e)) := by
    intro e
    rw [Cert.QkRefIdeal.Read.val_main_v75_apply, Cert.QkRefIdeal.Read.val_main_v72_apply, Cert.QkRefIdeal.Read.val_main_v74_apply, Cert.QkRefIdeal.Read.val_main_v69_apply, Cert.QkRefIdeal.Read.val_main_v70_apply, Cert.QkRefIdeal.Read.val_main_v71_apply, Cert.QkRefIdeal.Read.val_main_v73_apply, Cert.QkRefIdeal.Read.val_main_v66_apply, Cert.QkRefIdeal.Read.val_main_v68_apply]
    refine congrArg₂ (fun x y : EReal => x - y) (congrArg₂ (fun x y : EReal => x * y) ?_ ?_) (congrArg₂ (fun x y : EReal => x * y) ?_ ?_) <;> blk_ext
  have hg : ∀ e : Fin 32, Cert.QkRefIdeal.Read.val_main_v80 (F := Ideal) x0 x1 x2 x3 (ix4 b s n e)
      = HAdd.hAdd (α := EReal) (Cert.QkRefIdeal.Read.val_main_v57 (F := Ideal) x0 x1 x2 x3 (ix4 b s n ⟨32 + e.val, by have := e.isLt; omega⟩) * Cert.QkRefIdeal.Read.val_main_v65 (F := Ideal) (ix2 s e))
        (Cert.QkRefIdeal.Read.val_main_v57 (F := Ideal) x0 x1 x2 x3 (ix4 b s n ⟨e.val, by have := e.isLt; omega⟩) * Cert.QkRefIdeal.Read.val_main_v67 (F := Ideal) (ix2 s e)) := by
    intro e
    rw [Cert.QkRefIdeal.Read.val_main_v80_apply, Cert.QkRefIdeal.Read.val_main_v77_apply, Cert.QkRefIdeal.Read.val_main_v79_apply, Cert.QkRefIdeal.Read.val_main_v70_apply, Cert.QkRefIdeal.Read.val_main_v69_apply, Cert.QkRefIdeal.Read.val_main_v76_apply, Cert.QkRefIdeal.Read.val_main_v78_apply, Cert.QkRefIdeal.Read.val_main_v66_apply, Cert.QkRefIdeal.Read.val_main_v68_apply]
    refine congrArg₂ (fun x y : EReal => x + y) (congrArg₂ (fun x y : EReal => x * y) ?_ ?_) (congrArg₂ (fun x y : EReal => x * y) ?_ ?_) <;> blk_ext
  unfold Cert.QkRefIdeal.Read.val_main_v81
  generalize Cert.QkRefIdeal.Read.val_main_v75 (F := Ideal) x0 x1 x2 x3 = u at hf ⊢
  generalize Cert.QkRefIdeal.Read.val_main_v80 (F := Ideal) x0 x1 x2 x3 = v at hg ⊢
  pointwise
  by_cases c : d.val < 32
  · rw [dif_pos c, if_pos c]
    refine (hf ⟨d.val, c⟩).trans ?_
    rw [hs, hs]
    simp only [show d.val % 32 = d.val by omega, show (d.val + 32) % 64 = 32 + d.val by omega]
  · rw [dif_neg c, if_neg c]
    refine (hg ⟨d.val - 32, by omega⟩).trans ?_
    rw [hs, hs]
    simp only [show d.val % 32 = d.val - 32 by omega, show (d.val + 32) % 64 = d.val - 32 by omega, show 32 + (d.val - 32) = d.val by omega]

/-- The reference's rotated heads at an entry. -/
theorem ref82_apply (b : Fin 4) (s : Fin 4096) (n : Fin 20) (d : Fin 128) : Cert.QkRefIdeal.Read.val_main_v82 (F := Ideal) x0 x1 x2 x3 (ix4 b s n d) = rot x0 x1 x2 x3 b s n d := by
  have hd := d.isLt
  have h56 := ref56_apply x0 x1 x2 x3 b s n
  have h81 := ref81_apply x0 x1 x2 x3 b s n
  have sub (x y z w : EReal) : x * y - z * w = x * y + z * -w := by
    rw [sub_eq_add_neg, mul_neg]
  unfold Cert.QkRefIdeal.Read.val_main_v82
  generalize Cert.QkRefIdeal.Read.val_main_v56 (F := Ideal) x0 x1 x2 x3 = u at h56 ⊢
  generalize Cert.QkRefIdeal.Read.val_main_v81 (F := Ideal) x0 x1 x2 x3 = v at h81 ⊢
  pointwise
  unfold rot roped cosT sinT sinA
  by_cases c : d.val < 64
  · rw [dif_pos c]
    refine (h56 ⟨d.val, c⟩).trans ?_
    simp only [if_pos c]
    by_cases e : d.val % 64 < 32
    · rw [if_pos (show d.val < 32 by omega), if_pos e, sub, show partner d = ⟨(d.val + 32) % 64, by omega⟩ from
        Fin.ext (show (if d.val % 64 < 32 then d.val + 32 else d.val - 32) = (d.val + 32) % 64 by rw [if_pos e]; omega)]

    · rw [if_neg (show ¬ d.val < 32 by omega), if_neg e, show partner d = ⟨(d.val + 32) % 64, by omega⟩ from
        Fin.ext (show (if d.val % 64 < 32 then d.val + 32 else d.val - 32) = (d.val + 32) % 64 by rw [if_neg e]; omega)]

  · rw [dif_neg c]
    refine (h81 ⟨d.val - 64, by omega⟩).trans ?_
    simp only [if_neg c]
    by_cases e : d.val % 64 < 32
    · rw [if_pos (show d.val - 64 < 32 by omega), if_pos e, sub, show partner d = ⟨64 + (d.val - 64 + 32) % 64, by omega⟩ from
        Fin.ext (show (if d.val % 64 < 32 then d.val + 32 else d.val - 32) = 64 + (d.val - 64 + 32) % 64 by rw [if_pos e]; omega)]
      simp only [show 64 + (d.val - 64) = d.val by omega, show (d.val - 64) % 32 = d.val % 32 by omega]
    · rw [if_neg (show ¬ d.val - 64 < 32 by omega), if_neg e, show partner d = ⟨64 + (d.val - 64 + 32) % 64, by omega⟩ from
        Fin.ext (show (if d.val % 64 < 32 then d.val + 32 else d.val - 32) = 64 + (d.val - 64 + 32) % 64 by rw [if_neg e]; omega)]
      simp only [show 64 + (d.val - 64) = d.val by omega, show (d.val - 64) % 32 = d.val % 32 by omega]

/-- The reference's queries and keys side by side, at an entry. -/
theorem ref91_apply (b : Fin 4) (s : Fin 4096) (n : Fin 20) (d : Fin 128) : Cert.QkRefIdeal.Read.val_main_v91 (F := Ideal) x0 x1 x2 x3 (ix4 b s n d)
    = rot x0 x1 x2 x3 b s n d * (if n.val < 16 then scale else 1) := by
  have hn := n.isLt
  have h82 := ref82_apply x0 x1 x2 x3 b s
  have h89 : ∀ j : Fin 16, Cert.QkRefIdeal.Read.val_main_v89 (F := Ideal) x0 x1 x2 x3 (ix4 b s j d) = rot x0 x1 x2 x3 b s ⟨j.val, by omega⟩ d * scale := by
    intro j
    rw [Cert.QkRefIdeal.Read.val_main_v89_apply, Cert.QkRefIdeal.Read.val_main_v88_apply, Cert.QkRefIdeal.Read.val_main_v83_apply]
    refine congrArg₂ (fun x y : EReal => x * y) ?_ ?_
    · rw [← h82]
      blk_ext
    · unfold scale
      exact congrArg _ (funext fun a => a.elim0)
  have h90 : ∀ j : Fin 4, Cert.QkRefIdeal.Read.val_main_v90 (F := Ideal) x0 x1 x2 x3 (ix4 b s j d) = rot x0 x1 x2 x3 b s ⟨16 + j.val, by omega⟩ d := by
    intro j
    rw [Cert.QkRefIdeal.Read.val_main_v90_apply, ← h82]
    blk_ext
  unfold Cert.QkRefIdeal.Read.val_main_v91
  generalize Cert.QkRefIdeal.Read.val_main_v89 (F := Ideal) x0 x1 x2 x3 = u at h89 ⊢
  generalize Cert.QkRefIdeal.Read.val_main_v90 (F := Ideal) x0 x1 x2 x3 = v at h90 ⊢
  pointwise
  by_cases c : n.val < 16
  · rw [dif_pos c, if_pos c]
    exact h89 ⟨n.val, c⟩
  · rw [dif_neg c, if_neg c]
    refine (h90 ⟨n.val - 16, by omega⟩).trans ?_
    rw [show (⟨16 + (n.val - 16), by omega⟩ : Fin 20) = n from Fin.ext (by show 16 + (n.val - 16) = n.val; omega)]
    exact (mul_one (M := EReal) _).symm

/-- The reference at an entry. -/
theorem ref_apply (r : Fin 16384) (k : Fin 2560) : Cert.QkRefIdeal.Read.val_main_v93 (F := Ideal) x0 x1 x2 x3 (ix2 r k) = entry x0 x1 x2 x3 r k := by
  have hr := r.isLt
  have hk := k.isLt
  have e : Cert.QkRefIdeal.Read.idx_main_v92 (ix2 r k) = ix4 ⟨r.val / 4096, by omega⟩ ⟨r.val % 4096, by omega⟩ ⟨k.val / 128, by omega⟩ ⟨k.val % 128, by omega⟩ := by
    funext a
    apply Fin.ext
    fin_cases a
    · show (r.val * 2560 + k.val) / 10485760 = r.val / 4096
      omega
    · show (r.val * 2560 + k.val) / 2560 % 4096 = r.val % 4096
      omega
    · show (r.val * 2560 + k.val) / 128 % 20 = k.val / 128
      omega
    · show (r.val * 2560 + k.val) % 128 = k.val % 128
      omega
  rw [Cert.QkRefIdeal.Read.val_main_v93_apply, Cert.QkRefIdeal.Read.val_main_v92_apply, e]
  exact ref91_apply x0 x1 x2 x3 _ _ _ _

end Cert.QkIdeal.Tie
end
-- ==== Proof.QkTables.lean ====
module

public import proofs.«01_k».proof.Proof.QkRef

@[expose] public section

set_option maxRecDepth 16384

noncomputable section

namespace Cert.QkIdeal.Tie

open Cert.QkIdeal Cert.QkIdeal.Gen Idealize.ShloMosaic Idealize.ShloMosaic.TcCoe Idealize.SL.Sem

variable (m : (ℓ : Loc nD τ sig) → Buf (Elt Ideal) ℓ)

/-- The tokens' numbers after the first stretch of the host's operations. -/
theorem h0_v4 (σ : Valuation τ sig (Elt Ideal))  :
    StableHlo.after hostOps0 σ (Proc.tc.devRef main_v4) = Cert.QkRefIdeal.Read.val_main_v25 (F := Ideal) := by
  simp only [hostOps0]
  entry_read
  rfl

/-- The frequencies after the first stretch. -/
theorem h0_v10 (σ : Valuation τ sig (Elt Ideal))  :
    StableHlo.after hostOps0 σ (Proc.tc.devRef main_v10) = Cert.QkRefIdeal.Read.val_main_v31 (F := Ideal) := by
  simp only [hostOps0]
  entry_read
  rfl

/-- The grid's width after the first stretch. -/
theorem h0_c (σ : Valuation τ sig (Elt Ideal))  :
    StableHlo.after hostOps0 σ (Proc.tc.devRef main_c) = Cert.QkRefIdeal.Read.val_main_c (F := Ideal) := by
  simp only [hostOps0]
  entry_read
  rfl

/-- The tokens' rows after the second stretch. -/
theorem h1_v11 (σ : Valuation τ sig (Elt Ideal)) (h4 : σ (Proc.tc.devRef main_v4) = Cert.QkRefIdeal.Read.val_main_v25 (F := Ideal)) (hc : σ (Proc.tc.devRef main_c) = Cert.QkRefIdeal.Read.val_main_c (F := Ideal)) :
    StableHlo.after hostOps0_1 σ (Proc.tc.devRef main_v11) = Cert.QkRefIdeal.Read.val_main_v33 (F := Ideal) := by
  simp only [hostOps0_1]
  entry_read
  simp only [h4, hc]
  rfl

/-- The second stretch leaves the tokens' numbers. -/
theorem h1_v4 (σ : Valuation τ sig (Elt Ideal)) : StableHlo.after hostOps0_1 σ (Proc.tc.devRef main_v4) = σ (Proc.tc.devRef main_v4) := by
  simp only [hostOps0_1]
  entry_read
  rfl

/-- The second stretch leaves the frequencies. -/
theorem h1_v10 (σ : Valuation τ sig (Elt Ideal)) : StableHlo.after hostOps0_1 σ (Proc.tc.devRef main_v10) = σ (Proc.tc.devRef main_v10) := by
  simp only [hostOps0_1]
  entry_read
  rfl

/-- The angles by row after the third stretch. -/
theorem h2_v17 (σ : Valuation τ sig (Elt Ideal)) (h11 : σ (Proc.tc.devRef main_v11) = Cert.QkRefIdeal.Read.val_main_v33 (F := Ideal)) (h10 : σ (Proc.tc.devRef main_v10) = Cert.QkRefIdeal.Read.val_main_v31 (F := Ideal)) :
    StableHlo.after hostOps0_2 σ (Proc.tc.devRef main_v17) = Cert.QkRefIdeal.Read.val_main_v39 (F := Ideal) := by
  simp only [hostOps0_2]
  entry_read
  simp only [h11, h10]
  rfl

/-- The grid's width after the third stretch. -/
theorem h2_c4 (σ : Valuation τ sig (Elt Ideal))  :
    StableHlo.after hostOps0_2 σ (Proc.tc.devRef main_c_4) = Cert.QkRefIdeal.Read.val_main_c_4 (F := Ideal) := by
  simp only [hostOps0_2]
  entry_read
  rfl

/-- The third stretch leaves the tokens' numbers. -/
theorem h2_v4 (σ : Valuation τ sig (Elt Ideal)) : StableHlo.after hostOps0_2 σ (Proc.tc.devRef main_v4) = σ (Proc.tc.devRef main_v4) := by
  simp only [hostOps0_2]
  entry_read
  rfl

/-- The third stretch leaves the frequencies. -/
theorem h2_v10 (σ : Valuation τ sig (Elt Ideal)) : StableHlo.after hostOps0_2 σ (Proc.tc.devRef main_v10) = σ (Proc.tc.devRef main_v10) := by
  simp only [hostOps0_2]
  entry_read
  rfl

/-- The tokens' columns after the fourth stretch. -/
theorem h3_v18 (σ : Valuation τ sig (Elt Ideal)) (h4 : σ (Proc.tc.devRef main_v4) = Cert.QkRefIdeal.Read.val_main_v25 (F := Ideal)) (hc : σ (Proc.tc.devRef main_c_4) = Cert.QkRefIdeal.Read.val_main_c_4 (F := Ideal)) :
    StableHlo.after hostOps0_3 σ (Proc.tc.devRef main_v18) = Cert.QkRefIdeal.Read.val_main_v58 (F := Ideal) := by
  simp only [hostOps0_3]
  entry_read
  simp only [h4, hc]
  rfl

/-- The fourth stretch leaves the angles by row. -/
theorem h3_v17 (σ : Valuation τ sig (Elt Ideal)) : StableHlo.after hostOps0_3 σ (Proc.tc.devRef main_v17) = σ (Proc.tc.devRef main_v17) := by
  simp only [hostOps0_3]
  entry_read
  rfl

/-- The fourth stretch leaves the frequencies. -/
theorem h3_v10 (σ : Valuation τ sig (Elt Ideal)) : StableHlo.after hostOps0_3 σ (Proc.tc.devRef main_v10) = σ (Proc.tc.devRef main_v10) := by
  simp only [hostOps0_3]
  entry_read
  rfl

/-- The cosines by row after the last stretch's first ten operations. -/
theorem h4_v25 (σ : Valuation τ sig (Elt Ideal)) (h17 : σ (Proc.tc.devRef main_v17) = Cert.QkRefIdeal.Read.val_main_v39 (F := Ideal)) :
    StableHlo.after (hostOps0_4.take 10) σ (Proc.tc.devRef main_v25) = Cert.QkRefIdeal.Read.val_main_v40 (F := Ideal) := by
  simp only [hostOps0_4, List.take]
  entry_read
  simp only [h17]
  rfl

/-- The cosines by column after the last stretch's first ten operations. -/
theorem h4_v26 (σ : Valuation τ sig (Elt Ideal)) (h18 : σ (Proc.tc.devRef main_v18) = Cert.QkRefIdeal.Read.val_main_v58 (F := Ideal)) (h10 : σ (Proc.tc.devRef main_v10) = Cert.QkRefIdeal.Read.val_main_v31 (F := Ideal)) :
    StableHlo.after (hostOps0_4.take 10) σ (Proc.tc.devRef main_v26) = Cert.QkRefIdeal.Read.val_main_v65 (F := Ideal) := by
  simp only [hostOps0_4, List.take]
  entry_read
  simp only [h18, h10]
  rfl

/-- The sines by row after the last stretch's first ten operations. -/
theorem h4_v27 (σ : Valuation τ sig (Elt Ideal)) (h17 : σ (Proc.tc.devRef main_v17) = Cert.QkRefIdeal.Read.val_main_v39 (F := Ideal)) :
    StableHlo.after (hostOps0_4.take 10) σ (Proc.tc.devRef main_v27) = Cert.QkRefIdeal.Read.val_main_v42 (F := Ideal) := by
  simp only [hostOps0_4, List.take]
  entry_read
  simp only [h17]
  rfl

/-- The sines by column after the last stretch's first ten operations. -/
theorem h4_v28 (σ : Valuation τ sig (Elt Ideal)) (h18 : σ (Proc.tc.devRef main_v18) = Cert.QkRefIdeal.Read.val_main_v58 (F := Ideal)) (h10 : σ (Proc.tc.devRef main_v10) = Cert.QkRefIdeal.Read.val_main_v31 (F := Ideal)) :
    StableHlo.after (hostOps0_4.take 10) σ (Proc.tc.devRef main_v28) = Cert.QkRefIdeal.Read.val_main_v67 (F := Ideal) := by
  simp only [hostOps0_4, List.take]
  entry_read
  simp only [h18, h10]
  rfl

/-- The cosines' table after the last stretch's other operations. -/
theorem h5_v29 (σ : Valuation τ sig (Elt Ideal)) :
    StableHlo.after (hostOps0_4.drop 10) σ (Proc.tc.devRef main_v29) = (concatenate S4096x128 1 [⟨S4096x32, (σ (Proc.tc.devRef main_v25) : FVec Ideal S4096x32 .f32)⟩, ⟨S4096x32, (σ (Proc.tc.devRef main_v25) : FVec Ideal S4096x32 .f32)⟩, ⟨S4096x32, (σ (Proc.tc.devRef main_v26) : FVec Ideal S4096x32 .f32)⟩, ⟨S4096x32, (σ (Proc.tc.devRef main_v26) : FVec Ideal S4096x32 .f32)⟩]
      concatenates_S4096x32_S4096x32_S4096x32_S4096x32_S4096x128_d1 : FVec Ideal S4096x128 .f32) := by
  simp only [hostOps0_4, List.drop]
  entry_read
  rfl

/-- Minus the sines by row after the eleventh to thirteenth operation of the last stretch. -/
theorem h5_v30 (σ : Valuation τ sig (Elt Ideal)) :
    StableHlo.after ((hostOps0_4.drop 10).take 3) σ (Proc.tc.devRef main_v30) = (Host.negf (F := Ideal) (φ := .f32) (σ (Proc.tc.devRef main_v27) : FVec Ideal S4096x32 .f32) : FVec Ideal S4096x32 .f32) := by
  simp only [hostOps0_4, List.drop, List.take]
  entry_read
  rfl

/-- Minus the sines by column after the eleventh to thirteenth operation of the last stretch. -/
theorem h5_v31 (σ : Valuation τ sig (Elt Ideal)) :
    StableHlo.after ((hostOps0_4.drop 10).take 3) σ (Proc.tc.devRef main_v31) = (Host.negf (F := Ideal) (φ := .f32) (σ (Proc.tc.devRef main_v28) : FVec Ideal S4096x32 .f32) : FVec Ideal S4096x32 .f32) := by
  simp only [hostOps0_4, List.drop, List.take]
  entry_read
  rfl

/-- The sines by row after the eleventh to thirteenth operation of the last stretch. -/
theorem h5_v27 (σ : Valuation τ sig (Elt Ideal)) :
    StableHlo.after ((hostOps0_4.drop 10).take 3) σ (Proc.tc.devRef main_v27) = (σ (Proc.tc.devRef main_v27) : FVec Ideal S4096x32 .f32) := by
  simp only [hostOps0_4, List.drop, List.take]
  entry_read
  rfl

/-- The sines by column after the eleventh to thirteenth operation of the last stretch. -/
theorem h5_v28 (σ : Valuation τ sig (Elt Ideal)) :
    StableHlo.after ((hostOps0_4.drop 10).take 3) σ (Proc.tc.devRef main_v28) = (σ (Proc.tc.devRef main_v28) : FVec Ideal S4096x32 .f32) := by
  simp only [hostOps0_4, List.drop, List.take]
  entry_read
  rfl

/-- The signed sines' table after the operations from the fourteenth on. -/
theorem h6_v32 (σ : Valuation τ sig (Elt Ideal)) :
    StableHlo.after (hostOps0_4.drop 13) σ (Proc.tc.devRef main_v32) = (concatenate S4096x128 1 [⟨S4096x32, (σ (Proc.tc.devRef main_v30) : FVec Ideal S4096x32 .f32)⟩, ⟨S4096x32, (σ (Proc.tc.devRef main_v27) : FVec Ideal S4096x32 .f32)⟩, ⟨S4096x32, (σ (Proc.tc.devRef main_v31) : FVec Ideal S4096x32 .f32)⟩, ⟨S4096x32, (σ (Proc.tc.devRef main_v28) : FVec Ideal S4096x32 .f32)⟩]
      concatenates_S4096x32_S4096x32_S4096x32_S4096x32_S4096x128_d1 : FVec Ideal S4096x128 .f32) := by
  simp only [hostOps0_4, List.drop]
  entry_read
  rfl

/-- The signed sines' table after the last stretch's other operations. -/
theorem h5_v32 (σ : Valuation τ sig (Elt Ideal)) :
    StableHlo.after (hostOps0_4.drop 10) σ (Proc.tc.devRef main_v32) = (concatenate S4096x128 1 [⟨S4096x32, (Host.negf (F := Ideal) (φ := .f32) (σ (Proc.tc.devRef main_v27) : FVec Ideal S4096x32 .f32) : FVec Ideal S4096x32 .f32)⟩, ⟨S4096x32, (σ (Proc.tc.devRef main_v27) : FVec Ideal S4096x32 .f32)⟩, ⟨S4096x32, (Host.negf (F := Ideal) (φ := .f32) (σ (Proc.tc.devRef main_v28) : FVec Ideal S4096x32 .f32) : FVec Ideal S4096x32 .f32)⟩, ⟨S4096x32, (σ (Proc.tc.devRef main_v28) : FVec Ideal S4096x32 .f32)⟩]
      concatenates_S4096x32_S4096x32_S4096x32_S4096x32_S4096x128_d1 : FVec Ideal S4096x128 .f32) := by
  rw [show StableHlo.after (hostOps0_4.drop 10) σ = StableHlo.after (hostOps0_4.drop 13) (StableHlo.after ((hostOps0_4.drop 10).take 3) σ) from rfl, h6_v32, h5_v30, h5_v31, h5_v27, h5_v28]

/-- The last stretch in its two parts. -/
theorem h4_eq (σ : Valuation τ sig (Elt Ideal)) :
    StableHlo.after hostOps0_4 σ = StableHlo.after (hostOps0_4.drop 10) (StableHlo.after (hostOps0_4.take 10) σ) := rfl

/-- The cosines' table after the last stretch: the cosines by row twice, then those by column twice. -/
theorem h4_v29 (σ : Valuation τ sig (Elt Ideal)) (h17 : σ (Proc.tc.devRef main_v17) = Cert.QkRefIdeal.Read.val_main_v39 (F := Ideal)) (h18 : σ (Proc.tc.devRef main_v18) = Cert.QkRefIdeal.Read.val_main_v58 (F := Ideal)) (h10 : σ (Proc.tc.devRef main_v10) = Cert.QkRefIdeal.Read.val_main_v31 (F := Ideal)) :
    StableHlo.after hostOps0_4 σ (Proc.tc.devRef main_v29) = (concatenate S4096x128 1 [⟨S4096x32, (Cert.QkRefIdeal.Read.val_main_v40 (F := Ideal) : FVec Ideal S4096x32 .f32)⟩, ⟨S4096x32, (Cert.QkRefIdeal.Read.val_main_v40 (F := Ideal) : FVec Ideal S4096x32 .f32)⟩, ⟨S4096x32, (Cert.QkRefIdeal.Read.val_main_v65 (F := Ideal) : FVec Ideal S4096x32 .f32)⟩, ⟨S4096x32, (Cert.QkRefIdeal.Read.val_main_v65 (F := Ideal) : FVec Ideal S4096x32 .f32)⟩]
      concatenates_S4096x32_S4096x32_S4096x32_S4096x32_S4096x128_d1 : FVec Ideal S4096x128 .f32) := by
  rw [h4_eq, h5_v29, h4_v25 σ h17, h4_v26 σ h18 h10]

/-- The signed sines' table after the last stretch: minus the sines by row, the sines by row, and the same by column. -/
theorem h4_v32 (σ : Valuation τ sig (Elt Ideal)) (h17 : σ (Proc.tc.devRef main_v17) = Cert.QkRefIdeal.Read.val_main_v39 (F := Ideal)) (h18 : σ (Proc.tc.devRef main_v18) = Cert.QkRefIdeal.Read.val_main_v58 (F := Ideal)) (h10 : σ (Proc.tc.devRef main_v10) = Cert.QkRefIdeal.Read.val_main_v31 (F := Ideal)) :
    StableHlo.after hostOps0_4 σ (Proc.tc.devRef main_v32) = (concatenate S4096x128 1 [⟨S4096x32, (Host.negf (F := Ideal) (φ := .f32) (Cert.QkRefIdeal.Read.val_main_v42 (F := Ideal) : FVec Ideal S4096x32 .f32) : FVec Ideal S4096x32 .f32)⟩, ⟨S4096x32, (Cert.QkRefIdeal.Read.val_main_v42 (F := Ideal) : FVec Ideal S4096x32 .f32)⟩, ⟨S4096x32, (Host.negf (F := Ideal) (φ := .f32) (Cert.QkRefIdeal.Read.val_main_v67 (F := Ideal) : FVec Ideal S4096x32 .f32) : FVec Ideal S4096x32 .f32)⟩, ⟨S4096x32, (Cert.QkRefIdeal.Read.val_main_v67 (F := Ideal) : FVec Ideal S4096x32 .f32)⟩]
      concatenates_S4096x32_S4096x32_S4096x32_S4096x32_S4096x128_d1 : FVec Ideal S4096x128 .f32) := by
  rw [h4_eq, h5_v32, h4_v27 σ h17, h4_v28 σ h18 h10]

/-- The buffers after the first four stretches. -/
def before (c : Dev nD) : Valuation τ sig (Elt Ideal) :=
  StableHlo.after hostOps0_3 (StableHlo.after hostOps0_2 (StableHlo.after hostOps0_1 (StableHlo.after hostOps0 (fun b => m (c, b)))))

/-- The angles by row, the columns and the frequencies after the first four stretches. -/
theorem before_eq (c : Dev nD) : before m c (Proc.tc.devRef main_v17) = Cert.QkRefIdeal.Read.val_main_v39 (F := Ideal) ∧ before m c (Proc.tc.devRef main_v18) = Cert.QkRefIdeal.Read.val_main_v58 (F := Ideal) ∧ before m c (Proc.tc.devRef main_v10) = Cert.QkRefIdeal.Read.val_main_v31 (F := Ideal) := by
  have e4 := h0_v4 (fun b => m (c, b))
  have e10 := h0_v10 (fun b => m (c, b))
  have ec := h0_c (fun b => m (c, b))
  unfold before
  refine ⟨(h3_v17 _).trans (h2_v17 _ (h1_v11 _ e4 ec) ((h1_v10 _).trans e10)), h3_v18 _ ((h2_v4 _).trans ((h1_v4 _).trans e4)) (h2_c4 _),
    (h3_v10 _).trans ((h2_v10 _).trans ((h1_v10 _).trans e10))⟩

/-- The cosines' table when the region starts. -/
theorem cos_eq (c : Dev nD) : V m c main_v29 = (concatenate S4096x128 1 [⟨S4096x32, (Cert.QkRefIdeal.Read.val_main_v40 (F := Ideal) : FVec Ideal S4096x32 .f32)⟩, ⟨S4096x32, (Cert.QkRefIdeal.Read.val_main_v40 (F := Ideal) : FVec Ideal S4096x32 .f32)⟩, ⟨S4096x32, (Cert.QkRefIdeal.Read.val_main_v65 (F := Ideal) : FVec Ideal S4096x32 .f32)⟩, ⟨S4096x32, (Cert.QkRefIdeal.Read.val_main_v65 (F := Ideal) : FVec Ideal S4096x32 .f32)⟩]
      concatenates_S4096x32_S4096x32_S4096x32_S4096x32_S4096x128_d1 : FVec Ideal S4096x128 .f32) :=
  (show V m c main_v29 = StableHlo.after hostOps0_4 (before m c) (Proc.tc.devRef main_v29) from rfl).trans
    (h4_v29 _ (before_eq m c).1 (before_eq m c).2.1 (before_eq m c).2.2)

/-- The signed sines' table when the region starts. -/
theorem sin_eq (c : Dev nD) : V m c main_v32 = (concatenate S4096x128 1 [⟨S4096x32, (Host.negf (F := Ideal) (φ := .f32) (Cert.QkRefIdeal.Read.val_main_v42 (F := Ideal) : FVec Ideal S4096x32 .f32) : FVec Ideal S4096x32 .f32)⟩, ⟨S4096x32, (Cert.QkRefIdeal.Read.val_main_v42 (F := Ideal) : FVec Ideal S4096x32 .f32)⟩, ⟨S4096x32, (Host.negf (F := Ideal) (φ := .f32) (Cert.QkRefIdeal.Read.val_main_v67 (F := Ideal) : FVec Ideal S4096x32 .f32) : FVec Ideal S4096x32 .f32)⟩, ⟨S4096x32, (Cert.QkRefIdeal.Read.val_main_v67 (F := Ideal) : FVec Ideal S4096x32 .f32)⟩]
      concatenates_S4096x32_S4096x32_S4096x32_S4096x32_S4096x128_d1 : FVec Ideal S4096x128 .f32) :=
  (show V m c main_v32 = StableHlo.after hostOps0_4 (before m c) (Proc.tc.devRef main_v32) from rfl).trans
    (h4_v32 _ (before_eq m c).1 (before_eq m c).2.1 (before_eq m c).2.2)

/-- The cosines' table at an entry. -/
theorem cos_apply (c : Dev nD) (s : Fin 4096) (d : Fin 128) : V m c main_v29 (ix2 s d) = cosT s d := by
  have hd := d.isLt
  rw [cos_eq]
  unfold cosT
  generalize Cert.QkRefIdeal.Read.val_main_v40 (F := Ideal) = u
  generalize Cert.QkRefIdeal.Read.val_main_v65 (F := Ideal) = v
  pointwise
  by_cases h1 : d.val < 32
  · rw [dif_pos h1]
    refine Eq.trans ?_ (if_pos (by omega : d.val < 64)).symm
    exact congrArg (fun k => u (ix2 s k)) (Fin.ext (by first | omega | (simp only; omega)))
  · by_cases h2 : d.val - 32 < 32
    · rw [dif_neg h1, dif_pos h2]
      refine Eq.trans ?_ (if_pos (by omega : d.val < 64)).symm
      exact congrArg (fun k => u (ix2 s k)) (Fin.ext (by first | omega | (simp only; omega)))
    · by_cases h3 : d.val - 32 - 32 < 32
      · rw [dif_neg h1, dif_neg h2, dif_pos h3]
        refine Eq.trans ?_ (if_neg (by omega : ¬ d.val < 64)).symm
        exact congrArg (fun k => v (ix2 s k)) (Fin.ext (by first | omega | (simp only; omega)))
      · rw [dif_neg h1, dif_neg h2, dif_neg h3]
        refine Eq.trans ?_ (if_neg (by omega : ¬ d.val < 64)).symm
        exact congrArg (fun k => v (ix2 s k)) (Fin.ext (by first | omega | (simp only; omega)))

/-- The signed sines' table at an entry. -/
theorem sin_apply (c : Dev nD) (s : Fin 4096) (d : Fin 128) : V m c main_v32 (ix2 s d) = sinT s d := by
  have hd := d.isLt
  rw [sin_eq]
  unfold sinT sinA
  generalize Cert.QkRefIdeal.Read.val_main_v42 (F := Ideal) = u
  generalize Cert.QkRefIdeal.Read.val_main_v67 (F := Ideal) = v
  pointwise
  by_cases h1 : d.val < 32
  · rw [dif_pos h1]
    refine Eq.trans ?_ (if_pos (by omega : d.val % 64 < 32)).symm
    refine Eq.trans ?_ (congrArg (fun z : EReal => -z) (if_pos (by omega : d.val < 64))).symm
    exact congrArg (fun k => -u (ix2 s k)) (Fin.ext (by first | omega | (simp only; omega)))
  · by_cases h2 : d.val - 32 < 32
    · rw [dif_neg h1, dif_pos h2]
      refine Eq.trans ?_ (if_neg (by omega : ¬ d.val % 64 < 32)).symm
      refine Eq.trans ?_ (if_pos (by omega : d.val < 64)).symm
      exact congrArg (fun k => u (ix2 s k)) (Fin.ext (by first | omega | (simp only; omega)))
    · by_cases h3 : d.val - 32 - 32 < 32
      · rw [dif_neg h1, dif_neg h2, dif_pos h3]
        refine Eq.trans ?_ (if_pos (by omega : d.val % 64 < 32)).symm
        refine Eq.trans ?_ (congrArg (fun z : EReal => -z) (if_neg (by omega : ¬ d.val < 64))).symm
        exact congrArg (fun k => -v (ix2 s k)) (Fin.ext (by first | omega | (simp only; omega)))
      · rw [dif_neg h1, dif_neg h2, dif_neg h3]
        refine Eq.trans ?_ (if_neg (by omega : ¬ d.val % 64 < 32)).symm
        refine Eq.trans ?_ (if_neg (by omega : ¬ d.val < 64)).symm
        exact congrArg (fun k => v (ix2 s k)) (Fin.ext (by first | omega | (simp only; omega)))

end Cert.QkIdeal.Tie
end
-- ==== Proof.QkTie.lean ====
module

public import proofs.«01_k».proof.Proof.QkTables

@[expose] public section

set_option maxRecDepth 16384

noncomputable section

namespace Cert.QkIdeal.Tie

open Cert.QkIdeal Cert.QkIdeal.Gen Idealize.ShloMosaic Idealize.ShloMosaic.TcCoe Idealize.SL.Sem

variable (m : (ℓ : Loc nD τ sig) → Buf (Elt Ideal) ℓ)

/-- The block of each window at a grid point. -/
theorem idx (t : Fin cfg0.N) : win0_0.index t = ![t.val / 5, 0] ∧ win0_1.index t = ![0, t.val % 5] ∧ win0_2.index t = ![t.val % 5, 0, 0]
    ∧ win0_3.index t = ![t.val / 5 % 2, 0] ∧ win0_4.index t = ![t.val / 5 % 2, 0] ∧ win0_5.index t = ![t.val / 5, t.val % 5] :=
  (by decide +kernel : ∀ t : Fin grid0.N, win0_0.index t = ![t.val / 5, 0] ∧ win0_1.index t = ![0, t.val % 5] ∧ win0_2.index t = ![t.val % 5, 0, 0]
    ∧ win0_3.index t = ![t.val / 5 % 2, 0] ∧ win0_4.index t = ![t.val / 5 % 2, 0] ∧ win0_5.index t = ![t.val / 5, t.val % 5]) t

/-- A row of the left operand's block. -/
theorem iblk0_apply (c : Dev nD) (t : Fin cfg0.N) (i : Fin 2048) (e : Fin 4096) (b : Fin 4) (s : Fin 4096) (h : 4096 * b.val + s.val = 2048 * (t.val / 5) + i.val) :
    iblk m c 0 t (ix2 i e) = m ((c : Thread nD τ).loc main_arg0) (ix3 b s e) := by
  have := s.isLt
  have h' := (idx t).1
  have hx : iblk m c 0 t (ix2 i e) = V m c main_v40 (ix2 ⟨4096 * b.val + s.val, by have := b.isLt; omega⟩ e) := by
    blk_ext [iblk, h']
  refine hx.trans ?_
  simp only [V, List.flatten_cons, List.flatten_nil, List.append_nil, List.cons_append, List.nil_append, hostOps0, hostOps0_1, hostOps0_2, hostOps0_3, hostOps0_4]
  entry_read
  pointwise
  blk_ext

/-- A column of the weight's block. -/
theorem iblk1_apply (c : Dev nD) (t : Fin cfg0.N) (e : Fin 4096) (j : Fin 512) (k : Fin 17408) (h : k.val = 512 * (t.val % 5) + j.val) :
    iblk m c 1 t (ix2 e j) = m ((c : Thread nD τ).loc main_arg1) (ix3 0 e k) := by
  have h' := (idx t).2.1
  have hx : iblk m c 1 t (ix2 e j) = V m c main_v42 (ix2 e k) := by
    blk_ext [iblk, h']
  refine hx.trans ?_
  simp only [V, List.flatten_cons, List.flatten_nil, List.append_nil, List.cons_append, List.nil_append, hostOps0, hostOps0_1, hostOps0_2, hostOps0_3, hostOps0_4]
  entry_read
  pointwise

/-- The gains' table at a tile of columns: the first four tiles are queries, whose gain carries the scale. -/
theorem gains_apply (c : Dev nD) (j : Fin 5) (e : Fin 128) : V m c main_v43 (ix3 j 0 e)
    = if j.val < 4 then HMul.hMul (α := EReal) (m ((c : Thread nD τ).loc main_arg2) (ix2 0 e)) scale else m ((c : Thread nD τ).loc main_arg3) (ix2 0 e) := by
  have hj := j.isLt
  have hs : scale = Ideal.div (Ideal.ofBits .f32 0x3F800000#32) (HMul.hMul (α := EReal) (Ideal.log (Ideal.ofBits .f32 0x40000000#32)) (Ideal.sqrt (Ideal.ofBits .f32 0x43000000#32))) := rfl
  simp only [V, List.flatten_cons, List.flatten_nil, List.append_nil, List.cons_append, List.nil_append, hostOps0, hostOps0_1, hostOps0_2, hostOps0_3, hostOps0_4]
  entry_read
  pointwise
  rw [hs, show Ideal.ofBits .f32 0x3F800000#32 = 1 from Cert.Proof.Sigmoid.one_bits]
  by_cases h : j.val < 4
  · rw [dif_pos h, if_pos h]
  · rw [dif_neg h, if_neg h]

/-- The gain's block. -/
theorem iblk2_apply (c : Dev nD) (t : Fin cfg0.N) (e : Fin 128) (j : Fin 5) (h : j.val = t.val % 5) : iblk m c 2 t (ix3 0 0 e)
    = if j.val < 4 then HMul.hMul (α := EReal) (m ((c : Thread nD τ).loc main_arg2) (ix2 0 e)) scale else m ((c : Thread nD τ).loc main_arg3) (ix2 0 e) := by
  have h' := (idx t).2.2.1
  have hx : iblk m c 2 t (ix3 0 0 e) = V m c main_v43 (ix3 j 0 e) := by
    blk_ext [iblk, h']
  exact hx.trans (gains_apply m c j e)

/-- The cosines' block. -/
theorem iblk3_apply (c : Dev nD) (t : Fin cfg0.N) (i : Fin 2048) (d d' : Fin 128) (s : Fin 4096) (h : s.val = 2048 * (t.val / 5 % 2) + i.val) (hd : d = d') :
    iblk m c 3 t (ix2 i d) = cosT s d' := by
  have h' := (idx t).2.2.2.1
  rw [hd]
  have hx : iblk m c 3 t (ix2 i d') = V m c main_v29 (ix2 s d') := by
    blk_ext [iblk, h']
  exact hx.trans (cos_apply m c s d')

/-- The signed sines' block. -/
theorem iblk4_apply (c : Dev nD) (t : Fin cfg0.N) (i : Fin 2048) (d d' : Fin 128) (s : Fin 4096) (h : s.val = 2048 * (t.val / 5 % 2) + i.val) (hd : d = d') :
    iblk m c 4 t (ix2 i d) = sinT s d' := by
  have h' := (idx t).2.2.2.2.1
  rw [hd]
  have hx : iblk m c 4 t (ix2 i d') = V m c main_v32 (ix2 s d') := by
    blk_ext [iblk, h']
  exact hx.trans (sin_apply m c s d')

/-- The call's result, entry by entry. -/
theorem final (c : Dev nD) : (dats (F := Ideal) m 0 c).arrAt 5 cfg0.N
    = fun i : S16384x2560.Idx => entry (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 5 _ (by decide +kernel) fun t hf y => ?_
  blk_simp
  rw [after0_5]
  have i5 := (idx t).2.2.2.2.2
  have ht : t.val < 40 := Nat.lt_of_lt_of_eq t.isLt N_0
  have y0 : (y 0).val < 2048 := (y 0).isLt
  have y1 : (y 1).val < 512 := (y 1).isLt
  have hr : ((((View.whole main_v44).slice (win0_5.rect t)).emb y 0 : Fin 16384)).val = 2048 * (t.val / 5) + (y 0).val := by
    blk_simp [i5]; omega
  have hc : ((((View.whole main_v44).slice (win0_5.rect t)).emb y 1 : Fin 2560)).val = 512 * (t.val % 5) + (y 1).val := by
    blk_simp [i5]; omega
  generalize (((View.whole main_v44).slice (win0_5.rect t)).emb y 0 : Fin 16384) = r at hr ⊢
  generalize (((View.whole main_v44).slice (win0_5.rect t)).emb y 1 : Fin 2560) = k at hc ⊢
  rw [show y = ix2 (y 0) (y 1) from eq_ix2 y]
  refine (out_apply _ _ _ _ _ (y 0) (y 1)).trans ?_
  have hw (e : Fin 128) := iblk2_apply m c t e ⟨t.val % 5, by omega⟩ rfl
  have hd : (⟨(y 1).val % 128, by omega⟩ : Fin 128) = ⟨k.val % 128, by omega⟩ := Fin.ext (show (y 1).val % 128 = k.val % 128 by omega)
  unfold blk entry rot
  by_cases q : k.val / 128 < 16
  · rw [if_pos q, ← roped_scale]
    refine roped_congr (fun e => Finset.sum_congr rfl fun a _ => congrArg₂ (fun x y : EReal => x * y) (iblk0_apply m c t _ _ _ _ ?_) (iblk1_apply m c t _ _ _ ?_)) (fun e => ?_)
      (iblk3_apply m c t _ _ _ _ ?_ hd) (iblk4_apply m c t _ _ _ _ ?_ hd) hd
    · dsimp only
      omega
    · dsimp only
      omega
    · refine (hw e).trans ?_
      unfold gain
      rw [if_pos (show t.val % 5 < 4 by omega), if_pos q]
    · dsimp only
      omega
    · dsimp only
      omega
  · rw [if_neg q]
    refine Eq.trans ?_ (mul_one (M := EReal) _).symm
    refine roped_congr (fun e => Finset.sum_congr rfl fun a _ => congrArg₂ (fun x y : EReal => x * y) (iblk0_apply m c t _ _ _ _ ?_) (iblk1_apply m c t _ _ _ ?_)) (fun e => ?_)
      (iblk3_apply m c t _ _ _ _ ?_ hd) (iblk4_apply m c t _ _ _ _ ?_ hd) hd
    · dsimp only
      omega
    · dsimp only
      omega
    · refine (hw e).trans ?_
      unfold gain
      rw [if_neg (show ¬ t.val % 5 < 4 by omega), if_neg q]
    · dsimp only
      omega
    · dsimp only
      omega

end Cert.QkIdeal.Tie
end
-- ==== Proof.QkClaims.lean ====
module

public import proofs.«01_k».proof.Defs
public import proofs.«01_k».proof.Proof.QkTie
public import proofs.«01_k».proof.Proof.Gen.Qk
public import proofs.«01_k».proof.Proof.Gen.QkIdeal.Value
public import proofs.«01_k».proof.Proof.Gen.QkRefIdeal.Run
public import proofs.«01_k».proof.Proof.Gen.QkRefIdeal.Read

@[expose] public section

set_option maxRecDepth 16384

noncomputable section

namespace Cert.Proof.Qk

open Idealize.ShloMosaic Idealize.ShloMosaic.TcCoe Idealize.SL.Sem

/-- The idealized reference runs, leaves its arguments as they were and ends with every semaphore at zero. -/
theorem frame_reference : Cert.quiescent_QkRefIdeal (hQkRefIdeal := Cert.QkRefIdeal.Gen.facts) := fun m g _ =>
  (θ_run (Cert.QkRefIdeal.defs (F := Ideal)) _ _).mono (fun r h => ⟨fun c => (h c).2, sem_eq_zero_of_no_sems (by decide) r.2⟩) (Cert.QkRefIdeal.Value.run m g)

/-- From equal arguments the idealized kernel and the idealized reference end with equal results. -/
theorem algebraic : Cert.algebraic_QkIdeal_QkRefIdeal (hQkIdeal := Cert.QkIdeal.Gen.facts) (hQkRefIdeal := Cert.QkRefIdeal.Gen.facts) := by
  intro m g m' g' _ ha
  refine ⟨_, Cert.QkIdeal.Value.run_blocks m g, (θ_run (Cert.QkRefIdeal.defs (F := Ideal)) _ _).mono (fun r h c => ?_) (Cert.QkRefIdeal.Value.run m' g')⟩
  obtain ⟨a0, a1, a2, a3⟩ := ha c
  obtain ⟨r0, hargs⟩ := h c
  refine ⟨r0.trans ?_, hargs⟩
  rw [Cert.QkRefIdeal.Read.val_main_v93_eq, Cert.QkIdeal.Tie.final m c]
  funext i
  obtain ⟨r, k, rfl⟩ : ∃ (r : Fin _) (k : Fin _), i = ix2 r k := ⟨i 0, i 1, eq_ix2 i⟩
  refine (Cert.QkIdeal.Tie.ref_apply _ _ _ _ r k).trans ?_
  rw [a0, a1, a2, a3]
  rfl

end Cert.Proof.Qk
end
-- ==== Proof.CtxTie.lean ====
module

public import proofs.«01_k».proof.Proof.Gen.CtxIdeal.Value
public import proofs.«01_k».proof.Proof.Gen.CtxRefIdeal.Run
public import proofs.«01_k».proof.Proof.Gen.CtxRefIdeal.Read
public import Idealize.ShloMosaic.Lib.Pipeline.ValueKit

@[expose] public section

set_option maxRecDepth 16384

noncomputable section

namespace Cert.CtxIdeal.Tie

open Cert.CtxIdeal Cert.CtxIdeal.Gen Idealize.ShloMosaic Idealize.ShloMosaic.TcCoe Idealize.SL.Sem

variable (m : (ℓ : Loc nD τ sig) → Buf (Elt Ideal) ℓ)

/-- The column of the weight that a column of the result takes: the first 512 columns from 2560 on, the others from 5120 on. -/
def col (k : Fin 4608) : Fin 17408 := ⟨if k.val < 512 then 2560 + k.val else 4608 + k.val, by have := k.isLt; split <;> omega⟩

/-- Entry `(r, k)` of the result, from the reference's arguments: a row times a column of the weight. -/
def entry (x0 : FVec Ideal S4x256x4096 .f32) (x1 : FVec Ideal S1x4096x17408 .f32) (r : Fin 1024) (k : Fin 4608) : EReal :=
  ∑ e : Fin 4096, HMul.hMul (α := EReal) (x0 (ix3 ⟨r.val / 256, by have := r.isLt; omega⟩ ⟨r.val % 256, by omega⟩ e)) (x1 (ix3 0 e (col k)))

/-- A chunk of the body's block at an entry. -/
theorem pay_apply (w : Vec Ideal S4096x512 .bf16) (a : Vec Ideal S512x4096 .bf16) (i j : Fin 512) :
    k0_pay2 (F := Ideal) w a (ix2 i j) = ∑ e : Fin 4096, HMul.hMul (α := EReal) (a (ix2 i e)) (w (ix2 e j)) := by
  unfold k0_pay2 k0_pay1
  pointwise

/-- A row times a column, where the row is the chunk's. -/
theorem chunk_apply (x : Vec Ideal S1024x4096 .bf16) (w : Vec Ideal S4096x512 .bf16) (v : Vec Ideal S512x4096 .bf16)
    (u : Vec Ideal S4096x512 .bf16) (i j j' : Fin 512) (r : Fin 1024) (hj : j' = j) (hv : ∀ e : Fin 4096, v (ix2 i e) = x (ix2 r e))
    (hu : ∀ e : Fin 4096, u (ix2 e j) = w (ix2 e j)) :
    k0_pay2 (F := Ideal) u v (ix2 i j') = ∑ e : Fin 4096, HMul.hMul (α := EReal) (x (ix2 r e)) (w (ix2 e j)) := by
  rw [hj]
  refine (pay_apply u v i j).trans (Finset.sum_congr rfl fun e _ => ?_)
  rw [hv, hu]

/-- The body's block at an entry. -/
theorem out_apply (x0 : Vec Ideal S1024x4096 .bf16) (x1 : Vec Ideal S4096x512 .bf16) (r : Fin 1024) (j : Fin 512) :
    out0_2 (F := Ideal) x0 x1 (ix2 r j) = ∑ e : Fin 4096, HMul.hMul (α := EReal) (x0 (ix2 r e)) (x1 (ix2 e j)) := by
  canon_tiles x h
  · have hr : r.val = 512 + (x 0).val := h0
    have hj : x 1 = j := Fin.ext h1.symm
    rw [show x = ix2 (x 0) (x 1) from eq_ix2 x]
    refine chunk_apply x0 x1 (View.ld x0 r0_3) (View.ld x1 r0_0) (x 0) j (x 1) r hj (fun e => ?_) (fun e => ?_)
    · pointwise
      blk_ext
    · pointwise
  · have hr : r.val = (x 0).val := h0
    have hj : x 1 = j := Fin.ext h1.symm
    rw [show x = ix2 (x 0) (x 1) from eq_ix2 x]
    refine chunk_apply x0 x1 (View.ld x0 r0_1) (View.ld x1 r0_0) (x 0) j (x 1) r hj (fun e => ?_) (fun e => ?_)
    · pointwise
      blk_ext
    · pointwise

/-- The tile of columns of the weight at a grid point. -/
def tile (t : ℕ) : ℕ := if t = 0 then 5 else 9 + t

/-- The block of each window at a grid point. -/
theorem idx (t : Fin cfg0.N) : win0_0.index t = ![0, 0] ∧ win0_1.index t = ![0, tile t.val] ∧ win0_2.index t = ![0, t.val] :=
  (by decide +kernel : ∀ t : Fin grid0.N, win0_0.index t = ![0, 0] ∧ win0_1.index t = ![0, tile t.val] ∧ win0_2.index t = ![0, t.val]) t

/-- A row of the left operand's block. -/
theorem iblk0_apply (c : Dev nD) (t : Fin cfg0.N) (i : Fin 1024) (e : Fin 4096) (b : Fin 4) (s : Fin 256) (h : 256 * b.val + s.val = i.val) :
    iblk m c 0 t (ix2 i e) = m ((c : Thread nD τ).loc main_arg0) (ix3 b s e) := by
  have := s.isLt
  have h' := (idx t).1
  have hx : iblk m c 0 t (ix2 i e) = V m c main_v1 (ix2 ⟨256 * b.val + s.val, by have := b.isLt; omega⟩ e) := by
    blk_ext [iblk, h']
  refine hx.trans ?_
  entry_read
  pointwise
  blk_ext

/-- A column of the weight's block. -/
theorem iblk1_apply (c : Dev nD) (t : Fin cfg0.N) (e : Fin 4096) (j : Fin 512) (k : Fin 17408) (h : k.val = 512 * tile t.val + j.val) :
    iblk m c 1 t (ix2 e j) = m ((c : Thread nD τ).loc main_arg1) (ix3 0 e k) := by
  have h' := (idx t).2.1
  have hx : iblk m c 1 t (ix2 e j) = V m c main_v3 (ix2 e k) := by
    blk_ext [iblk, h']
  refine hx.trans ?_
  entry_read
  pointwise

/-- The call's result, entry by entry. -/
theorem final (c : Dev nD) : (dats (F := Ideal) m 0 c).arrAt 2 cfg0.N
    = fun i : S1024x4608.Idx => entry (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have i2 := (idx t).2.2
  have ht : t.val < 9 := Nat.lt_of_lt_of_eq t.isLt N_0
  have y0 : (y 0).val < 1024 := (y 0).isLt
  have y1 : (y 1).val < 512 := (y 1).isLt
  have hr : ((((View.whole main_v4).slice (win0_2.rect t)).emb y 0 : Fin 1024)).val = (y 0).val := by
    blk_simp [i2]
  have hc : ((((View.whole main_v4).slice (win0_2.rect t)).emb y 1 : Fin 4608)).val = 512 * t.val + (y 1).val := by
    blk_simp [i2]; omega
  generalize (((View.whole main_v4).slice (win0_2.rect t)).emb y 0 : Fin 1024) = r at hr ⊢
  generalize (((View.whole main_v4).slice (win0_2.rect t)).emb y 1 : Fin 4608) = k at hc ⊢
  rw [show y = ix2 (y 0) (y 1) from eq_ix2 y]
  refine (out_apply _ _ (y 0) (y 1)).trans ?_
  unfold entry
  refine Finset.sum_congr rfl fun e _ => congrArg₂ (fun x y : EReal => x * y) (iblk0_apply m c t _ _ _ _ ?_) (iblk1_apply m c t _ _ _ ?_)
  · dsimp only
    omega
  · unfold col tile
    dsimp only
    by_cases h : t.val = 0
    · rw [if_pos h, if_pos (by omega)]
      omega
    · rw [if_neg h, if_neg (by omega)]
      omega

/-- The reference's product at an entry. -/
theorem ref1_apply (x0 : FVec Ideal S4x256x4096 .f32) (x1 : FVec Ideal S1x4096x17408 .f32) (b : Fin 4) (s : Fin 256) (k : Fin 17408) :
    Cert.CtxRefIdeal.Read.val_main_v1 (F := Ideal) x0 x1 (ix3 b s k) = ∑ e : Fin 4096, HMul.hMul (α := EReal) (x0 (ix3 b s e)) (x1 (ix3 0 e k)) := by
  have hk := k.isLt
  rw [Cert.CtxRefIdeal.Read.val_main_v1_apply]
  refine Finset.sum_congr rfl fun e _ => congrArg₂ (fun x y : EReal => x * y) ?_ ?_
  · blk_ext
  · rw [Cert.CtxRefIdeal.Read.val_main_v0_apply]
    have he := e.isLt
    blk_ext

/-- The reference's two groups of columns side by side, at an entry. -/
theorem cat_apply (x0 : FVec Ideal S4x256x4096 .f32) (x1 : FVec Ideal S1x4096x17408 .f32) (b : Fin 4) (s : Fin 256) (k : Fin 4608) :
    Cert.CtxRefIdeal.Read.val_main_v4 (F := Ideal) x0 x1 (ix3 b s k) = Cert.CtxRefIdeal.Read.val_main_v1 (F := Ideal) x0 x1 (ix3 b s (col k)) := by
  have hk := k.isLt
  have h2 : ∀ j : Fin 512, Cert.CtxRefIdeal.Read.val_main_v2 (F := Ideal) x0 x1 (ix3 b s j) = Cert.CtxRefIdeal.Read.val_main_v1 (F := Ideal) x0 x1 (ix3 b s ⟨2560 + j.val, by omega⟩) := by
    intro j
    rw [Cert.CtxRefIdeal.Read.val_main_v2_apply]
    blk_ext
  have h3 : ∀ j : Fin 4096, Cert.CtxRefIdeal.Read.val_main_v3 (F := Ideal) x0 x1 (ix3 b s j) = Cert.CtxRefIdeal.Read.val_main_v1 (F := Ideal) x0 x1 (ix3 b s ⟨5120 + j.val, by omega⟩) := by
    intro j
    rw [Cert.CtxRefIdeal.Read.val_main_v3_apply]
    blk_ext
  unfold Cert.CtxRefIdeal.Read.val_main_v4
  generalize Cert.CtxRefIdeal.Read.val_main_v2 (F := Ideal) x0 x1 = u2 at h2 ⊢
  generalize Cert.CtxRefIdeal.Read.val_main_v3 (F := Ideal) x0 x1 = u3 at h3 ⊢
  generalize Cert.CtxRefIdeal.Read.val_main_v1 (F := Ideal) x0 x1 = u at h2 h3 ⊢
  pointwise
  unfold col
  by_cases c1 : k.val < 512
  · rw [dif_pos c1]
    exact (h2 ⟨k.val, c1⟩).trans (congrArg (fun i => u (ix3 b s i))
      (Fin.ext (show 2560 + k.val = if k.val < 512 then 2560 + k.val else 4608 + k.val by rw [if_pos c1])))
  · rw [dif_neg c1]
    exact (h3 ⟨k.val - 512, by omega⟩).trans (congrArg (fun i => u (ix3 b s i))
      (Fin.ext (show 5120 + (k.val - 512) = if k.val < 512 then 2560 + k.val else 4608 + k.val by rw [if_neg c1]; omega)))

/-- The reference at an entry. -/
theorem ref_apply (x0 : FVec Ideal S4x256x4096 .f32) (x1 : FVec Ideal S1x4096x17408 .f32)
    (r : Fin 1024) (k : Fin 4608) : Cert.CtxRefIdeal.Read.val_main_v6 (F := Ideal) x0 x1 (ix2 r k) = entry x0 x1 r k := by
  have hr := r.isLt
  have hk := k.isLt
  rw [Cert.CtxRefIdeal.Read.val_main_v6_apply, Cert.CtxRefIdeal.Read.val_main_v5_apply]
  have e : Cert.CtxRefIdeal.Read.idx_main_v5 (ix2 r k) = ix3 ⟨r.val / 256, by omega⟩ ⟨r.val % 256, by omega⟩ k := by
    funext a
    apply Fin.ext
    fin_cases a
    · show (r.val * 4608 + k.val) / 1179648 = r.val / 256
      omega
    · show (r.val * 4608 + k.val) / 4608 % 256 = r.val % 256
      omega
    · show (r.val * 4608 + k.val) % 4608 = k.val
      omega
  rw [e]
  exact (cat_apply x0 x1 _ _ k).trans (ref1_apply x0 x1 _ _ _)

end Cert.CtxIdeal.Tie
end
-- ==== Proof.CtxClaims.lean ====
module

public import proofs.«01_k».proof.Defs
public import proofs.«01_k».proof.Proof.CtxTie
public import proofs.«01_k».proof.Proof.Gen.Ctx
public import proofs.«01_k».proof.Proof.Gen.CtxIdeal.Value
public import proofs.«01_k».proof.Proof.Gen.CtxRefIdeal.Run
public import proofs.«01_k».proof.Proof.Gen.CtxRefIdeal.Read

@[expose] public section

set_option maxRecDepth 16384

noncomputable section

namespace Cert.Proof.Ctx

open Idealize.ShloMosaic Idealize.ShloMosaic.TcCoe Idealize.SL.Sem

/-- The idealized reference runs, leaves its arguments as they were and ends with every semaphore at zero. -/
theorem frame_reference : Cert.quiescent_CtxRefIdeal (hCtxRefIdeal := Cert.CtxRefIdeal.Gen.facts) := fun m g _ =>
  (θ_run (Cert.CtxRefIdeal.defs (F := Ideal)) _ _).mono (fun r h => ⟨fun c => (h c).2, sem_eq_zero_of_no_sems (by decide) r.2⟩) (Cert.CtxRefIdeal.Value.run m g)

/-- From equal arguments the idealized kernel and the idealized reference end with equal results. -/
theorem algebraic : Cert.algebraic_CtxIdeal_CtxRefIdeal (hCtxIdeal := Cert.CtxIdeal.Gen.facts) (hCtxRefIdeal := Cert.CtxRefIdeal.Gen.facts) := by
  intro m g m' g' _ ha
  refine ⟨_, Cert.CtxIdeal.Value.run_blocks m g, (θ_run (Cert.CtxRefIdeal.defs (F := Ideal)) _ _).mono (fun r h c => ?_) (Cert.CtxRefIdeal.Value.run m' g')⟩
  obtain ⟨a0, a1⟩ := ha c
  obtain ⟨r0, hargs⟩ := h c
  refine ⟨r0.trans ?_, hargs⟩
  rw [Cert.CtxRefIdeal.Read.val_main_v6_eq, Cert.CtxIdeal.Tie.final m c]
  funext i
  obtain ⟨r, k, rfl⟩ : ∃ (r : Fin _) (k : Fin _), i = ix2 r k := ⟨i 0, i 1, eq_ix2 i⟩
  refine (Cert.CtxIdeal.Tie.ref_apply _ _ r k).trans ?_
  rw [a0, a1]
  rfl

end Cert.Proof.Ctx
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pv
public import proofs.«01_k».proof.Proof.Gen.Pv.Skeleton
public import proofs.«01_k».proof.Proof.Gen.Pv.Launch
public import proofs.«01_k».proof.Proof.Gen.Pv.Points
public import proofs.«01_k».proof.Proof.Gen.Pv.Frame
public import proofs.«01_k».proof.Proof.Gen.PvIdeal
public import proofs.«01_k».proof.Proof.Gen.PvIdeal.Skeleton
public import proofs.«01_k».proof.Proof.Gen.PvIdeal.Launch
public import proofs.«01_k».proof.Proof.Gen.PvIdeal.Points
public import proofs.«01_k».proof.Proof.Gen.PvIdeal.Frame
public import proofs.«01_k».proof.Proof.Gen.PvRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Pre_finite_scores
public import proofs.«01_k».proof.Proof.Gen.PvIdeal.Value
public import proofs.«01_k».proof.Proof.Gen.PvRefIdeal.Run
public import proofs.«01_k».proof.Proof.Gen.PvRefIdeal.Read
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import proofs.«01_k».proof.Proof.PvClaims
public import proofs.«01_k».proof.Proof.GatesClaims
public import proofs.«01_k».proof.Proof.MergeClaims
public import proofs.«01_k».proof.Proof.OutClaims
public import proofs.«01_k».proof.Proof.UpClaims
public import proofs.«01_k».proof.Proof.DownClaims
public import proofs.«01_k».proof.Proof.NormClaims
public import proofs.«01_k».proof.Proof.ModClaims
public import proofs.«01_k».proof.Proof.QkClaims
public import proofs.«01_k».proof.Proof.CtxClaims
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.Qk
public import proofs.«01_k».proof.Proof.Gen.Qk.Skeleton
public import proofs.«01_k».proof.Proof.Gen.Qk.Launch
public import proofs.«01_k».proof.Proof.Gen.Qk.Points
public import proofs.«01_k».proof.Proof.Gen.Qk.Frame
public import proofs.«01_k».proof.Proof.Gen.QkIdeal
public import proofs.«01_k».proof.Proof.Gen.QkIdeal.Skeleton
public import proofs.«01_k».proof.Proof.Gen.QkIdeal.Launch
public import proofs.«01_k».proof.Proof.Gen.QkIdeal.Points
public import proofs.«01_k».proof.Proof.Gen.QkIdeal.Frame
public import proofs.«01_k».proof.Proof.Gen.QkIdeal.Value
public import proofs.«01_k».proof.Proof.Gen.QkRefIdeal
public import proofs.«01_k».proof.Proof.Gen.QkRefIdeal.Run
public import proofs.«01_k».proof.Proof.Gen.QkRefIdeal.Read
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import Idealize.ShloMosaic.Adequacy
public import Idealize.ShloMosaic.Init

@[expose] public section

noncomputable section

namespace Cert.Proof

open Idealize.ShloMosaic Idealize.SL.Sem Cert.Kernel

/-- Every claim that is stated about the programs holds. -/
theorem claim : Cert.Claim := ⟨Cert.Kernel.Gen.facts, Cert.KernelIdeal.Gen.facts, Cert.ReferenceIdeal.Gen.facts, Cert.Pv.Gen.facts, Cert.PvIdeal.Gen.facts, Cert.PvRefIdeal.Gen.facts, Cert.Gates.Gen.facts, Cert.GatesIdeal.Gen.facts, Cert.GatesRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Up.Gen.facts, Cert.UpIdeal.Gen.facts, Cert.UpRefIdeal.Gen.facts, Cert.Down.Gen.facts, Cert.DownIdeal.Gen.facts, Cert.DownRefIdeal.Gen.facts, Cert.Norm.Gen.facts, Cert.NormIdeal.Gen.facts, Cert.NormRefIdeal.Gen.facts, Cert.Mod.Gen.facts, Cert.ModIdeal.Gen.facts, Cert.ModRefIdeal.Gen.facts, Cert.Qk.Gen.facts, Cert.QkIdeal.Gen.facts, Cert.QkRefIdeal.Gen.facts, Cert.Ctx.Gen.facts, Cert.CtxIdeal.Gen.facts, Cert.CtxRefIdeal.Gen.facts, Cert.Pre_finite_scores.Gen.facts,
  fun m g _ => Cert.Kernel.Gen.frame m g, fun m g _ => Cert.KernelIdeal.Gen.frame m g, fun m g _ => Cert.KernelIdeal.Gen.frame m g,
  Attn.frame_reference, fun m g _ => Attn.frame_reference m g trivial,
  fun m g _ => Cert.Pv.Gen.frame m g, fun m g _ => Cert.PvIdeal.Gen.frame m g, Pv.frame_reference,
  fun m g _ => Cert.Gates.Gen.frame m g, fun m g _ => Cert.GatesIdeal.Gen.frame m g, Gates.frame_reference,
  fun m g _ => Cert.Merge.Gen.frame m g, fun m g _ => Cert.MergeIdeal.Gen.frame m g, Merge.frame_reference,
  fun m g _ => Cert.Out.Gen.frame m g, fun m g _ => Cert.OutIdeal.Gen.frame m g, Out.frame_reference,
  fun m g _ => Cert.Up.Gen.frame m g, fun m g _ => Cert.UpIdeal.Gen.frame m g, Up.frame_reference,
  fun m g _ => Cert.Down.Gen.frame m g, fun m g _ => Cert.DownIdeal.Gen.frame m g, Down.frame_reference,
  fun m g _ => Cert.Norm.Gen.frame m g, fun m g _ => Cert.NormIdeal.Gen.frame m g, Norm.frame_reference,
  fun m g _ => Cert.Mod.Gen.frame m g, fun m g _ => Cert.ModIdeal.Gen.frame m g, Mod.frame_reference,
  fun m g _ => Cert.Qk.Gen.frame m g, fun m g _ => Cert.QkIdeal.Gen.frame m g, Qk.frame_reference,
  fun m g _ => Cert.Ctx.Gen.frame m g, fun m g _ => Cert.CtxIdeal.Gen.frame m g, Ctx.frame_reference,
  trivial, Attn.algebraic,
  trivial, Pv.algebraic,
  trivial, Gates.algebraic,
  trivial, Merge.algebraic,
  trivial, Out.algebraic,
  trivial, Up.algebraic,
  trivial, Down.algebraic,
  trivial, Norm.algebraic,
  trivial, Mod.algebraic,
  trivial, Qk.algebraic,
  trivial, Ctx.algebraic⟩

end Cert.Proof

end
